-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  IdealRules.named_const.Statement Cert.KernelIdeal.κ "exp2_scale" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)) (v2 : (c : Dev Cert.KernelIdeal.nD) → Buf (Elt Ideal) ((c.tc : Thread Cert.KernelIdeal.nD Cert.KernelIdeal.τ).loc Cert.KernelIdeal.main_v69_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_v69_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v79) = v0 c
          ∧ r.2.mem ((c.tc : Thread Cert.Reference8Ideal.nD Cert.Reference8Ideal.τ).loc Cert.Reference8Ideal.main_v62) = v1 c
          ∧ r.2.mem ((c.tc : Thread Cert.Reference8Ideal.nD Cert.Reference8Ideal.τ).loc Cert.Reference8Ideal.main_v78) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x8x96 : Shape := ⟨3, ![4096, 8, 96]⟩
abbrev S4352x8x96 : Shape := ⟨3, ![4352, 8, 96]⟩
abbrev S4352x8x64 : Shape := ⟨3, ![4352, 8, 64]⟩
abbrev S4096x2x8 : Shape := ⟨3, ![4096, 2, 8]⟩
abbrev S4096x1024 : Shape := ⟨2, ![4096, 1024]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4352x8x96 : S_.BroadcastsInDim S4352x8x96 (![] : Fin 0 → Fin S4352x8x96.rank)
  reducesTo_S4352x8x96_S_d0_1_2 : S4352x8x96.ReducesTo [0, 1, 2] S_
  bcast_S_S4352x8x64 : S_.BroadcastsInDim S4352x8x64 (![] : Fin 0 → Fin S4352x8x64.rank)
  reducesTo_S4352x8x64_S_d0_1_2 : S4352x8x64.ReducesTo [0, 1, 2] S_
  bcast_S_S4096x2x8 : S_.BroadcastsInDim S4096x2x8 (![] : Fin 0 → Fin S4096x2x8.rank)
  reducesTo_S4096x2x8_S_d0_1_2 : S4096x2x8.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x2x8 .f32) (main_arg5 : FVec F S4096x1024 .f32) (main_v14 : IVec S_ 1) (main_v15 : FVec F S4096x2x8 .f32) (main_cst_5 : FVec F S_ .f32) : IVec S_ 1 :=
  let main_v16 : FVec F S4096x2x8 .f32 := broadcastInDim S4096x2x8 ![] bcast_S_S4096x2x8 main_cst_5
  let main_v17 : IVec S4096x2x8 1 := cmpf .olt main_v15 main_v16
  let main_c_6 : IVec S_ 1 := constantI S_ 1 1#1
  let main_v18 : IVec S_ 1 := (fun x v => Host.reduce IntOp.andi x v reducesTo_S4096x2x8_S_d0_1_2 h_S_) main_v17 main_c_6
  let main_v19 : IVec S_ 1 := andi main_v14 main_v18
  let main_v20 : FVec F S4096x2x8 .f32 := Host.absf main_arg4
  let main_cst_7 : FVec F S_ .f32 := constant S_ .f32 0x7F800000#32
  let main_v21 : FVec F S4096x2x8 .f32 := broadcastInDim S4096x2x8 ![] bcast_S_S4096x2x8 main_cst_7
  let main_v22 : IVec S4096x2x8 1 := cmpf .olt main_v20 main_v21
  let main_c_8 : IVec S_ 1 := constantI S_ 1 1#1
  let main_v23 : IVec S_ 1 := (fun x v => Host.reduce IntOp.andi x v reducesTo_S4096x2x8_S_d0_1_2 h_S_) main_v22 main_c_8
  let main_v24 : IVec S_ 1 := andi main_v19 main_v23
  let main_v25 : FVec F S4096x1024 .f32 := Host.absf main_arg5
  let main_cst_9 : FVec F S_ .f32 := constant S_ .f32 0x7F800000#32
  let main_v26 : FVec F S4096x1024 .f32 := broadcastInDim S4096x1024 ![] bcast_S_S4096x1024 main_cst_9
  let main_v27 : IVec S4096x1024 1 := cmpf .olt main_v25 main_v26
  let main_c_10 : IVec S_ 1 := constantI S_ 1 1#1
  let main_v28 : IVec S_ 1 := (fun x v => Host.reduce IntOp.andi x v reducesTo_S4096x1024_S_d0_1 h_S_) main_v27 main_c_10
  let main_v29 : IVec S_ 1 := andi main_v24 main_v28
  main_v29

def fn {F : FTy → Type} [FloatOps F] (main_arg0 : FVec F S4096x8x96 .f32) (main_arg1 : FVec F S4352x8x96 .f32) (main_arg2 : FVec F S4352x8x64 .f32) (main_arg3 : FVec F S4096x2x8 .f32) (main_arg4 : FVec F S4096x2x8 .f32) (main_arg5 : FVec F S4096x1024 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_c_0 : IVec S_ 1 := constantI S_ 1 1#1
  let main_v4 : IVec S_ 1 := andi main_c_0 main_v3
  let main_v5 : FVec F S4352x8x96 .f32 := Host.absf main_arg1
  let main_cst_1 : FVec F S_ .f32 := constant S_ .f32 0x7F800000#32
  let main_v6 : FVec F S4352x8x96 .f32 := broadcastInDim S4352x8x96 ![] bcast_S_S4352x8x96 main_cst_1
  let main_v7 : IVec S4352x8x96 1 := cmpf .olt main_v5 main_v6
  let main_c_2 : IVec S_ 1 := constantI S_ 1 1#1
  let main_v8 : IVec S_ 1 := (fun x v => Host.reduce IntOp.andi x v reducesTo_S4352x8x96_S_d0_1_2 h_S_) main_v7 main_c_2
  let main_v9 : IVec S_ 1 := andi main_v4 main_v8
  let main_v10 : FVec F S4352x8x64 .f32 := Host.absf main_arg2
  let main_cst_3 : FVec F S_ .f32 := constant S_ .f32 0x7F800000#32
  let main_v11 : FVec F S4352x8x64 .f32 := broadcastInDim S4352x8x64 ![] bcast_S_S4352x8x64 main_cst_3
  let main_v12 : IVec S4352x8x64 1 := cmpf .olt main_v10 main_v11
  let main_c_4 : IVec S_ 1 := constantI S_ 1 1#1
  let main_v13 : IVec S_ 1 := (fun x v => Host.reduce IntOp.andi x v reducesTo_S4352x8x64_S_d0_1_2 h_S_) main_v12 main_c_4
  let main_v14 : IVec S_ 1 := andi main_v9 main_v13
  let main_v15 : FVec F S4096x2x8 .f32 := Host.absf main_arg3
  let main_cst_5 : FVec F S_ .f32 := constant S_ .f32 0x7F800000#32
  fn_part1 (F := F) main_arg4 main_arg5 main_v14 main_v15 main_cst_5
-- ==== Kernel.lean ====
abbrev S4096x8x96 : Shape := ⟨3, ![4096, 8, 96]⟩
abbrev S4352x8x96 : Shape := ⟨3, ![4352, 8, 96]⟩
abbrev S4352x8x64 : Shape := ⟨3, ![4352, 8, 64]⟩
abbrev S4096x2x8 : Shape := ⟨3, ![4096, 2, 8]⟩
abbrev S4096x1024 : Shape := ⟨2, ![4096, 1024]⟩
abbrev S4096x8x64 : Shape := ⟨3, ![4096, 8, 64]⟩
abbrev S4096x8x32 : Shape := ⟨3, ![4096, 8, 32]⟩
abbrev S4096x1x2x8 : Shape := ⟨4, ![4096, 1, 2, 8]⟩
abbrev S4096x8x2x2x8 : Shape := ⟨5, ![4096, 8, 2, 2, 8]⟩
abbrev S4096x8x2x1x8 : Shape := ⟨5, ![4096, 8, 2, 1, 8]⟩
abbrev S4096x8x2x8 : Shape := ⟨4, ![4096, 8, 2, 8]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S4096x8x128 : Shape := ⟨3, ![4096, 8, 128]⟩
abbrev S4352x8x128 : Shape := ⟨3, ![4352, 8, 128]⟩
abbrev S4352x1024 : Shape := ⟨2, ![4352, 1024]⟩
abbrev S4352x512 : Shape := ⟨2, ![4352, 512]⟩
abbrev S4352x1536 : Shape := ⟨2, ![4352, 1536]⟩
abbrev S4x2x4096 : Shape := ⟨3, ![4, 2, 4096]⟩
abbrev S4x8x4096 : Shape := ⟨3, ![4, 8, 4096]⟩
abbrev S32x4096 : Shape := ⟨2, ![32, 4096]⟩
abbrev S4096x2x1x8 : Shape := ⟨4, ![4096, 2, 1, 8]⟩
abbrev S4096x2x2x8 : Shape := ⟨4, ![4096, 2, 2, 8]⟩
abbrev S4096x32 : Shape := ⟨2, ![4096, 32]⟩
abbrev S4096x64 : Shape := ⟨2, ![4096, 64]⟩
abbrev S4096x128 : Shape := ⟨2, ![4096, 128]⟩
abbrev S512x256 : Shape := ⟨2, ![512, 256]⟩
abbrev S4352x256 : Shape := ⟨2, ![4352, 256]⟩
abbrev S4352x128 : Shape := ⟨2, ![4352, 128]⟩
abbrev S512x128 : Shape := ⟨2, ![512, 128]⟩
abbrev S8x512 : Shape := ⟨2, ![8, 512]⟩
abbrev S8x128 : Shape := ⟨2, ![8, 128]⟩
abbrev S1x512 : Shape := ⟨2, ![1, 512]⟩

abbrev nBuf : Space → Nat
  | .hbm => 92
  | .vmem => 24
  | .smem => 0
  | _ => 0

abbrev bufTy : (tb : Table) → Fin (tcTables nBuf tb) → BufTy
  | .hbm, ⟨0, _⟩ => ⟨S4096x8x96, .f32⟩
  | .hbm, ⟨1, _⟩ => ⟨S4352x8x96, .f32⟩
  | .hbm, ⟨2, _⟩ => ⟨S4352x8x64, .f32⟩
  | .hbm, ⟨3, _⟩ => ⟨S4096x2x8, .f32⟩
  | .hbm, ⟨4, _⟩ => ⟨S4096x2x8, .f32⟩
  | .hbm, ⟨5, _⟩ => ⟨S4096x1024, .f32⟩
  | .hbm, ⟨6, _⟩ => ⟨S4096x8x64, .f32⟩
  | .hbm, ⟨7, _⟩ => ⟨S4096x8x32, .f32⟩
  | .hbm, ⟨8, _⟩ => ⟨S4096x1x2x8, .f32⟩
  | .hbm, ⟨9, _⟩ => ⟨S4096x1x2x8, .f32⟩
  | .hbm, ⟨10, _⟩ => ⟨S4096x8x2x2x8, .f32⟩
  | .hbm, ⟨11, _⟩ => ⟨S4096x8x2x1x8, .f32⟩
  | .hbm, ⟨12, _⟩ => ⟨S4096x8x2x8, .f32⟩
  | .hbm, ⟨13, _⟩ => ⟨S4096x8x2x1x8, .f32⟩
  | .hbm, ⟨14, _⟩ => ⟨S4096x8x2x8, .f32⟩
  | .hbm, ⟨15, _⟩ => ⟨S4096x8x2x8, .f32⟩
  | .hbm, ⟨16, _⟩ => ⟨S4096x8x2x8, .f32⟩
  | .hbm, ⟨17, _⟩ => ⟨S4096x8x2x8, .f32⟩
  | .hbm, ⟨18, _⟩ => ⟨S4096x8x2x8, .f32⟩
  | .hbm, ⟨19, _⟩ => ⟨S4096x8x2x8, .f32⟩
  | .hbm, ⟨20, _⟩ => ⟨S4096x8x2x8, .f32⟩
  | .hbm, ⟨21, _⟩ => ⟨S4096x8x2x8, .f32⟩
  | .hbm, ⟨22, _⟩ => ⟨S4096x8x2x8, .f32⟩
  | .hbm, ⟨23, _⟩ => ⟨S4096x8x2x8, .f32⟩
  | .hbm, ⟨24, _⟩ => ⟨S4096x8x2x8, .f32⟩
  | .hbm, ⟨25, _⟩ => ⟨S4096x8x2x1x8, .f32⟩
  | .hbm, ⟨26, _⟩ => ⟨S4096x8x2x1x8, .f32⟩
  | .hbm, ⟨27, _⟩ => ⟨S4096x8x2x2x8, .f32⟩
  | .hbm, ⟨28, _⟩ => ⟨S4096x8x32, .f32⟩
  | .hbm, ⟨29, _⟩ => ⟨S4096x8x96, .f32⟩
  | .hbm, ⟨30, _⟩ => ⟨S8x4096x4352, .f32⟩
  | .hbm, ⟨31, _⟩ => ⟨S_, .f32⟩
  | .hbm, ⟨32, _⟩ => ⟨S8x4096x4352, .f32⟩
  | .hbm, ⟨33, _⟩ => ⟨S8x4096x4352, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4352, .f32⟩
  | .hbm, ⟨38, _⟩ => ⟨S8x4096x4352, .f32⟩
  | .hbm, ⟨39, _⟩ => ⟨S8x4096x4352, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4352, .f32⟩
  | .hbm, ⟨44, _⟩ => ⟨S8x4096x4352, .f32⟩
  | .hbm, ⟨45, _⟩ => ⟨S8x64x4096, .f32⟩
  | .hbm, ⟨46, _⟩ => ⟨S4096x8x64, .f32⟩
  | .hbm, ⟨47, _⟩ => ⟨S4096x512, .f32⟩
  | .hbm, ⟨48, _⟩ => ⟨S8x4096x1, .f32⟩
  | .hbm, ⟨49, _⟩ => ⟨S8x4096x1, .f32⟩
  | .hbm, ⟨50, _⟩ => ⟨S8x4096, .f32⟩
  | .hbm, ⟨51, _⟩ => ⟨S_, .i32⟩
  | .hbm, ⟨52, _⟩ => ⟨S_, .f32⟩
  | .hbm, ⟨53, _⟩ => ⟨S4096x8x128, .f32⟩
  | .hbm, ⟨54, _⟩ => ⟨S4096x1024, .f32⟩
  | .hbm, ⟨55, _⟩ => ⟨S4096x1024, .bf16⟩
  | .hbm, ⟨56, _⟩ => ⟨S_, .i32⟩
  | .hbm, ⟨57, _⟩ => ⟨S_, .f32⟩
  | .hbm, ⟨58, _⟩ => ⟨S4352x8x128, .f32⟩
  | .hbm, ⟨59, _⟩ => ⟨S4352x1024, .f32⟩
  | .hbm, ⟨60, _⟩ => ⟨S4352x512, .f32⟩
  | .hbm, ⟨61, _⟩ => ⟨S4352x1536, .f32⟩
  | .hbm, ⟨62, _⟩ => ⟨S4352x1536, .bf16⟩
  | .hbm, ⟨63, _⟩ => ⟨S_, .f32⟩
  | .hbm, ⟨64, _⟩ => ⟨S_, .f32⟩
  | .hbm, ⟨65, _⟩ => ⟨S8x4096, .f32⟩
  | .hbm, ⟨66, _⟩ => ⟨S8x4096, .f32⟩
  | .hbm, ⟨67, _⟩ => ⟨S4x2x4096, .f32⟩
  | .hbm, ⟨68, _⟩ => ⟨S_, .i32⟩
  | .hbm, ⟨69, _⟩ => ⟨S_, .f32⟩
  | .hbm, ⟨70, _⟩ => ⟨S4x8x4096, .f32⟩
  | .hbm, ⟨71, _⟩ => ⟨S32x4096, .f32⟩
  | .hbm, ⟨72, _⟩ => ⟨S4096x2x1x8, .f32⟩
  | .hbm, ⟨73, _⟩ => ⟨S4096x2x1x8, .f32⟩
  | .hbm, ⟨74, _⟩ => ⟨S4096x2x2x8, .f32⟩
  | .hbm, ⟨75, _⟩ => ⟨S4096x32, .f32⟩
  | .hbm, ⟨76, _⟩ => ⟨S4096x2x8, .f32⟩
  | .hbm, ⟨77, _⟩ => ⟨S4096x2x1x8, .f32⟩
  | .hbm, ⟨78, _⟩ => ⟨S4096x2x1x8, .f32⟩
  | .hbm, ⟨79, _⟩ => ⟨S4096x2x2x8, .f32⟩
  | .hbm, ⟨80, _⟩ => ⟨S4096x32, .f32⟩
  | .hbm, ⟨81, _⟩ => ⟨S_, .f32⟩
  | .hbm, ⟨82, _⟩ => ⟨S4096x64, .f32⟩
  | .hbm, ⟨83, _⟩ => ⟨S_, .f32⟩
  | .hbm, ⟨84, _⟩ => ⟨S4096x32, .f32⟩
  | .hbm, ⟨85, _⟩ => ⟨S4096x128, .f32⟩
  | .hbm, ⟨86, _⟩ => ⟨S_, .i32⟩
  | .hbm, ⟨87, _⟩ => ⟨S_, .f32⟩
  | .hbm, ⟨88, _⟩ => ⟨S4096x128, .f32⟩
  | .hbm, ⟨89, _⟩ => ⟨S4096x1024, .bf16⟩
  | .hbm, ⟨90, _⟩ => ⟨S4352x1024, .bf16⟩
  | .hbm, ⟨91, _⟩ => ⟨S4352x512, .bf16⟩
  | .local _ .vmem, ⟨0, _⟩ => ⟨S512x256, .bf16⟩
  | .local _ .vmem, ⟨1, _⟩ => ⟨S512x256, .bf16⟩
  | .local _ .vmem, ⟨2, _⟩ => ⟨S4352x256, .bf16⟩
  | .local _ .vmem, ⟨3, _⟩ => ⟨S4352x256, .bf16⟩
  | .local _ .vmem, ⟨4, _⟩ => ⟨S4352x128, .bf16⟩
  | .local _ .vmem, ⟨5, _⟩ => ⟨S4352x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S8x512, .f32⟩
  | .local _ .vmem, ⟨11, _⟩ => ⟨S8x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x256, .bf16⟩
  | .local _ .vmem, ⟨17, _⟩ => ⟨S512x256, .bf16⟩
  | .local _ .vmem, ⟨18, _⟩ => ⟨S4352x256, .bf16⟩
  | .local _ .vmem, ⟨19, _⟩ => ⟨S4352x256, .bf16⟩
  | .local _ .vmem, ⟨20, _⟩ => ⟨S4352x128, .bf16⟩
  | .local _ .vmem, ⟨21, _⟩ => ⟨S4352x128, .bf16⟩
  | .local _ .vmem, ⟨22, _⟩ => ⟨S4352x256, .f32⟩
  | .local _ .vmem, ⟨23, _⟩ => ⟨S4352x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c : Ref sig .tc := ⟨.hbm, 51, rfl⟩
abbrev main_call0_v0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_2 : Ref sig .tc := ⟨.hbm, 56, rfl⟩
abbrev main_call1_v0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_4 : Ref sig .tc := ⟨.hbm, 68, rfl⟩
abbrev main_call2_v0 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_5 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_c_7 : Ref sig .tc := ⟨.hbm, 86, rfl⟩
abbrev main_call3_v0 : Ref sig .tc := ⟨.hbm, 87, rfl⟩
abbrev main_v68 : Ref sig .tc := ⟨.hbm, 88, rfl⟩
abbrev main_v69_0 : Ref sig .tc := ⟨.hbm, 89, rfl⟩
abbrev main_v69_1 : Ref sig .tc := ⟨.hbm, 90, rfl⟩
abbrev main_v69_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v138 : BitVec 1 := Scalar.cmpi .eq arg1 c7_i32
  let v139 : BitVec 32 := Scalar.extui v138
  let c0_i32_71 : BitVec 32 := 0#32
  let v140 : BitVec 1 := Scalar.cmpi .ne v139 c0_i32_71
  v140

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4352x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4352x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "exp2_scale" => some (((3424635 / 33554432) * (Real.log 2)⁻¹ : ℝ) : EReal)
  | _ => none
-- ==== ReferenceIdeal.lean ====
abbrev S4096x8x96 : Shape := ⟨3, ![4096, 8, 96]⟩
abbrev S4352x8x96 : Shape := ⟨3, ![4352, 8, 96]⟩
abbrev S4352x8x64 : Shape := ⟨3, ![4352, 8, 64]⟩
abbrev S4096x2x8 : Shape := ⟨3, ![4096, 2, 8]⟩
abbrev S4096x1024 : Shape := ⟨2, ![4096, 1024]⟩
abbrev S4096x8x64 : Shape := ⟨3, ![4096, 8, 64]⟩
abbrev S4096x8x32 : Shape := ⟨3, ![4096, 8, 32]⟩
abbrev S4096x8x2x2x8 : Shape := ⟨5, ![4096, 8, 2, 2, 8]⟩
abbrev S4096x8x2x1x8 : Shape := ⟨5, ![4096, 8, 2, 1, 8]⟩
abbrev S4096x8x2x8 : Shape := ⟨4, ![4096, 8, 2, 8]⟩
abbrev S4096x1x2x8 : Shape := ⟨4, ![4096, 1, 2, 8]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S8x64x4352 : Shape := ⟨3, ![8, 64, 4352]⟩
abbrev S8x4352x96 : Shape := ⟨3, ![8, 4352, 96]⟩
abbrev S8x4096x96 : Shape := ⟨3, ![8, 4096, 96]⟩
abbrev S4096x8x128 : Shape := ⟨3, ![4096, 8, 128]⟩
abbrev S4352x8x128 : Shape := ⟨3, ![4352, 8, 128]⟩
abbrev S4352x1024 : Shape := ⟨2, ![4352, 1024]⟩
abbrev S4352x512 : Shape := ⟨2, ![4352, 512]⟩

abbrev nBuf : Space → Nat
  | .hbm => 145
  | .vmem => 0
  | .smem => 0
  | _ => 0

abbrev hbmTy0_0 (i : Nat) : BufTy := match i % 128 with
  | 0 => ⟨S4096x8x96, .f32⟩
  | 1 => ⟨S4352x8x96, .f32⟩
  | 2 => ⟨S4352x8x64, .f32⟩
  | 3 => ⟨S4096x2x8, .f32⟩
  | 4 => ⟨S4096x2x8, .f32⟩
  | 5 => ⟨S4096x1024, .f32⟩
  | 6 => ⟨S4096x8x64, .f32⟩
  | 7 => ⟨S4096x8x32, .f32⟩
  | 8 => ⟨S4096x8x2x2x8, .f32⟩
  | 9 => ⟨S4096x8x2x1x8, .f32⟩
  | 10 => ⟨S4096x8x2x8, .f32⟩
  | 11 => ⟨S4096x8x2x1x8, .f32⟩
  | 12 => ⟨S4096x8x2x8, .f32⟩
  | 13 => ⟨S4096x1x2x8, .f32⟩
  | 14 => ⟨S4096x1x2x8, .f32⟩
  | 15 => ⟨S4096x8x2x8, .f32⟩
  | 16 => ⟨S4096x8x2x8, .f32⟩
  | 17 => ⟨S4096x8x2x8, .f32⟩
  | 18 => ⟨S4096x8x2x8, .f32⟩
  | 19 => ⟨S4096x8x2x8, .f32⟩
  | 20 => ⟨S4096x8x2x8, .f32⟩
  | 21 => ⟨S4096x8x2x8, .f32⟩
  | 22 => ⟨S4096x8x2x8, .f32⟩
  | 23 => ⟨S4096x8x2x8, .f32⟩
  | 24 => ⟨S4096x8x2x8, .f32⟩
  | 25 => ⟨S4096x8x2x1x8, .f32⟩
  | 26 => ⟨S4096x8x2x1x8, .f32⟩
  | 27 => ⟨S4096x8x2x2x8, .f32⟩
  | 28 => ⟨S4096x8x32, .f32⟩
  | 29 => ⟨S4096x8x96, .f32⟩
  | 30 => ⟨S8x4096x4352, .f32⟩
  | 31 => ⟨S_, .f32⟩
  | 32 => ⟨S8x4096x4352, .f32⟩
  | 33 => ⟨S8x4096x4352, .f32⟩
  | 34 => ⟨S_, .f32⟩
  | 35 => ⟨S8x4096, .f32⟩
  | 36 => ⟨S8x4096x1, .f32⟩
  | 37 => ⟨S8x4096x4352, .f32⟩
  | 38 => ⟨S8x4096x4352, .i1⟩
  | 39 => ⟨S8x4096x4352, .f32⟩
  | 40 => ⟨S_, .f32⟩
  | 41 => ⟨S8x4096, .f32⟩
  | 42 => ⟨S_, .f32⟩
  | 43 => ⟨S8x4096, .f32⟩
  | 44 => ⟨S8x4096, .f32⟩
  | 45 => ⟨S_, .f32⟩
  | 46 => ⟨S8x4096, .f32⟩
  | 47 => ⟨S8x4096, .i1⟩
  | 48 => ⟨S_, .f32⟩
  | 49 => ⟨S8x4096, .f32⟩
  | 50 => ⟨S8x4096, .i1⟩
  | 51 => ⟨S_, .f32⟩
  | 52 => ⟨S8x4096, .f32⟩
  | 53 => ⟨S_, .f32⟩
  | 54 => ⟨S8x4096, .f32⟩
  | 55 => ⟨S_, .f32⟩
  | 56 => ⟨S8x4096, .f32⟩
  | 57 => ⟨S8x4096, .f32⟩
  | 58 => ⟨S8x4096, .f32⟩
  | 59 => ⟨S8x4096x1, .f32⟩
  | 60 => ⟨S8x4096x4352, .f32⟩
  | 61 => ⟨S8x4096x4352, .f32⟩
  | 62 => ⟨S8x4096x4352, .f32⟩
  | 63 => ⟨S_, .f32⟩
  | 64 => ⟨S8x4096, .f32⟩
  | 65 => ⟨S8x4096x1, .f32⟩
  | 66 => ⟨S8x4096x4352, .f32⟩
  | 67 => ⟨S8x4096x4352, .f32⟩
  | 68 => ⟨S8x4096x1, .f32⟩
  | 69 => ⟨S_, .f32⟩
  | 70 => ⟨S8x4096x1, .f32⟩
  | 71 => ⟨S8x4096x1, .f32⟩
  | 72 => ⟨S8x64x4096, .f32⟩
  | 73 => ⟨S4096x8x64, .f32⟩
  | 74 => ⟨S4096x512, .f32⟩
  | 75 => ⟨S4096x512, .f32⟩
  | 76 => ⟨S4096x8x64, .f32⟩
  | 77 => ⟨S8x64x4096, .f32⟩
  | 78 => ⟨S8x4096x4352, .f32⟩
  | 79 => ⟨S8x64x4352, .f32⟩
  | 80 => ⟨S4352x8x64, .f32⟩
  | 81 => ⟨S8x4096x4352, .f32⟩
  | 82 => ⟨S8x4096x4352, .f32⟩
  | 83 => ⟨S8x4096x4352, .f32⟩
  | 84 => ⟨S_, .f32⟩
  | 85 => ⟨S8x4096, .f32⟩
  | 86 => ⟨S8x4096x1, .f32⟩
  | 87 => ⟨S8x4096x1, .f32⟩
  | 88 => ⟨S8x4096x4352, .f32⟩
  | 89 => ⟨S8x4096x4352, .f32⟩
  | 90 => ⟨S_, .f32⟩
  | 91 => ⟨S8x4096, .f32⟩
  | 92 => ⟨S8x4096x4352, .f32⟩
  | 93 => ⟨S8x4096x4352, .f32⟩
  | 94 => ⟨S8x4096x4352, .f32⟩
  | 95 => ⟨S_, .f32⟩
  | 96 => ⟨S8x4096x4352, .f32⟩
  | 97 => ⟨S8x4096x4352, .f32⟩
  | 98 => ⟨S8x4352x96, .f32⟩
  | 99 => ⟨S4352x8x96, .f32⟩
  | 100 => ⟨S8x4096x96, .f32⟩
  | 101 => ⟨S4096x8x96, .f32⟩
  | 102 => ⟨S4096x8x64, .f32⟩
  | 103 => ⟨S4096x8x32, .f32⟩
  | 104 => ⟨S4096x8x2x2x8, .f32⟩
  | 105 => ⟨S4096x8x2x1x8, .f32⟩
  | 106 => ⟨S4096x8x2x8, .f32⟩
  | 107 => ⟨S4096x8x2x1x8, .f32⟩
  | 108 => ⟨S4096x8x2x8, .f32⟩
  | 109 => ⟨S4096x8x2x8, .f32⟩
  | 110 => ⟨S4096x8x2x8, .f32⟩
  | 111 => ⟨S4096x8x2x8, .f32⟩
  | 112 => ⟨S4096x8x2x8, .f32⟩
  | 113 => ⟨S4096x8x2x8, .f32⟩
  | 114 => ⟨S4096x8x2x8, .f32⟩
  | 115 => ⟨S4096x8x2x8, .f32⟩
  | 116 => ⟨S4096x8x2x8, .f32⟩
  | 117 => ⟨S4096x8x2x8, .f32⟩
  | 118 => ⟨S4096x8x2x8, .f32⟩
  | 119 => ⟨S4096x8x2x8, .f32⟩
  | 120 => ⟨S4096x8x2x1x8, .f32⟩
  | 121 => ⟨S_, .f32⟩
  | 122 => ⟨S4096x8x2x2x8, .f32⟩
  | 123 => ⟨S4096x8x2x1x8, .f32⟩
  | 124 => ⟨S_, .f32⟩
  | 125 => ⟨S4096x8x2x2x8, .f32⟩
  | 126 => ⟨S4096x8x2x2x8, .f32⟩
  | 127 => ⟨S4096x8x32, .f32⟩
  | _ => ⟨S4096x8x96, .f32⟩

abbrev hbmTy0_1 (i : Nat) : BufTy := match i % 128 with
  | 0 => ⟨S_, .f32⟩
  | 1 => ⟨S4096x8x96, .f32⟩
  | 2 => ⟨S_, .f32⟩
  | 3 => ⟨S4096x8x96, .f32⟩
  | 4 => ⟨S4096x8x96, .f32⟩
  | 5 => ⟨S_, .i32⟩
  | 6 => ⟨S_, .f32⟩
  | 7 => ⟨S4096x8x128, .f32⟩
  | 8 => ⟨S4096x1024, .f32⟩
  | 9 => ⟨S4096x1024, .bf16⟩
  | 10 => ⟨S_, .i32⟩
  | 11 => ⟨S_, .f32⟩
  | 12 => ⟨S4352x8x128, .f32⟩
  | 13 => ⟨S4352x1024, .f32⟩
  | 14 => ⟨S4352x1024, .bf16⟩
  | 15 => ⟨S4352x512, .f32⟩
  | 16 => ⟨S4352x512, .bf16⟩
  | _ => ⟨S4096x8x96, .f32⟩

abbrev hbmTy (i : Nat) : BufTy := match i / 128 with
  | 0 => hbmTy0_0 i
  | 1 => hbmTy0_1 i
  | _ => ⟨S4096x8x96, .f32⟩

abbrev bufTy : (tb : Table) → Fin (tcTables nBuf tb) → BufTy
  | .hbm, ⟨i, _⟩ => hbmTy i
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_13 : Ref sig .tc := ⟨.hbm, 121, rfl⟩
abbrev main_v101 : Ref sig .tc := ⟨.hbm, 122, rfl⟩
abbrev main_v102 : Ref sig .tc := ⟨.hbm, 123, rfl⟩
abbrev main_cst_14 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_15 : Ref sig .tc := ⟨.hbm, 128, rfl⟩
abbrev main_v106 : Ref sig .tc := ⟨.hbm, 129, rfl⟩
abbrev main_cst_16 : Ref sig .tc := ⟨.hbm, 130, rfl⟩
abbrev main_v107 : Ref sig .tc := ⟨.hbm, 131, rfl⟩
abbrev main_v108 : Ref sig .tc := ⟨.hbm, 132, rfl⟩
abbrev main_c : Ref sig .tc := ⟨.hbm, 133, rfl⟩
abbrev main_call0_v0 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_c_17 : Ref sig .tc := ⟨.hbm, 138, rfl⟩
abbrev main_call1_v0 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 12
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4096x1024, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel4.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S8x1024x512 : Shape := ⟨3, ![8, 1024, 512]⟩
abbrev S4096x512 : Shape := ⟨2, ![4096, 512]⟩
abbrev S1x1024x512 : Shape := ⟨3, ![1, 1024, 512]⟩
abbrev S512x512 : Shape := ⟨2, ![512, 512]⟩
abbrev S1x512x512 : Shape := ⟨3, ![1, 512, 512]⟩

abbrev nBuf : Space → Nat
  | .hbm => 26
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x1024, .bf16⟩
  | .hbm, ⟨25, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .f32⟩
  | .hbm, ⟨24, _⟩ => ⟨S1024x4096, .f32⟩
  | .hbm, ⟨25, _⟩ => ⟨S1024x8x512, .f32⟩
  | .hbm, ⟨26, _⟩ => ⟨S8x1024x512, .f32⟩
  | .hbm, ⟨27, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel5.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1x1024x512 : Shape := ⟨3, ![1, 1024, 512]⟩
abbrev S4096x512 : Shape := ⟨2, ![4096, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S4096x4096, .bf16⟩
  | .hbm, ⟨7, _⟩ => ⟨S4096x4096, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S4352x1024 : Shape := ⟨2, ![4352, 1024]⟩
abbrev S1024x1952 : Shape := ⟨2, ![1024, 1952]⟩
abbrev S1024x1536 : Shape := ⟨2, ![1024, 1536]⟩
abbrev S1536x1024 : Shape := ⟨2, ![1536, 1024]⟩
abbrev S3x4x128x1024 : Shape := ⟨4, ![3, 4, 128, 1024]⟩
abbrev S4x3x128x1024 : Shape := ⟨4, ![4, 3, 128, 1024]⟩
abbrev S4096x1536 : Shape := ⟨2, ![4096, 1536]⟩
abbrev S1024x1024 : Shape := ⟨2, ![1024, 1024]⟩
abbrev S512x1024 : Shape := ⟨2, ![512, 1024]⟩
abbrev S512x1536 : Shape := ⟨2, ![512, 1536]⟩

abbrev nBuf : Space → Nat
  | .hbm => 10
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x1952, .f32⟩
  | .hbm, ⟨2, _⟩ => ⟨S1024x1536, .f32⟩
  | .hbm, ⟨3, _⟩ => ⟨S1536x1024, .f32⟩
  | .hbm, ⟨4, _⟩ => ⟨S3x4x128x1024, .f32⟩
  | .hbm, ⟨5, _⟩ => ⟨S4x3x128x1024, .f32⟩
  | .hbm, ⟨6, _⟩ => ⟨S1536x1024, .f32⟩
  | .hbm, ⟨7, _⟩ => ⟨S4352x1024, .bf16⟩
  | .hbm, ⟨8, _⟩ => ⟨S1536x1024, .bf16⟩
  | .hbm, ⟨9, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x1024 : Shape := ⟨2, ![4352, 1024]⟩
abbrev S1024x1952 : Shape := ⟨2, ![1024, 1952]⟩
abbrev S4096x1024 : Shape := ⟨2, ![4096, 1024]⟩
abbrev S1024x1536 : Shape := ⟨2, ![1024, 1536]⟩
abbrev S4096x1536 : Shape := ⟨2, ![4096, 1536]⟩
abbrev S4096x3x4x128 : Shape := ⟨4, ![4096, 3, 4, 128]⟩
abbrev S4096x4x3x128 : Shape := ⟨4, ![4096, 4, 3, 128]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1952, .f32⟩
  | .hbm, ⟨2, _⟩ => ⟨S4096x1024, .f32⟩
  | .hbm, ⟨3, _⟩ => ⟨S1024x1536, .f32⟩
  | .hbm, ⟨4, _⟩ => ⟨S4096x1536, .f32⟩
  | .hbm, ⟨5, _⟩ => ⟨S4096x3x4x128, .f32⟩
  | .hbm, ⟨6, _⟩ => ⟨S4096x4x3x128, .f32⟩
  | .hbm, ⟨7, _⟩ => ⟨S4096x1536, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference7Ideal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1536 : Shape := ⟨2, ![4096, 1536]⟩
abbrev S3x512 : Shape := ⟨2, ![3, 512]⟩
abbrev S4096x1024 : Shape := ⟨2, ![4096, 1024]⟩
abbrev S4352x1024 : Shape := ⟨2, ![4352, 1024]⟩
abbrev S4096x3x4x128 : Shape := ⟨4, ![4096, 3, 4, 128]⟩
abbrev S4096x4x3x128 : Shape := ⟨4, ![4096, 4, 3, 128]⟩
abbrev S1536x1024 : Shape := ⟨2, ![1536, 1024]⟩
abbrev S4096x384 : Shape := ⟨2, ![4096, 384]⟩
abbrev S3x128 : Shape := ⟨2, ![3, 128]⟩
abbrev S4096x128 : Shape := ⟨2, ![4096, 128]⟩
abbrev S384x1024 : Shape := ⟨2, ![384, 1024]⟩
abbrev S1x128 : Shape := ⟨2, ![1, 128]⟩
abbrev S128 : Shape := ⟨1, ![128]⟩

abbrev nBuf : Space → Nat
  | .hbm => 11
  | .vmem => 13
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S4096x1024, .f32⟩
  | .hbm, ⟨3, _⟩ => ⟨S4352x1024, .f32⟩
  | .hbm, ⟨4, _⟩ => ⟨S4096x3x4x128, .f32⟩
  | .hbm, ⟨5, _⟩ => ⟨S4096x4x3x128, .f32⟩
  | .hbm, ⟨6, _⟩ => ⟨S4096x1536, .f32⟩
  | .hbm, ⟨7, _⟩ => ⟨S4352x1024, .bf16⟩
  | .hbm, ⟨8, _⟩ => ⟨S4096x1536, .bf16⟩
  | .hbm, ⟨9, _⟩ => ⟨S3x512, .f32⟩
  | .hbm, ⟨10, _⟩ => ⟨S1536x1024, .f32⟩
  | .local _ .vmem, ⟨0, _⟩ => ⟨S4096x384, .f32⟩
  | .local _ .vmem, ⟨1, _⟩ => ⟨S4096x384, .f32⟩
  | .local _ .vmem, ⟨2, _⟩ => ⟨S3x128, .f32⟩
  | .local _ .vmem, ⟨3, _⟩ => ⟨S3x128, .f32⟩
  | .local _ .vmem, ⟨4, _⟩ => ⟨S4096x128, .f32⟩
  | .local _ .vmem, ⟨5, _⟩ => ⟨S4096x128, .f32⟩
  | .local _ .vmem, ⟨6, _⟩ => ⟨S4096x1024, .bf16⟩
  | .local _ .vmem, ⟨7, _⟩ => ⟨S4096x384, .bf16⟩
  | .local _ .vmem, ⟨8, _⟩ => ⟨S4096x384, .bf16⟩
  | .local _ .vmem, ⟨9, _⟩ => ⟨S3x128, .f32⟩
  | .local _ .vmem, ⟨10, _⟩ => ⟨S3x128, .f32⟩
  | .local _ .vmem, ⟨11, _⟩ => ⟨S384x1024, .f32⟩
  | .local _ .vmem, ⟨12, _⟩ => ⟨S384x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4096x1536 : Shape := ⟨2, ![4096, 1536]⟩
abbrev S3x512 : Shape := ⟨2, ![3, 512]⟩
abbrev S4096x1024 : Shape := ⟨2, ![4096, 1024]⟩
abbrev S4352x1024 : Shape := ⟨2, ![4352, 1024]⟩
abbrev S4096x512 : Shape := ⟨2, ![4096, 512]⟩
abbrev S_ : Shape := ⟨0, ![]⟩
abbrev S1x512 : Shape := ⟨2, ![1, 512]⟩
abbrev S4098x512 : Shape := ⟨2, ![4098, 512]⟩
abbrev S512 : Shape := ⟨1, ![512]⟩
abbrev S1024x4096 : Shape := ⟨2, ![1024, 4096]⟩
abbrev S1024x1536 : Shape := ⟨2, ![1024, 1536]⟩
abbrev S4096x3x4x128 : Shape := ⟨4, ![4096, 3, 4, 128]⟩
abbrev S4096x4x3x128 : Shape := ⟨4, ![4096, 4, 3, 128]⟩
abbrev S1536x1024 : Shape := ⟨2, ![1536, 1024]⟩
abbrev S3x4x128x1024 : Shape := ⟨4, ![3, 4, 128, 1024]⟩
abbrev S4x3x128x1024 : Shape := ⟨4, ![4, 3, 128, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S4096x1024, .f32⟩
  | .hbm, ⟨3, _⟩ => ⟨S4352x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S1x512, .f32⟩
  | .hbm, ⟨10, _⟩ => ⟨S4098x512, .f32⟩
  | .hbm, ⟨11, _⟩ => ⟨S_, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S1x512, .f32⟩
  | .hbm, ⟨29, _⟩ => ⟨S512, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S4098x512, .f32⟩
  | .hbm, ⟨49, _⟩ => ⟨S1x512, .f32⟩
  | .hbm, ⟨50, _⟩ => ⟨S_, .f32⟩
  | .hbm, ⟨51, _⟩ => ⟨S3x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S512, .f32⟩
  | .hbm, ⟨60, _⟩ => ⟨S_, .f32⟩
  | .hbm, ⟨61, _⟩ => ⟨S4098x512, .f32⟩
  | .hbm, ⟨62, _⟩ => ⟨S4098x512, .f32⟩
  | .hbm, ⟨63, _⟩ => ⟨S1x512, .f32⟩
  | .hbm, ⟨64, _⟩ => ⟨S_, .f32⟩
  | .hbm, ⟨65, _⟩ => ⟨S3x512, .f32⟩
  | .hbm, ⟨66, _⟩ => ⟨S3x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S512, .f32⟩
  | .hbm, ⟨75, _⟩ => ⟨S_, .f32⟩
  | .hbm, ⟨76, _⟩ => ⟨S4098x512, .f32⟩
  | .hbm, ⟨77, _⟩ => ⟨S4098x512, .f32⟩
  | .hbm, ⟨78, _⟩ => ⟨S1x512, .f32⟩
  | .hbm, ⟨79, _⟩ => ⟨S_, .f32⟩
  | .hbm, ⟨80, _⟩ => ⟨S3x512, .f32⟩
  | .hbm, ⟨81, _⟩ => ⟨S3x512, .f32⟩
  | .hbm, ⟨82, _⟩ => ⟨S1x512, .f32⟩
  | .hbm, ⟨83, _⟩ => ⟨S4096x512, .f32⟩
  | .hbm, ⟨84, _⟩ => ⟨S1x512, .f32⟩
  | .hbm, ⟨85, _⟩ => ⟨S4096x512, .f32⟩
  | .hbm, ⟨86, _⟩ => ⟨S4096x512, .f32⟩
  | .hbm, ⟨87, _⟩ => ⟨S4096x1536, .f32⟩
  | .hbm, ⟨88, _⟩ => ⟨S4096x1024, .f32⟩
  | .hbm, ⟨89, _⟩ => ⟨S1024x4096, .f32⟩
  | .hbm, ⟨90, _⟩ => ⟨S1024x1536, .f32⟩
  | .hbm, ⟨91, _⟩ => ⟨S4096x3x4x128, .f32⟩
  | .hbm, ⟨92, _⟩ => ⟨S4096x4x3x128, .f32⟩
  | .hbm, ⟨93, _⟩ => ⟨S4096x1536, .f32⟩
  | .hbm, ⟨94, _⟩ => ⟨S1536x1024, .f32⟩
  | .hbm, ⟨95, _⟩ => ⟨S3x4x128x1024, .f32⟩
  | .hbm, ⟨96, _⟩ => ⟨S4x3x128x1024, .f32⟩
  | .hbm, ⟨97, _⟩ => ⟨S1536x1024, .f32⟩
  | .hbm, ⟨98, _⟩ => ⟨S4096x1536, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Kernel9.lean ====
abbrev S1x512x1024 : Shape := ⟨3, ![1, 512, 1024]⟩
abbrev S8x512x1024 : Shape := ⟨3, ![8, 512, 1024]⟩
abbrev S1x256x1024 : Shape := ⟨3, ![1, 256, 1024]⟩
abbrev S8x256x1024 : Shape := ⟨3, ![8, 256, 1024]⟩
abbrev S256x1024 : Shape := ⟨2, ![256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S8x512x1024, .f32⟩
  | .hbm, ⟨2, _⟩ => ⟨S1x512x1024, .f32⟩
  | .hbm, ⟨3, _⟩ => ⟨S1x512x1024, .f32⟩
  | .hbm, ⟨4, _⟩ => ⟨S8x512x1024, .bf16⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1x512x1024 : Shape := ⟨3, ![1, 512, 1024]⟩
abbrev S8x512x1024 : Shape := ⟨3, ![8, 512, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S8x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S_, .f32⟩
  | .hbm, ⟨11, _⟩ => ⟨S1x512x1024, .f32⟩
  | .hbm, ⟨12, _⟩ => ⟨S1x512x1024, .f32⟩
  | .hbm, ⟨13, _⟩ => ⟨S1x512x1024, .f32⟩
  | .hbm, ⟨14, _⟩ => ⟨S_, .f32⟩
  | .hbm, ⟨15, _⟩ => ⟨S1x512x1024, .f32⟩
  | .hbm, ⟨16, _⟩ => ⟨S1x512x1024, .f32⟩
  | .hbm, ⟨17, _⟩ => ⟨S1x512x1024, .f32⟩
  | .hbm, ⟨18, _⟩ => ⟨S_, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S_, .f32⟩
  | .hbm, ⟨26, _⟩ => ⟨S1x512x1024, .f32⟩
  | .hbm, ⟨27, _⟩ => ⟨S1x512x1024, .f32⟩
  | .hbm, ⟨28, _⟩ => ⟨S1x512x1024, .f32⟩
  | .hbm, ⟨29, _⟩ => ⟨S_, .f32⟩
  | .hbm, ⟨30, _⟩ => ⟨S1x512x1024, .f32⟩
  | .hbm, ⟨31, _⟩ => ⟨S1x512x1024, .f32⟩
  | .hbm, ⟨32, _⟩ => ⟨S1x512x1024, .f32⟩
  | .hbm, ⟨33, _⟩ => ⟨S_, .f32⟩
  | .hbm, ⟨34, _⟩ => ⟨S1x512x1024, .f32⟩
  | .hbm, ⟨35, _⟩ => ⟨S1x512x1024, .f32⟩
  | .hbm, ⟨36, _⟩ => ⟨S1x512x1024, .f32⟩
  | .hbm, ⟨37, _⟩ => ⟨S_, .f32⟩
  | .hbm, ⟨38, _⟩ => ⟨S1x512x1024, .f32⟩
  | .hbm, ⟨39, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Reals.lean ====
module

public import Mathlib.Data.EReal.Operations
public import Mathlib.Analysis.SpecialFunctions.Pow.Real
public import Mathlib.Analysis.SpecialFunctions.Log.Basic

@[expose] public section

noncomputable section

namespace Cert.Attn

/-- A finite sum of reals, read as an extended real, is the sum of the terms read one by one. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are each a given real is the sum of these reals. -/
theorem sum_eq_coe {ι : Type*} [Fintype ι] {g : ι → EReal} {f : ι → ℝ} (h : ∀ i, g i = (f i : EReal)) :
    ∑ i, g i = ((∑ i, f i : ℝ) : EReal) := by
  rw [coe_sum]; exact Finset.sum_congr rfl fun i _ => h i

section Head

/-! One attention head over queries `ι`, keys `κ`, query/key lanes `δ` and value lanes `ε`. -/

variable {ι κ δ ε : Type*} [Fintype ι] [Fintype κ] [Fintype δ] [Fintype ε]

/-- The scaled score of query `i` against key `j`. -/
def score (c : ℝ) (q : ι → δ → ℝ) (k : κ → δ → ℝ) (i : ι) (j : κ) : ℝ := (∑ d, q i d * k j d) * c

/-- The sum of the exponentials of a row of scores. -/
def part (s : ι → κ → ℝ) (i : ι) : ℝ := ∑ j, Real.exp (s i j)

/-- The softmax weight of key `j` for query `i`. -/
def prob (s : ι → κ → ℝ) (i : ι) (j : κ) : ℝ := Real.exp (s i j) / part s i

/-- The head's output row: the weighted sum of the value rows. -/
def outRow (s : ι → κ → ℝ) (v : κ → ε → ℝ) (i : ι) (d : ε) : ℝ := ∑ j, prob s i j * v j d

/-- The gradient of the loss in the softmax weight. -/
def dprob (v : κ → ε → ℝ) (g : ι → ε → ℝ) (i : ι) (j : κ) : ℝ := ∑ d, g i d * v j d

/-- The row sum of output times output gradient. -/
def delta (s : ι → κ → ℝ) (v : κ → ε → ℝ) (g : ι → ε → ℝ) (i : ι) : ℝ := ∑ d, g i d * outRow s v i d

/-- The gradient in the scaled score. -/
def dscore (s : ι → κ → ℝ) (v : κ → ε → ℝ) (g : ι → ε → ℝ) (i : ι) (j : κ) : ℝ :=
  prob s i j * (dprob v g i j - delta s v g i)

/-- The gradient in the values. -/
def dval (s : ι → κ → ℝ) (g : ι → ε → ℝ) (j : κ) (d : ε) : ℝ := ∑ i, prob s i j * g i d

/-- The gradient in the keys. -/
def dkey (c : ℝ) (s : ι → κ → ℝ) (q : ι → δ → ℝ) (v : κ → ε → ℝ) (g : ι → ε → ℝ) (j : κ) (d : δ) : ℝ :=
  (∑ i, dscore s v g i j * q i d) * c

/-- The gradient in the (rotated) queries. -/
def dqry (c : ℝ) (s : ι → κ → ℝ) (k : κ → δ → ℝ) (v : κ → ε → ℝ) (g : ι → ε → ℝ) (i : ι) (d : δ) : ℝ :=
  (∑ j, dscore s v g i j * k j d) * c

theorem part_pos [Nonempty κ] (s : ι → κ → ℝ) (i : ι) : 0 < part s i :=
  Finset.sum_pos (fun _ _ => Real.exp_pos _) Finset.univ_nonempty

/-- The row sum of output times output gradient is the weighted sum of the weights' gradients. -/
theorem delta_eq (s : ι → κ → ℝ) (v : κ → ε → ℝ) (g : ι → ε → ℝ) (i : ι) :
    delta s v g i = ∑ j, dprob v g i j * prob s i j := by
  unfold delta dprob outRow
  simp only [Finset.mul_sum, Finset.sum_mul]
  rw [Finset.sum_comm]
  refine Finset.sum_congr rfl fun j _ => Finset.sum_congr rfl fun d _ => by ring

/-- Subtracting a number from a row of scores scales its exponential sum. -/
theorem part_shift (s : ι → κ → ℝ) (m : ℝ) (i : ι) :
    ∑ j, Real.exp (s i j - m) = part s i * Real.exp (-m) := by
  unfold part
  rw [Finset.sum_mul]
  exact Finset.sum_congr rfl fun j _ => by rw [← Real.exp_add, sub_eq_add_neg]

theorem part_shift_pos [Nonempty κ] (s : ι → κ → ℝ) (m : ℝ) (i : ι) : 0 < ∑ j, Real.exp (s i j - m) :=
  Finset.sum_pos (fun _ _ => Real.exp_pos _) Finset.univ_nonempty

/-- The softmax weight computed from shifted scores. -/
theorem prob_shift [Nonempty κ] (s : ι → κ → ℝ) (m : ℝ) (i : ι) (j : κ) :
    Real.exp (s i j - m) / (∑ j, Real.exp (s i j - m)) = prob s i j := by
  rw [part_shift, sub_eq_add_neg, Real.exp_add, prob]
  exact mul_div_mul_right _ _ (Real.exp_ne_zero _)

/-- The gradient of the loss in the score as the derivative of the shifted quotient gives it. -/
theorem dscore_shift [Nonempty κ] (s : ι → κ → ℝ) (v : κ → ε → ℝ) (g : ι → ε → ℝ) (m : ℝ) (i : ι) (j : κ) :
    (dprob v g i j / (∑ j, Real.exp (s i j - m))
        + -(∑ j', dprob v g i j' * (1 / ((∑ j, Real.exp (s i j - m)) * (∑ j, Real.exp (s i j - m))))
              * Real.exp (s i j' - m)))
      * Real.exp (s i j - m) = dscore s v g i j := by
  have hz := (part_shift_pos s m i).ne'
  rw [dscore, delta_eq, ← prob_shift s m i j]
  have : ∀ j', prob s i j' = Real.exp (s i j' - m) / (∑ j, Real.exp (s i j - m)) := fun j' => (prob_shift s m i j').symm
  simp only [this]
  generalize (∑ j, Real.exp (s i j - m)) = z at hz ⊢
  have e1 : ∑ j', dprob v g i j' * (1 / (z * z)) * Real.exp (s i j' - m)
      = (∑ j', dprob v g i j' * Real.exp (s i j' - m)) * (1 / (z * z)) := by
    rw [Finset.sum_mul]; exact Finset.sum_congr rfl fun _ _ => by ring
  have e2 : ∑ j', dprob v g i j' * (Real.exp (s i j' - m) / z)
      = (∑ j', dprob v g i j' * Real.exp (s i j' - m)) * (1 / z) := by
    rw [Finset.sum_mul]; exact Finset.sum_congr rfl fun _ _ => by ring
  rw [e1, e2]
  field_simp
  ring

/-- The softmax weight as a power of two of the score's and the log-sum's binary logarithms. -/
theorem prob_exp2 [Nonempty κ] (s : ι → κ → ℝ) (m x c : ℝ) (i : ι) (j : κ) (hx : x * c = s i j) :
    Real.rpow 2 (x * (c * (Real.log 2)⁻¹)
      - (m + Real.log (∑ j, Real.exp (s i j - m))) * (1 / Real.log 2)) = prob s i j := by
  have hl : Real.log 2 ≠ 0 := (Real.log_pos one_lt_two).ne'
  have hz := part_shift_pos s m i
  have e : x * (c * (Real.log 2)⁻¹) - (m + Real.log (∑ j, Real.exp (s i j - m))) * (1 / Real.log 2)
      = (s i j - m - Real.log (∑ j, Real.exp (s i j - m))) / Real.log 2 := by
    rw [← hx]; field_simp; ring
  rw [e, ← prob_shift s m i j]
  rw [Real.rpow_eq_pow]
  rw [Real.rpow_def_of_pos two_pos, mul_div_cancel₀ _ hl, Real.exp_sub, Real.exp_log hz]

end Head

end Cert.Attn

end
-- ==== Proof.Ref.lean ====
module

public import proofs.«01_k».proof.Proof.Reals
public import proofs.«01_k».proof.Proof.Gen.ReferenceIdeal.Read
public import Idealize.ShloMosaic.Lib.KernelVsHost

@[expose] public section

noncomputable section

namespace Cert.Attn

open Idealize.ShloMosaic Idealize.ShloMosaic.ValueIdx

/-- Two indices of a rank-2 shape with equal coordinates are equal. -/
theorem ext2 {n0 n1 : Nat} (u w : (⟨2, ![n0, n1]⟩ : Shape).Idx) (h0 : (u 0).val = (w 0).val)
    (h1 : (u 1).val = (w 1).val) : u = w :=
  funext fun a => Fin.ext (match a with | ⟨0, _⟩ => h0 | ⟨1, _⟩ => h1)

/-- Two indices of a rank-3 shape with equal coordinates are equal. -/
theorem ext3 {n0 n1 n2 : Nat} (u w : (⟨3, ![n0, n1, n2]⟩ : Shape).Idx) (h0 : (u 0).val = (w 0).val)
    (h1 : (u 1).val = (w 1).val) (h2 : (u 2).val = (w 2).val) : u = w :=
  funext fun a => Fin.ext (match a with | ⟨0, _⟩ => h0 | ⟨1, _⟩ => h1 | ⟨2, _⟩ => h2)

/-! The coordinates of an index given by its coordinates. -/
theorem ix2_0 {n0 n1 : Nat} (a : Fin n0) (b : Fin n1) : ix2 a b (0 : Fin 2) = a := rfl
theorem ix2_1 {n0 n1 : Nat} (a : Fin n0) (b : Fin n1) : ix2 a b (1 : Fin 2) = b := rfl
theorem ix3_0 {n0 n1 n2 : Nat} (a : Fin n0) (b : Fin n1) (c : Fin n2) : ix3 a b c (0 : Fin 3) = a := rfl
theorem ix3_1 {n0 n1 n2 : Nat} (a : Fin n0) (b : Fin n1) (c : Fin n2) : ix3 a b c (1 : Fin 3) = b := rfl
theorem ix3_2 {n0 n1 n2 : Nat} (a : Fin n0) (b : Fin n1) (c : Fin n2) : ix3 a b c (2 : Fin 3) = c := rfl
theorem ix4_0 {n0 n1 n2 n3 : Nat} (a : Fin n0) (b : Fin n1) (c : Fin n2) (d : Fin n3) : ix4 a b c d (0 : Fin 4) = a := rfl
theorem ix4_1 {n0 n1 n2 n3 : Nat} (a : Fin n0) (b : Fin n1) (c : Fin n2) (d : Fin n3) : ix4 a b c d (1 : Fin 4) = b := rfl
theorem ix4_2 {n0 n1 n2 n3 : Nat} (a : Fin n0) (b : Fin n1) (c : Fin n2) (d : Fin n3) : ix4 a b c d (2 : Fin 4) = c := rfl
theorem ix4_3 {n0 n1 n2 n3 : Nat} (a : Fin n0) (b : Fin n1) (c : Fin n2) (d : Fin n3) : ix4 a b c d (3 : Fin 4) = d := rfl
theorem ix5_0 {n0 n1 n2 n3 n4 : Nat} (a : Fin n0) (b : Fin n1) (c : Fin n2) (d : Fin n3) (e : Fin n4) : ix5 a b c d e (0 : Fin 5) = a := rfl
theorem ix5_1 {n0 n1 n2 n3 n4 : Nat} (a : Fin n0) (b : Fin n1) (c : Fin n2) (d : Fin n3) (e : Fin n4) : ix5 a b c d e (1 : Fin 5) = b := rfl
theorem ix5_2 {n0 n1 n2 n3 n4 : Nat} (a : Fin n0) (b : Fin n1) (c : Fin n2) (d : Fin n3) (e : Fin n4) : ix5 a b c d e (2 : Fin 5) = c := rfl
theorem ix5_3 {n0 n1 n2 n3 n4 : Nat} (a : Fin n0) (b : Fin n1) (c : Fin n2) (d : Fin n3) (e : Fin n4) : ix5 a b c d e (3 : Fin 5) = d := rfl
theorem ix5_4 {n0 n1 n2 n3 n4 : Nat} (a : Fin n0) (b : Fin n1) (c : Fin n2) (d : Fin n3) (e : Fin n4) : ix5 a b c d e (4 : Fin 5) = e := rfl

/-- The rotary pair number of a lane of the rotated quarter. -/
abbrev pairOf (d : ℕ) : Fin 2 := ⟨(d / 16) % 2, Nat.mod_lt _ (by decide)⟩

/-- The frequency number of a lane of the rotated quarter. -/
abbrev freqOf (d : ℕ) : Fin 8 := ⟨d % 8, Nat.mod_lt _ (by decide)⟩

/-- The rotary embedding of a 96-lane row: lanes below 64 stay, each pair of eight-lane groups above turns. -/
def rot (c s : Fin 2 → Fin 8 → ℝ) (u : Fin 96 → ℝ) (d : Fin 96) : ℝ :=
  if d.val < 64 then u d
  else if h : d.val / 8 % 2 = 0 then
    u d * c (pairOf d) (freqOf d) - u ⟨d.val + 8, by have := d.isLt; omega⟩ * s (pairOf d) (freqOf d)
  else u d * c (pairOf d) (freqOf d) + u ⟨d.val - 8, by have := d.isLt; omega⟩ * s (pairOf d) (freqOf d)

/-- The transpose of the rotary embedding. -/
def rotT (c s : Fin 2 → Fin 8 → ℝ) (u : Fin 96 → ℝ) (d : Fin 96) : ℝ :=
  if d.val < 64 then u d
  else if h : d.val / 8 % 2 = 0 then
    u d * c (pairOf d) (freqOf d) + u ⟨d.val + 8, by have := d.isLt; omega⟩ * s (pairOf d) (freqOf d)
  else u d * c (pairOf d) (freqOf d) - u ⟨d.val - 8, by have := d.isLt; omega⟩ * s (pairOf d) (freqOf d)

/-- The attention scale as the programs' literal. -/
def cA : ℝ := 3424635 / 33554432

/-- The literal of the attention scale is this real. -/
theorem ofBits_cA : Ideal.ofBits .f32 0x3DD105EC#32 = ((cA : ℝ) : EReal) := by
  simp [Ideal.ofBits, Ideal.ieee, cA, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

/-- A running maximum over a nonempty list of reals, begun at the least element, is a real. -/
theorem foldl_max_real {β : Type*} (f : β → ℝ) : ∀ (L : List β) (a : EReal),
    (a = ⊥ ∧ L ≠ [] ∨ ∃ r : ℝ, a = r) → ∃ m : ℝ, L.foldl (fun r n => max r ((f n : ℝ) : EReal)) a = m
  | [], a, h => by
    rcases h with ⟨_, h⟩ | h
    · exact absurd rfl h
    · exact h
  | b :: L, a, h => by
    refine foldl_max_real f L _ (Or.inr ?_)
    rcases h with ⟨rfl, _⟩ | ⟨r, rfl⟩
    · exact ⟨f b, max_eq_right bot_le⟩
    · exact ⟨max r (f b), (EReal.coe_strictMono.monotone.map_max).symm⟩

section Args

/-! The one-head data read off the arguments' real values. -/

variable (r0 : Shape.Idx ⟨3, ![4096, 8, 96]⟩ → ℝ) (r1 : Shape.Idx ⟨3, ![4352, 8, 96]⟩ → ℝ)
  (r2 : Shape.Idx ⟨3, ![4352, 8, 64]⟩ → ℝ) (r3 r4 : Shape.Idx ⟨3, ![4096, 2, 8]⟩ → ℝ)
  (r5 : Shape.Idx ⟨2, ![4096, 1024]⟩ → ℝ)

/-- Head `h`'s rotated queries. -/
def qq (h : Fin 8) (i : Fin 4096) : Fin 96 → ℝ :=
  rot (fun a t => r3 (ix3 i a t)) (fun a t => r4 (ix3 i a t)) (fun d => r0 (ix3 i h d))
/-- Head `h`'s keys. -/
def kk (h : Fin 8) (j : Fin 4352) (d : Fin 96) : ℝ := r1 (ix3 j h d)
/-- Head `h`'s values. -/
def vv (h : Fin 8) (j : Fin 4352) (d : Fin 64) : ℝ := r2 (ix3 j h d)
/-- The output gradient's head `h`. -/
def gg (h : Fin 8) (i : Fin 4096) (d : Fin 64) : ℝ :=
  r5 (ix2 i ⟨h.val * 64 + d.val, by have := h.isLt; have := d.isLt; omega⟩)
/-- Head `h`'s scores. -/
def ss (h : Fin 8) : Fin 4096 → Fin 4352 → ℝ := score cA (qq r0 r3 r4 h) (kk r1 h)

/-- Head `h`'s key gradient. -/
def DK (h : Fin 8) (j : Fin 4352) (d : Fin 96) : ℝ :=
  dkey cA (ss r0 r1 r3 r4 h) (qq r0 r3 r4 h) (vv r2 h) (gg r5 h) j d
/-- Head `h`'s value gradient. -/
def DV (h : Fin 8) (j : Fin 4352) (d : Fin 64) : ℝ := dval (ss r0 r1 r3 r4 h) (gg r5 h) j d
/-- Head `h`'s query gradient, through the rotary embedding. -/
def DQ (h : Fin 8) (i : Fin 4096) (d : Fin 96) : ℝ :=
  rotT (fun a t => r3 (ix3 i a t)) (fun a t => r4 (ix3 i a t))
    (dqry cA (ss r0 r1 r3 r4 h) (kk r1 h) (vv r2 h) (gg r5 h) i) d

/-- A 96-lane row read at any lane, zero beyond. -/
def ext96 (u : Fin 96 → ℝ) (d : ℕ) : ℝ := if h : d < 96 then u ⟨d, h⟩ else 0

/-- The query gradient as the result lays it out: heads in blocks of 128 lanes, the last 32 zero. -/
def outQ (y : Shape.Idx ⟨2, ![4096, 1024]⟩) : ℝ :=
  ext96 (DQ r0 r1 r2 r3 r4 r5 ⟨(y 1).val / 128, Nat.div_lt_of_lt_mul (y 1).isLt⟩ (y 0)) ((y 1).val % 128)
/-- The key gradient as the result lays it out. -/
def outK (y : Shape.Idx ⟨2, ![4352, 1024]⟩) : ℝ :=
  ext96 (DK r0 r1 r2 r3 r4 r5 ⟨(y 1).val / 128, Nat.div_lt_of_lt_mul (y 1).isLt⟩ (y 0)) ((y 1).val % 128)
/-- The value gradient as the result lays it out. -/
def outV (y : Shape.Idx ⟨2, ![4352, 512]⟩) : ℝ :=
  DV r0 r1 r3 r4 r5 ⟨(y 1).val / 64, Nat.div_lt_of_lt_mul (y 1).isLt⟩ (y 0) ⟨(y 1).val % 64, Nat.mod_lt _ (by decide)⟩

end Args

end Cert.Attn

namespace Cert.Attn.Ref

open Idealize.ShloMosaic Idealize.ShloMosaic.ValueIdx Cert.Attn
open Cert.ReferenceIdeal Cert.ReferenceIdeal.Read

variable {x0 : (⟨S4096x8x96, .f32⟩ : BufTy).Contents (Elt Ideal)} {x1 : (⟨S4352x8x96, .f32⟩ : BufTy).Contents (Elt Ideal)}
  {x2 : (⟨S4352x8x64, .f32⟩ : BufTy).Contents (Elt Ideal)} {x3 x4 : (⟨S4096x2x8, .f32⟩ : BufTy).Contents (Elt Ideal)}
  {x5 : (⟨S4096x1024, .f32⟩ : BufTy).Contents (Elt Ideal)}
  {r0 : S4096x8x96.Idx → ℝ} {r1 : S4352x8x96.Idx → ℝ} {r2 : S4352x8x64.Idx → ℝ} {r3 r4 : S4096x2x8.Idx → ℝ}
  {r5 : S4096x1024.Idx → ℝ}

section Rot
variable (h0 : ∀ y, x0 y = (r0 y : EReal)) (h3 : ∀ y, x3 y = (r3 y : EReal)) (h4 : ∀ y, x4 y = (r4 y : EReal))
include h0 h3 h4

/-- The first halves of the pairs. -/
theorem v4_apply (i : Fin 4096) (h : Fin 8) (a : Fin 2) (t : Fin 8) :
    val_main_v4 (F := Ideal) x0 (ix4 i h a t) = (r0 (ix3 i h ⟨64 + 16 * a.val + t.val, by omega⟩) : EReal) := by
  rw [val_main_v4_apply, val_main_v3_apply, val_main_v2_apply, val_main_v1_apply, h0]
  refine congrArg (fun y => (r0 y : EReal)) (ext3 _ _ ?_ ?_ ?_)
  all_goals (have := i.isLt; have := h.isLt; have := a.isLt; have := t.isLt)
  all_goals simp only [ix4_0, ix4_1, ix4_2, ix4_3, ix3_0, ix3_1, ix3_2]
  all_goals omega

/-- The second halves of the pairs. -/
theorem v6_apply (i : Fin 4096) (h : Fin 8) (a : Fin 2) (t : Fin 8) :
    val_main_v6 (F := Ideal) x0 (ix4 i h a t) = (r0 (ix3 i h ⟨64 + 16 * a.val + 8 + t.val, by omega⟩) : EReal) := by
  rw [val_main_v6_apply, val_main_v5_apply, val_main_v2_apply, val_main_v1_apply, h0]
  refine congrArg (fun y => (r0 y : EReal)) (ext3 _ _ ?_ ?_ ?_)
  all_goals (have := i.isLt; have := h.isLt; have := a.isLt; have := t.isLt)
  all_goals simp only [ix4_0, ix4_1, ix4_2, ix4_3, ix3_0, ix3_1, ix3_2]
  all_goals omega

/-- The first halves, turned. -/
theorem v13_apply (i : Fin 4096) (h : Fin 8) (a : Fin 2) (t : Fin 8) :
    val_main_v13 (F := Ideal) x0 x3 x4 (ix4 i h a t)
      = ((r0 (ix3 i h ⟨64 + 16 * a.val + t.val, by omega⟩) * r3 (ix3 i a t)
          - r0 (ix3 i h ⟨64 + 16 * a.val + 8 + t.val, by omega⟩) * r4 (ix3 i a t) : ℝ) : EReal) := by
  rw [val_main_v13_apply, val_main_v10_apply, val_main_v12_apply, v4_apply h0 h3 h4, v6_apply h0 h3 h4,
    val_main_v9_apply, val_main_v11_apply, val_main_v7_apply, val_main_v8_apply, h3, h4]
  simp only [Ideal.mulf_def, Ideal.subf_def, EReal.coe_sub, EReal.coe_mul]
  congr 4
  · exact ext3 _ _ rfl rfl rfl
  · exact ext3 _ _ rfl rfl rfl

/-- The second halves, turned. -/
theorem v18_apply (i : Fin 4096) (h : Fin 8) (a : Fin 2) (t : Fin 8) :
    val_main_v18 (F := Ideal) x0 x3 x4 (ix4 i h a t)
      = ((r0 (ix3 i h ⟨64 + 16 * a.val + 8 + t.val, by omega⟩) * r3 (ix3 i a t)
          + r0 (ix3 i h ⟨64 + 16 * a.val + t.val, by omega⟩) * r4 (ix3 i a t) : ℝ) : EReal) := by
  rw [val_main_v18_apply, val_main_v15_apply, val_main_v17_apply, v4_apply h0 h3 h4, v6_apply h0 h3 h4,
    val_main_v14_apply, val_main_v16_apply, val_main_v7_apply, val_main_v8_apply, h3, h4]
  simp only [Ideal.mulf_def, Ideal.addf_def, EReal.coe_add, EReal.coe_mul]
  congr 4
  · exact ext3 _ _ rfl rfl rfl
  · exact ext3 _ _ rfl rfl rfl

/-- The rotated queries. -/
theorem v23_apply (i : Fin 4096) (h : Fin 8) (d : Fin 96) :
    val_main_v23 (F := Ideal) x0 x3 x4 (ix3 i h d) = (qq r0 r3 r4 h i d : EReal) := by
  have hd := d.isLt; have hh := h.isLt; have hi := i.isLt
  unfold val_main_v23 qq rot
  by_cases hlt : d.val < 64
  · rw [if_pos hlt]
    refine (concatenate_pair_apply_left (s₁ := S4096x8x64) (s₂ := S4096x8x32) (2 : Fin S4096x8x96.rank) _ _ _ _ rfl
      (ix3 i h ⟨d.val, hlt⟩ : S4096x8x64.Idx) (fun b => ?_)).trans ?_
    · match b with
      | ⟨0, _⟩ => rfl
      | ⟨1, _⟩ => rfl
      | ⟨2, _⟩ => rfl
    · rw [val_main_v0_apply, h0]
      exact congrArg (fun y => (r0 y : EReal)) (ext3 _ _ rfl rfl rfl)
  · rw [if_neg hlt]
    refine (concatenate_pair_apply_right (s₁ := S4096x8x64) (s₂ := S4096x8x32) (2 : Fin S4096x8x96.rank) _ _ _ _ rfl rfl
      (ix3 i h ⟨d.val - 64, by omega⟩ : S4096x8x32.Idx) (fun b hb => ?_) ?_).trans ?_
    · match b with
      | ⟨0, _⟩ => rfl
      | ⟨1, _⟩ => rfl
      | ⟨2, _⟩ => exact absurd rfl hb
    · show d.val - 64 + 64 = d.val; omega
    · rw [val_main_v22_apply]
      unfold val_main_v21
      by_cases hb : d.val / 8 % 2 = 0
      · rw [dif_pos hb]
        refine (concatenate_pair_apply_left (s₁ := S4096x8x2x1x8) (s₂ := S4096x8x2x1x8) (3 : Fin S4096x8x2x2x8.rank) _ _ _ _ rfl
          (ix5 i h (pairOf d) 0 (freqOf d) : S4096x8x2x1x8.Idx) (fun b => ?_)).trans ?_
        · match b with
          | ⟨0, _⟩ => simp only [ix3_0, ix3_1, ix3_2]; show i.val = ((i.val * 8 + h.val) * 32 + (d.val - 64)) / 256; omega
          | ⟨1, _⟩ => show h.val = ((i.val * 8 + h.val) * 32 + (d.val - 64)) / 32 % 8; omega
          | ⟨2, _⟩ => show d.val / 16 % 2 = ((i.val * 8 + h.val) * 32 + (d.val - 64)) / 16 % 2; omega
          | ⟨3, _⟩ => show 0 = ((i.val * 8 + h.val) * 32 + (d.val - 64)) / 8 % 2; omega
          | ⟨4, _⟩ => show d.val % 8 = ((i.val * 8 + h.val) * 32 + (d.val - 64)) % 8; omega
        · rw [val_main_v19_apply]
          refine (congrArg _ (?_ : _ = ix4 i h (pairOf d) (freqOf d))).trans ?_
          · exact funext fun a => Fin.ext (match a with | ⟨0, _⟩ => rfl | ⟨1, _⟩ => rfl | ⟨2, _⟩ => rfl | ⟨3, _⟩ => rfl)
          rw [v13_apply h0 h3 h4]
          refine congrArg (fun y : ℝ => (y : EReal)) ?_
          congr 2
          · exact congrArg r0 (ext3 _ _ rfl rfl (by show 64 + 16 * (d.val / 16 % 2) + d.val % 8 = d.val; omega))
          · exact congrArg r0 (ext3 _ _ rfl rfl (by show 64 + 16 * (d.val / 16 % 2) + 8 + d.val % 8 = d.val + 8; omega))
      · rw [dif_neg hb]
        refine (concatenate_pair_apply_right (s₁ := S4096x8x2x1x8) (s₂ := S4096x8x2x1x8) (3 : Fin S4096x8x2x2x8.rank) _ _ _ _ rfl rfl
          (ix5 i h (pairOf d) 0 (freqOf d) : S4096x8x2x1x8.Idx) (fun b hb => ?_) ?_).trans ?_
        · match b with
          | ⟨0, _⟩ => show i.val = ((i.val * 8 + h.val) * 32 + (d.val - 64)) / 256; omega
          | ⟨1, _⟩ => show h.val = ((i.val * 8 + h.val) * 32 + (d.val - 64)) / 32 % 8; omega
          | ⟨2, _⟩ => show d.val / 16 % 2 = ((i.val * 8 + h.val) * 32 + (d.val - 64)) / 16 % 2; omega
          | ⟨3, _⟩ => exact absurd rfl hb
          | ⟨4, _⟩ => show d.val % 8 = ((i.val * 8 + h.val) * 32 + (d.val - 64)) % 8; omega
        · show 0 + 1 = ((i.val * 8 + h.val) * 32 + (d.val - 64)) / 8 % 2; omega
        · rw [val_main_v20_apply]
          refine (congrArg _ (?_ : _ = ix4 i h (pairOf d) (freqOf d))).trans ?_
          · exact funext fun a => Fin.ext (match a with | ⟨0, _⟩ => rfl | ⟨1, _⟩ => rfl | ⟨2, _⟩ => rfl | ⟨3, _⟩ => rfl)
          rw [v18_apply h0 h3 h4]
          refine congrArg (fun y : ℝ => (y : EReal)) ?_
          congr 2
          · exact congrArg r0 (ext3 _ _ rfl rfl (by show 64 + 16 * (d.val / 16 % 2) + 8 + d.val % 8 = d.val; omega))
          · exact congrArg r0 (ext3 _ _ rfl rfl (by show 64 + 16 * (d.val / 16 % 2) + d.val % 8 = d.val - 8; omega))

end Rot

section Softmax
variable (h0 : ∀ y, x0 y = (r0 y : EReal)) (h1 : ∀ y, x1 y = (r1 y : EReal)) (h3 : ∀ y, x3 y = (r3 y : EReal))
  (h4 : ∀ y, x4 y = (r4 y : EReal))
include h0 h1 h3 h4

/-- The scores. -/
theorem v26_apply (h : Fin 8) (i : Fin 4096) (j : Fin 4352) :
    val_main_v26 (F := Ideal) x0 x1 x3 x4 (ix3 h i j) = (ss r0 r1 r3 r4 h i j : EReal) := by
  rw [val_main_v26_apply, val_main_v24_apply, val_main_v25_apply, val_main_cst_apply, Ideal.ofBits_def, ofBits_cA,
    Ideal.mulf_def]
  unfold ss score
  rw [EReal.coe_mul]
  refine congrArg (· * ((cA : ℝ) : EReal)) (sum_eq_coe fun d => ?_)
  rw [h1, EReal.coe_mul]
  refine congrArg₂ (· * ·) ((congrArg _ (ext3 (lidx_main_v24 (ix3 h i j) d) (ix3 i h d) rfl rfl rfl)).trans (v23_apply h0 h3 h4 i h d)) ?_
  exact congrArg (fun y => (r1 y : EReal)) (ext3 _ _ rfl rfl rfl)

/-- A row's greatest score is a real. -/
theorem v27_real (h : Fin 8) (i : Fin 4096) :
    ∃ m : ℝ, val_main_v27 (F := Ideal) x0 x1 x3 x4 (ix2 h i) = (m : EReal) := by
  unfold val_main_v27 Host.reduce
  have e : ∀ y : S8x4096x4352.Idx, val_main_v26 (F := Ideal) x0 x1 x3 x4 y = (ss r0 r1 r3 r4 (y 0) (y 1) (y 2) : EReal) :=
    fun y => (congrArg _ (eq_ix3 y)).trans (v26_apply h0 h1 h3 h4 _ _ _)
  simp only [e, Ideal.maximumf_def]
  refine foldl_max_real (fun n => ss r0 r1 r3 r4 (S8x4096x4352.rowMajor.symm n 0) (S8x4096x4352.rowMajor.symm n 1)
    (S8x4096x4352.rowMajor.symm n 2)) _ _ (Or.inl ⟨?_, ?_⟩)
  · rw [val_main_cst_0_apply, Ideal.ofBits_def, ofBits_bot]
  · refine List.ne_nil_of_mem (a := S8x4096x4352.rowMajor (ix3 h i 0)) (List.mem_filter.2 ⟨List.mem_finRange _, ?_⟩)
    rw [decide_eq_true_eq, Equiv.symm_apply_apply]
    exact ext2 _ _ rfl rfl

end Softmax

end Cert.Attn.Ref

end
-- ==== Proof.RefGrad.lean ====
module

public import proofs.«01_k».proof.Proof.Ref

@[expose] public section

noncomputable section

namespace Cert.Attn.Ref

open Idealize.ShloMosaic Idealize.ShloMosaic.ValueIdx Cert.Attn
open Cert.ReferenceIdeal Cert.ReferenceIdeal.Gen Cert.ReferenceIdeal.Read

variable {x0 : (⟨S4096x8x96, .f32⟩ : BufTy).Contents (Elt Ideal)} {x1 : (⟨S4352x8x96, .f32⟩ : BufTy).Contents (Elt Ideal)}
  {x2 : (⟨S4352x8x64, .f32⟩ : BufTy).Contents (Elt Ideal)} {x3 x4 : (⟨S4096x2x8, .f32⟩ : BufTy).Contents (Elt Ideal)}
  {x5 : (⟨S4096x1024, .f32⟩ : BufTy).Contents (Elt Ideal)}
  {r0 : S4096x8x96.Idx → ℝ} {r1 : S4352x8x96.Idx → ℝ} {r2 : S4352x8x64.Idx → ℝ} {r3 r4 : S4096x2x8.Idx → ℝ}
  {r5 : S4096x1024.Idx → ℝ}

/-- A quotient of two reals, the second not zero. -/
theorem div_real (a b : ℝ) (hb : b ≠ 0) : Ideal.div (a : EReal) (b : EReal) = ((a * (1 / b) : ℝ) : EReal) := by
  rw [Ideal.div_coe hb, EReal.coe_mul]

section Softmax
variable (h0 : ∀ y, x0 y = (r0 y : EReal)) (h1 : ∀ y, x1 y = (r1 y : EReal)) (h3 : ∀ y, x3 y = (r3 y : EReal))
  (h4 : ∀ y, x4 y = (r4 y : EReal)) (h : Fin 8) (i : Fin 4096) {m : ℝ}
  (hm : val_main_v27 (F := Ideal) x0 x1 x3 x4 (ix2 h i) = (m : EReal))
include h0 h1 h3 h4 hm

/-- The exponentials of the shifted scores. -/
theorem v47_apply (j : Fin 4352) :
    val_main_v47 (F := Ideal) x0 x1 x3 x4 (ix3 h i j) = (Real.exp (ss r0 r1 r3 r4 h i j - m) : EReal) := by
  rw [val_main_v47_apply, val_main_v46_apply, v26_apply h0 h1 h3 h4, val_main_v45_apply, val_main_v44_apply,
    val_main_v34_apply, val_main_v33_apply, val_main_cst_2_apply,
    show idx_main_v44 (idx_main_v45 (ix3 h i j)) = ix2 h i from ext2 _ _ rfl rfl, hm, Ideal.ofBits_def, ofBits_bot,
    Ideal.maximumf_def, max_eq_right bot_le, Ideal.subf_def, ← EReal.coe_sub]
  rfl

/-- Their sum. -/
theorem v48_apply :
    val_main_v48 (F := Ideal) x0 x1 x3 x4 (ix2 h i) = ((∑ j, Real.exp (ss r0 r1 r3 r4 h i j - m) : ℝ) : EReal) := by
  rw [val_main_v48_apply, val_main_cst_8_apply, Ideal.ofBits_def, Ideal.ofBits_zero_f32, zero_add]
  refine sum_eq_coe fun j => ?_
  rw [show idx_main_v48 (ix2 h i) j = ix3 h i j from ext3 _ _ rfl rfl rfl]
  exact v47_apply h0 h1 h3 h4 h i hm j

/-- The softmax weights. -/
theorem v51_apply (j : Fin 4352) :
    val_main_v51 (F := Ideal) x0 x1 x3 x4 (ix3 h i j) = (prob (ss r0 r1 r3 r4 h) i j : EReal) := by
  rw [val_main_v51_apply, v47_apply h0 h1 h3 h4 h i hm, val_main_v50_apply, val_main_v49_apply,
    show idx_main_v49 (idx_main_v50 (ix3 h i j)) = ix2 h i from ext2 _ _ rfl rfl, v48_apply h0 h1 h3 h4 h i hm,
    Ideal.hostDivf_def, div_real _ _ (part_shift_pos _ _ _).ne', mul_one_div, prob_shift]

/-- One over the squared sum. -/
theorem v54_apply : val_main_v54 (F := Ideal) x0 x1 x3 x4 (ix3 h i 0)
    = ((1 / ((∑ j, Real.exp (ss r0 r1 r3 r4 h i j - m)) * (∑ j, Real.exp (ss r0 r1 r3 r4 h i j - m))) : ℝ) : EReal) := by
  have hz := (part_shift_pos (ss r0 r1 r3 r4 h) m i).ne'
  rw [val_main_v54_apply, val_main_v53_apply, val_main_cst_9_apply, val_main_v52_apply, val_main_v49_apply,
    show idx_main_v49 (ix3 h i 0) = ix2 h i from ext2 _ _ rfl rfl, v48_apply h0 h1 h3 h4 h i hm,
    Ideal.ofBits_def, ofBits_one, Ideal.mulf_def, ← EReal.coe_mul, Ideal.hostDivf_def, div_real _ _ (mul_ne_zero hz hz),
    one_mul]

end Softmax

section Value
variable (h5 : ∀ y, x5 y = (r5 y : EReal))
include h5

/-- The output gradient by heads. -/
theorem v60_apply (h : Fin 8) (d : Fin 64) (i : Fin 4096) :
    val_main_v60 (F := Ideal) x5 (ix3 h d i) = (gg r5 h i d : EReal) := by
  rw [val_main_v60_apply, val_main_v59_apply, val_main_v58_apply, h5]
  refine congrArg (fun y => (r5 y : EReal)) (ext2 _ _ ?_ ?_)
  all_goals (have := i.isLt; have := h.isLt; have := d.isLt)
  · show ((i.val * 8 + h.val) * 64 + d.val) / 512 = i.val; omega
  · show ((i.val * 8 + h.val) * 64 + d.val) % 512 = h.val * 64 + d.val; omega

/-- The gradient in the weights. -/
theorem v61_apply (h2 : ∀ y, x2 y = (r2 y : EReal)) (h : Fin 8) (i : Fin 4096) (j : Fin 4352) :
    val_main_v61 (F := Ideal) x2 x5 (ix3 h i j) = (dprob (vv r2 h) (gg r5 h) i j : EReal) := by
  rw [val_main_v61_apply]
  refine sum_eq_coe fun d => ?_
  rw [show lidx_main_v61 (ix3 h i j) d = ix3 h d i from ext3 _ _ rfl rfl rfl, v60_apply h5, h2, EReal.coe_mul]
  rw [show ridx_main_v61 (ix3 h i j) d = ix3 j h d from ext3 _ _ rfl rfl rfl]
  rfl

end Value

section Score
variable (h0 : ∀ y, x0 y = (r0 y : EReal)) (h1 : ∀ y, x1 y = (r1 y : EReal)) (h2 : ∀ y, x2 y = (r2 y : EReal))
  (h3 : ∀ y, x3 y = (r3 y : EReal)) (h4 : ∀ y, x4 y = (r4 y : EReal)) (h5 : ∀ y, x5 y = (r5 y : EReal))
include h0 h1 h2 h3 h4 h5

/-- The row sums the softmax's derivative subtracts. -/
theorem v67_apply (h : Fin 8) (i : Fin 4096) {m : ℝ}
    (hm : val_main_v27 (F := Ideal) x0 x1 x3 x4 (ix2 h i) = (m : EReal)) :
    val_main_v67 (F := Ideal) x0 x1 x2 x3 x4 x5 (ix2 h i)
      = ((∑ j', dprob (vv r2 h) (gg r5 h) i j' * (1 / ((∑ j, Real.exp (ss r0 r1 r3 r4 h i j - m)) * (∑ j, Real.exp (ss r0 r1 r3 r4 h i j - m))))
          * Real.exp (ss r0 r1 r3 r4 h i j' - m) : ℝ) : EReal) := by
  rw [val_main_v67_apply, val_main_cst_10_apply, Ideal.ofBits_def, Ideal.ofBits_zero_f32, zero_add]
  refine sum_eq_coe fun j => ?_
  rw [show idx_main_v67 (ix2 h i) j = ix3 h i j from ext3 _ _ rfl rfl rfl, val_main_v66_apply, val_main_v65_apply,
    v61_apply h5 h2, val_main_v64_apply, show idx_main_v64 (ix3 h i j) = ix3 h i 0 from ext3 _ _ rfl rfl rfl,
    v54_apply h0 h1 h3 h4 h i hm, v47_apply h0 h1 h3 h4 h i hm, Ideal.mulf_def, Ideal.mulf_def, EReal.coe_mul, EReal.coe_mul]

/-- The gradient in the scaled scores. -/
theorem v75_apply (h : Fin 8) (i : Fin 4096) (j : Fin 4352) :
    val_main_v75 (F := Ideal) x0 x1 x2 x3 x4 x5 (ix3 h i j)
      = (dscore (ss r0 r1 r3 r4 h) (vv r2 h) (gg r5 h) i j : EReal) := by
  obtain ⟨m, hm⟩ := v27_real h0 h1 h3 h4 h i
  have e72 : val_main_v72 (F := Ideal) x0 x1 x2 x3 x4 x5 (ix2 h i)
      = ((-(∑ j', dprob (vv r2 h) (gg r5 h) i j' * (1 / ((∑ j, Real.exp (ss r0 r1 r3 r4 h i j - m)) * (∑ j, Real.exp (ss r0 r1 r3 r4 h i j - m))))
          * Real.exp (ss r0 r1 r3 r4 h i j' - m)) : ℝ) : EReal) := by
    rw [val_main_v72_apply, val_main_cst_11_apply, Ideal.ofBits_def, Ideal.ofBits_zero_f32, zero_add, Fin.sum_univ_one,
      val_main_v69_apply, val_main_v68_apply, show idx_main_v68 (idx_main_v72 (ix2 h i) 0) = ix2 h i from ext2 _ _
        (by have := h.isLt; have := i.isLt; show ((h.val * 4096 + i.val) * 1 + 0) / 4096 = h.val; omega)
        (by have := h.isLt; have := i.isLt; show ((h.val * 4096 + i.val) * 1 + 0) % 4096 = i.val; omega),
      v67_apply h0 h1 h2 h3 h4 h5 h i hm]
    exact (EReal.coe_neg _).symm
  rw [val_main_v75_apply, val_main_v74_apply, val_main_v71_apply, v61_apply h5 h2, val_main_v70_apply, val_main_v49_apply,
    show idx_main_v49 (idx_main_v70 (ix3 h i j)) = ix2 h i from ext2 _ _ rfl rfl, v48_apply h0 h1 h3 h4 h i hm,
    val_main_v73_apply, show idx_main_v73 (ix3 h i j) = ix2 h i from ext2 _ _ rfl rfl, e72,
    v47_apply h0 h1 h3 h4 h i hm, Ideal.hostDivf_def, div_real _ _ (part_shift_pos _ _ _).ne', mul_one_div,
    Ideal.addf_def, ← EReal.coe_add, Ideal.mulf_def, ← EReal.coe_mul, dscore_shift]

/-- The gradient in the unscaled scores. -/
theorem v77_apply (h : Fin 8) (i : Fin 4096) (j : Fin 4352) :
    val_main_v77 (F := Ideal) x0 x1 x2 x3 x4 x5 (ix3 h i j)
      = ((dscore (ss r0 r1 r3 r4 h) (vv r2 h) (gg r5 h) i j * cA : ℝ) : EReal) := by
  rw [val_main_v77_apply, v75_apply h0 h1 h2 h3 h4 h5, val_main_v76_apply, val_main_cst_12_apply, Ideal.ofBits_def, ofBits_cA,
    Ideal.mulf_def, EReal.coe_mul]

/-- The key gradient. -/
theorem v79_apply (j : Fin 4352) (h : Fin 8) (d : Fin 96) :
    val_main_v79 (F := Ideal) x0 x1 x2 x3 x4 x5 (ix3 j h d) = (DK r0 r1 r2 r3 r4 r5 h j d : EReal) := by
  rw [val_main_v79_apply, show idx_main_v79 (ix3 j h d) = ix3 h j d from ext3 _ _ rfl rfl rfl, val_main_v78_apply]
  unfold DK dkey
  rw [Finset.sum_mul]
  refine sum_eq_coe fun i => ?_
  rw [show lidx_main_v78 (ix3 h j d) i = ix3 h i j from ext3 _ _ rfl rfl rfl,
    show ridx_main_v78 (ix3 h j d) i = ix3 i h d from ext3 _ _ rfl rfl rfl, v77_apply h0 h1 h2 h3 h4 h5,
    v23_apply h0 h3 h4, ← EReal.coe_mul, mul_right_comm]

/-- The gradient in the rotated queries. -/
theorem v81_apply (i : Fin 4096) (h : Fin 8) (d : Fin 96) :
    val_main_v81 (F := Ideal) x0 x1 x2 x3 x4 x5 (ix3 i h d)
      = (dqry cA (ss r0 r1 r3 r4 h) (kk r1 h) (vv r2 h) (gg r5 h) i d : EReal) := by
  rw [val_main_v81_apply, show idx_main_v81 (ix3 i h d) = ix3 h i d from ext3 _ _ rfl rfl rfl, val_main_v80_apply]
  unfold dqry
  rw [Finset.sum_mul]
  refine sum_eq_coe fun j => ?_
  rw [show lidx_main_v80 (ix3 h i d) j = ix3 h i j from ext3 _ _ rfl rfl rfl,
    show ridx_main_v80 (ix3 h i d) j = ix3 j h d from ext3 _ _ rfl rfl rfl, v77_apply h0 h1 h2 h3 h4 h5,
    h1, ← EReal.coe_mul, mul_right_comm]
  rfl

/-- The value gradient. -/
theorem v63_apply (j : Fin 4352) (h : Fin 8) (d : Fin 64) :
    val_main_v63 (F := Ideal) x0 x1 x3 x4 x5 (ix3 j h d) = (DV r0 r1 r3 r4 r5 h j d : EReal) := by
  rw [val_main_v63_apply, show idx_main_v63 (ix3 j h d) = ix3 h d j from ext3 _ _ rfl rfl rfl, val_main_v62_apply]
  unfold DV dval
  refine sum_eq_coe fun i => ?_
  obtain ⟨m, hm⟩ := v27_real h0 h1 h3 h4 h i
  rw [show lidx_main_v62 (ix3 h d j) i = ix3 h d i from ext3 _ _ rfl rfl rfl,
    show ridx_main_v62 (ix3 h d j) i = ix3 h i j from ext3 _ _ rfl rfl rfl, v60_apply h5, v51_apply h0 h1 h3 h4 h i hm,
    ← EReal.coe_mul, mul_comm]

/-- The first halves of the pairs of the gradient in the rotated queries. -/
theorem v86_apply (i : Fin 4096) (h : Fin 8) (a : Fin 2) (t : Fin 8) :
    val_main_v86 (F := Ideal) x0 x1 x2 x3 x4 x5 (ix4 i h a t)
      = (dqry cA (ss r0 r1 r3 r4 h) (kk r1 h) (vv r2 h) (gg r5 h) i ⟨64 + 16 * a.val + t.val, by omega⟩ : EReal) := by
  rw [val_main_v86_apply, val_main_v85_apply, val_main_v84_apply, val_main_v83_apply]
  refine (congrArg _ (?_ : _ = ix3 i h ⟨64 + 16 * a.val + t.val, by omega⟩)).trans (v81_apply h0 h1 h2 h3 h4 h5 i h _)
  refine ext3 _ _ ?_ ?_ ?_
  all_goals (have := i.isLt; have := h.isLt; have := a.isLt; have := t.isLt)
  all_goals simp only [ix4_0, ix4_1, ix4_2, ix4_3, ix3_0, ix3_1, ix3_2]
  all_goals omega

/-- The second halves. -/
theorem v88_apply (i : Fin 4096) (h : Fin 8) (a : Fin 2) (t : Fin 8) :
    val_main_v88 (F := Ideal) x0 x1 x2 x3 x4 x5 (ix4 i h a t)
      = (dqry cA (ss r0 r1 r3 r4 h) (kk r1 h) (vv r2 h) (gg r5 h) i ⟨64 + 16 * a.val + 8 + t.val, by omega⟩ : EReal) := by
  rw [val_main_v88_apply, val_main_v87_apply, val_main_v84_apply, val_main_v83_apply]
  refine (congrArg _ (?_ : _ = ix3 i h ⟨64 + 16 * a.val + 8 + t.val, by omega⟩)).trans (v81_apply h0 h1 h2 h3 h4 h5 i h _)
  refine ext3 _ _ ?_ ?_ ?_
  all_goals (have := i.isLt; have := h.isLt; have := a.isLt; have := t.isLt)
  all_goals simp only [ix4_0, ix4_1, ix4_2, ix4_3, ix3_0, ix3_1, ix3_2]
  all_goals omega

/-- The first halves, turned back. -/
theorem v99_apply (i : Fin 4096) (h : Fin 8) (a : Fin 2) (t : Fin 8) :
    val_main_v99 (F := Ideal) x0 x1 x2 x3 x4 x5 (ix4 i h a t)
      = ((dqry cA (ss r0 r1 r3 r4 h) (kk r1 h) (vv r2 h) (gg r5 h) i ⟨64 + 16 * a.val + t.val, by omega⟩ * r3 (ix3 i a t)
          + dqry cA (ss r0 r1 r3 r4 h) (kk r1 h) (vv r2 h) (gg r5 h) i ⟨64 + 16 * a.val + 8 + t.val, by omega⟩ * r4 (ix3 i a t) : ℝ) : EReal) := by
  rw [val_main_v99_apply, val_main_v90_apply, val_main_v98_apply, v86_apply h0 h1 h2 h3 h4 h5, v88_apply h0 h1 h2 h3 h4 h5,
    val_main_v89_apply, val_main_v97_apply, val_main_v7_apply, val_main_v8_apply, h3, h4,
    show idx_main_v7 (idx_main_v97 (ix4 i h a t)) = ix3 i a t from ext3 _ _ rfl rfl rfl,
    show idx_main_v8 (idx_main_v89 (ix4 i h a t)) = ix3 i a t from ext3 _ _ rfl rfl rfl,
    Ideal.mulf_def, Ideal.mulf_def, Ideal.addf_def, ← EReal.coe_mul, ← EReal.coe_mul, ← EReal.coe_add, add_comm]

/-- The second halves, turned back. -/
theorem v96_apply (i : Fin 4096) (h : Fin 8) (a : Fin 2) (t : Fin 8) :
    val_main_v96 (F := Ideal) x0 x1 x2 x3 x4 x5 (ix4 i h a t)
      = ((dqry cA (ss r0 r1 r3 r4 h) (kk r1 h) (vv r2 h) (gg r5 h) i ⟨64 + 16 * a.val + 8 + t.val, by omega⟩ * r3 (ix3 i a t)
          - dqry cA (ss r0 r1 r3 r4 h) (kk r1 h) (vv r2 h) (gg r5 h) i ⟨64 + 16 * a.val + t.val, by omega⟩ * r4 (ix3 i a t) : ℝ) : EReal) := by
  rw [val_main_v96_apply, val_main_v92_apply, val_main_v95_apply, val_main_v93_apply, v86_apply h0 h1 h2 h3 h4 h5,
    v88_apply h0 h1 h2 h3 h4 h5,
    val_main_v91_apply, val_main_v94_apply, val_main_v7_apply, val_main_v8_apply, h3, h4,
    show idx_main_v7 (idx_main_v91 (ix4 i h a t)) = ix3 i a t from ext3 _ _ rfl rfl rfl,
    show idx_main_v8 (idx_main_v94 (ix4 i h a t)) = ix3 i a t from ext3 _ _ rfl rfl rfl,
    Ideal.mulf_def, Ideal.mulf_def, Ideal.addf_def, sub_eq_add_neg, ← neg_mul, EReal.coe_add, EReal.coe_mul, EReal.coe_mul,
    EReal.coe_neg]
  rfl

/-- The rotated quarter of the query gradient, turned back. -/
theorem v105_apply (i : Fin 4096) (h : Fin 8) (d : Fin 96) (hd : ¬ d.val < 64) :
    val_main_v105 (F := Ideal) x0 x1 x2 x3 x4 x5 (ix3 i h ⟨d.val - 64, by omega⟩)
      = (DQ r0 r1 r2 r3 r4 r5 h i d : EReal) := by
  have hd' := d.isLt; have hh := h.isLt; have hi := i.isLt
  have e0 : i.val = ((i.val * 8 + h.val) * 32 + (d.val - 64)) / 256 := by omega
  have e1 : h.val = ((i.val * 8 + h.val) * 32 + (d.val - 64)) / 32 % 8 := by omega
  have e2 : d.val / 16 % 2 = ((i.val * 8 + h.val) * 32 + (d.val - 64)) / 16 % 2 := by omega
  have e3 : d.val / 8 % 2 = ((i.val * 8 + h.val) * 32 + (d.val - 64)) / 8 % 2 := by omega
  have e4 : d.val % 8 = ((i.val * 8 + h.val) * 32 + (d.val - 64)) % 8 := by omega
  rw [val_main_v105_apply, val_main_v104_apply, Ideal.addf_def]
  unfold val_main_v101 val_main_v103 DQ rotT
  rw [if_neg hd]
  by_cases hb : d.val / 8 % 2 = 0
  · rw [dif_pos hb]
    refine (congrArg₂ (· + ·) (pad_apply_of_not_inside (s := S4096x8x2x1x8) (a := 3) (ha := ?_) ..) rfl).trans ?_
    rotate_left
    · rw [val_main_cst_13_apply, Ideal.ofBits_def, Ideal.ofBits_zero_f32, zero_add]
      refine (pad_apply_of_inside (s := S4096x8x2x1x8) (k := (ix5 i h (pairOf d) 0 (freqOf d) : S4096x8x2x1x8.Idx)) (hk := fun b => ?_) ..).trans ?_
      · match b with
        | ⟨0, _⟩ => exact (e0.symm.trans (by show _ = 0 + i.val * 1; omega))
        | ⟨1, _⟩ => exact (e1.symm.trans (by show _ = 0 + h.val * 1; omega))
        | ⟨2, _⟩ => exact (e2.symm.trans (by show _ = 0 + (d.val / 16 % 2) * 1; omega))
        | ⟨3, _⟩ => exact (e3.symm.trans (by show _ = 0 + 0 * 1; omega))
        | ⟨4, _⟩ => exact (e4.symm.trans (by show _ = 0 + (d.val % 8) * 1; omega))
      · rw [val_main_v102_apply]
        refine (congrArg _ (?_ : _ = ix4 i h (pairOf d) (freqOf d))).trans ?_
        · exact funext fun a => Fin.ext (match a with | ⟨0, _⟩ => rfl | ⟨1, _⟩ => rfl | ⟨2, _⟩ => rfl | ⟨3, _⟩ => rfl)
        rw [v99_apply h0 h1 h2 h3 h4 h5]
        refine congrArg (fun y : ℝ => (y : EReal)) ?_
        congr 3
        · exact Fin.ext (by show 64 + 16 * (d.val / 16 % 2) + d.val % 8 = d.val; omega)
        · exact Fin.ext (by show 64 + 16 * (d.val / 16 % 2) + 8 + d.val % 8 = d.val + 8; omega)
    · rintro ⟨h1', -, -⟩
      have : 1 ≤ ((i.val * 8 + h.val) * 32 + (d.val - 64)) / 8 % 2 := h1'
      omega
  · rw [dif_neg hb]
    refine (congrArg₂ (· + ·) rfl (pad_apply_of_not_inside (s := S4096x8x2x1x8) (a := 3) (ha := ?_) ..)).trans ?_
    rotate_left
    · rw [val_main_cst_14_apply, Ideal.ofBits_def, Ideal.ofBits_zero_f32, add_zero]
      refine (pad_apply_of_inside (s := S4096x8x2x1x8) (k := (ix5 i h (pairOf d) 0 (freqOf d) : S4096x8x2x1x8.Idx)) (hk := fun b => ?_) ..).trans ?_
      · match b with
        | ⟨0, _⟩ => exact (e0.symm.trans (by show _ = 0 + i.val * 1; omega))
        | ⟨1, _⟩ => exact (e1.symm.trans (by show _ = 0 + h.val * 1; omega))
        | ⟨2, _⟩ => exact (e2.symm.trans (by show _ = 0 + (d.val / 16 % 2) * 1; omega))
        | ⟨3, _⟩ => exact (e3.symm.trans (by show _ = 1 + 0 * 1; omega))
        | ⟨4, _⟩ => exact (e4.symm.trans (by show _ = 0 + (d.val % 8) * 1; omega))
      · rw [val_main_v100_apply]
        refine (congrArg _ (?_ : _ = ix4 i h (pairOf d) (freqOf d))).trans ?_
        · exact funext fun a => Fin.ext (match a with | ⟨0, _⟩ => rfl | ⟨1, _⟩ => rfl | ⟨2, _⟩ => rfl | ⟨3, _⟩ => rfl)
        rw [v96_apply h0 h1 h2 h3 h4 h5]
        refine congrArg (fun y : ℝ => (y : EReal)) ?_
        congr 3
        · exact Fin.ext (by show 64 + 16 * (d.val / 16 % 2) + 8 + d.val % 8 = d.val; omega)
        · exact Fin.ext (by show 64 + 16 * (d.val / 16 % 2) + d.val % 8 = d.val - 8; omega)
    · rintro ⟨-, -, h1'⟩
      have : (((i.val * 8 + h.val) * 32 + (d.val - 64)) / 8 % 2 - 0) / 1 < 1 := h1'
      omega

/-- The query gradient. -/
theorem v108_apply (i : Fin 4096) (h : Fin 8) (d : Fin 96) :
    val_main_v108 (F := Ideal) x0 x1 x2 x3 x4 x5 (ix3 i h d) = (DQ r0 r1 r2 r3 r4 r5 h i d : EReal) := by
  rw [val_main_v108_apply, Ideal.addf_def]
  unfold val_main_v106 val_main_v107
  by_cases hd : d.val < 64
  · refine (congrArg₂ (· + ·) (pad_apply_of_not_inside (s := S4096x8x32) (a := 2) (ha := ?_) ..) rfl).trans ?_
    rotate_left
    · rw [val_main_cst_15_apply, Ideal.ofBits_def, Ideal.ofBits_zero_f32, zero_add]
      refine (pad_apply_of_inside (s := S4096x8x64) (k := (ix3 i h ⟨d.val, hd⟩ : S4096x8x64.Idx)) (hk := fun b => ?_) ..).trans ?_
      · match b with
        | ⟨0, _⟩ => show i.val = 0 + i.val * 1; omega
        | ⟨1, _⟩ => show h.val = 0 + h.val * 1; omega
        | ⟨2, _⟩ => show d.val = 0 + d.val * 1; omega
      · rw [val_main_v82_apply, show idx_main_v82 (ix3 i h ⟨d.val, hd⟩) = ix3 i h d from ext3 _ _ rfl rfl rfl,
          v81_apply h0 h1 h2 h3 h4 h5]
        unfold DQ rotT
        rw [if_pos hd]
    · rintro ⟨h1', -, -⟩
      have : 64 ≤ d.val := h1'
      omega
  · refine (congrArg₂ (· + ·) rfl (pad_apply_of_not_inside (s := S4096x8x64) (a := 2) (ha := ?_) ..)).trans ?_
    rotate_left
    · rw [val_main_cst_16_apply, Ideal.ofBits_def, Ideal.ofBits_zero_f32, add_zero]
      refine (pad_apply_of_inside (s := S4096x8x32) (k := (ix3 i h ⟨d.val - 64, by omega⟩ : S4096x8x32.Idx)) (hk := fun b => ?_) ..).trans ?_
      · match b with
        | ⟨0, _⟩ => show i.val = 0 + i.val * 1; omega
        | ⟨1, _⟩ => show h.val = 0 + h.val * 1; omega
        | ⟨2, _⟩ => show d.val = 64 + (d.val - 64) * 1; omega
      · exact v105_apply h0 h1 h2 h3 h4 h5 i h d hd
    · rintro ⟨-, -, h1'⟩
      have : (d.val - 0) / 1 < 64 := h1'
      omega

/-- The first result. -/
theorem v111_apply (y : S4096x1024.Idx) :
    val_main_v111 (F := Ideal) x0 x1 x2 x3 x4 x5 y = (outQ r0 r1 r2 r3 r4 r5 y : EReal) := by
  have hy0 : (y 0).val < 4096 := (y 0).isLt
  have hy1 : (y 1).val < 1024 := (y 1).isLt
  rw [val_main_v111_apply, val_main_v110_apply, Ideal.truncf_def]
  unfold val_main_v109 outQ ext96
  by_cases hd : (y 1).val % 128 < 96
  · rw [dif_pos hd]
    refine (pad_apply_of_inside (s := S4096x8x96) (k := (ix3 (y 0) ⟨(y 1).val / 128, by omega⟩ ⟨(y 1).val % 128, hd⟩ : S4096x8x96.Idx)) (hk := fun b => ?_) ..).trans ?_
    · match b with
      | ⟨0, _⟩ => show ((y 0).val * 1024 + (y 1).val) / 1024 = 0 + (y 0).val * 1; omega
      | ⟨1, _⟩ => show ((y 0).val * 1024 + (y 1).val) / 128 % 8 = 0 + (y 1).val / 128 * 1; omega
      | ⟨2, _⟩ => show ((y 0).val * 1024 + (y 1).val) % 128 = 0 + (y 1).val % 128 * 1; omega
    · exact v108_apply h0 h1 h2 h3 h4 h5 _ _ _
  · rw [dif_neg hd]
    refine (pad_apply_of_not_inside (s := S4096x8x96) (a := 2) (ha := ?_) ..).trans ?_
    rotate_left
    · rw [val_main_call0_v0_apply, val_main_c_apply]
      show (((0#32 : BitVec 32).toInt : ℝ) : EReal) = _
      norm_num
    · rintro ⟨-, -, h1'⟩
      have : (((y 0).val * 1024 + (y 1).val) % 128 - 0) / 1 < 96 := h1'
      omega

/-- The second result. -/
theorem v114_apply (y : S4352x1024.Idx) :
    val_main_v114 (F := Ideal) x0 x1 x2 x3 x4 x5 y = (outK r0 r1 r2 r3 r4 r5 y : EReal) := by
  have hy0 : (y 0).val < 4352 := (y 0).isLt
  have hy1 : (y 1).val < 1024 := (y 1).isLt
  rw [val_main_v114_apply, val_main_v113_apply, Ideal.truncf_def]
  unfold val_main_v112 outK ext96
  by_cases hd : (y 1).val % 128 < 96
  · rw [dif_pos hd]
    refine (pad_apply_of_inside (s := S4352x8x96) (k := (ix3 (y 0) ⟨(y 1).val / 128, by omega⟩ ⟨(y 1).val % 128, hd⟩ : S4352x8x96.Idx)) (hk := fun b => ?_) ..).trans ?_
    · match b with
      | ⟨0, _⟩ => show ((y 0).val * 1024 + (y 1).val) / 1024 = 0 + (y 0).val * 1; omega
      | ⟨1, _⟩ => show ((y 0).val * 1024 + (y 1).val) / 128 % 8 = 0 + (y 1).val / 128 * 1; omega
      | ⟨2, _⟩ => show ((y 0).val * 1024 + (y 1).val) % 128 = 0 + (y 1).val % 128 * 1; omega
    · exact v79_apply h0 h1 h2 h3 h4 h5 _ _ _
  · rw [dif_neg hd]
    refine (pad_apply_of_not_inside (s := S4352x8x96) (a := 2) (ha := ?_) ..).trans ?_
    rotate_left
    · rw [val_main_call1_v0_apply, val_main_c_17_apply]
      show (((0#32 : BitVec 32).toInt : ℝ) : EReal) = _
      norm_num
    · rintro ⟨-, -, h1'⟩
      have : (((y 0).val * 1024 + (y 1).val) % 128 - 0) / 1 < 96 := h1'
      omega

/-- The third result. -/
theorem v116_apply (y : S4352x512.Idx) :
    val_main_v116 (F := Ideal) x0 x1 x3 x4 x5 y = (outV r0 r1 r3 r4 r5 y : EReal) := by
  have hy0 : (y 0).val < 4352 := (y 0).isLt
  have hy1 : (y 1).val < 512 := (y 1).isLt
  rw [val_main_v116_apply, val_main_v115_apply, Ideal.truncf_def]
  refine (congrArg _ (?_ : _ = ix3 (y 0) ⟨(y 1).val / 64, by omega⟩ ⟨(y 1).val % 64, by omega⟩)).trans
    (v63_apply h0 h1 h2 h3 h4 h5 _ _ _)
  refine ext3 _ _ ?_ ?_ ?_
  · show ((y 0).val * 512 + (y 1).val) / 512 = (y 0).val; omega
  · show ((y 0).val * 512 + (y 1).val) / 64 % 8 = (y 1).val / 64; omega
  · show ((y 0).val * 512 + (y 1).val) % 64 = (y 1).val % 64; omega

end Score

end Cert.Attn.Ref

end
-- ==== Proof.HostK.lean ====
module

public import proofs.«01_k».proof.Proof.RefGrad
public import proofs.«01_k».proof.Proof.Gen.KernelIdeal.Value
public import Idealize.ShloMosaic.Lib.StableHlo.RunRead

@[expose] public section

set_option maxRecDepth 16384

noncomputable section

namespace Cert.Attn.HostK

open Idealize.ShloMosaic Idealize.ShloMosaic.TcCoe Idealize.SL.Sem Idealize.ShloMosaic.ValueIdx
open Cert.KernelIdeal Cert.KernelIdeal.Gen
open Cert.ReferenceIdeal.Read (val_main_v23 val_main_v26 val_main_v27 val_main_v33 val_main_v34 val_main_v44 val_main_v45
  val_main_v46 val_main_v47 val_main_v48 val_main_v49 val_main_v50 val_main_v51 val_main_v55 val_main_v56 val_main_v57)

variable (m : (ℓ : Loc nD τ sig) → Buf (Elt Ideal) ℓ) (c : Dev nD)

/-- The unrotated queries. -/
abbrev X0 : (⟨S4096x8x96, .f32⟩ : BufTy).Contents (Elt Ideal) := m (c.tc.loc main_arg0)
/-- The rotated keys. -/
abbrev X1 : (⟨S4352x8x96, .f32⟩ : BufTy).Contents (Elt Ideal) := m (c.tc.loc main_arg1)
/-- The values. -/
abbrev X2 : (⟨S4352x8x64, .f32⟩ : BufTy).Contents (Elt Ideal) := m (c.tc.loc main_arg2)
/-- The cosine table. -/
abbrev X3 : (⟨S4096x2x8, .f32⟩ : BufTy).Contents (Elt Ideal) := m (c.tc.loc main_arg3)
/-- The sine table. -/
abbrev X4 : (⟨S4096x2x8, .f32⟩ : BufTy).Contents (Elt Ideal) := m (c.tc.loc main_arg4)
/-- The output's gradient. -/
abbrev X5 : (⟨S4096x1024, .f32⟩ : BufTy).Contents (Elt Ideal) := m (c.tc.loc main_arg5)

/-- The rotated queries on the host are the reference's. -/
theorem V23 : V m c main_v23 = val_main_v23 (F := Ideal) (X0 m c) (X3 m c) (X4 m c) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The scalar a pad fills with. -/
abbrev z0 : (⟨S_, .f32⟩ : BufTy).Contents (Elt Ideal) := sitofp (F := Ideal) .f32 (constantI S_ 32 0#32)

/-- The kernel's query operand. -/
theorem V44 : V m c main_v44 = (truncf (F := Ideal) (φ := .f32) .bf16 (shapeCast S4096x1024 (pad S4096x8x128 ![0, 0, 0] ![0, 0, 32] ![0, 0, 0]
    (val_main_v23 (F := Ideal) (X0 m c) (X3 m c) (X4 m c)) z0 pads_S4096x8x96_S4096x8x128_000_000_0320 h_S_)
      shapeCasts_S4096x8x128_S4096x1024) bitsLt_bf16_f32 : (⟨S4096x1024, .bf16⟩ : BufTy).Contents (Elt Ideal)) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's key and value operand. -/
theorem V49 : V m c main_v49 = (truncf (F := Ideal) (φ := .f32) .bf16 (concatenate S4352x1536 1 [⟨S4352x1024, shapeCast S4352x1024 (pad S4352x8x128 ![0, 0, 0] ![0, 0, 32] ![0, 0, 0]
      (X1 m c) z0 pads_S4352x8x96_S4352x8x128_000_000_0320 h_S_) shapeCasts_S4352x8x128_S4352x1024⟩,
    ⟨S4352x512, shapeCast S4352x512 (X2 m c) shapeCasts_S4352x8x64_S4352x512⟩] concatenates_S4352x1024_S4352x512_S4352x1536_d1) bitsLt_bf16_f32
      : (⟨S4352x1536, .bf16⟩ : BufTy).Contents (Elt Ideal)) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The host's exponentials, shifted by the row maximum. -/
abbrev E : (⟨S8x4096x4352, .f32⟩ : BufTy).Contents (Elt Ideal) :=
  Host.exp (F := Ideal) (φ := .f32) (subf (F := Ideal) (φ := .f32) (val_main_v26 (F := Ideal) (X0 m c) (X1 m c) (X3 m c) (X4 m c))
    (broadcastInDim S8x4096x4352 ![0, 1, 2] bcast_S8x4096x1_S8x4096x4352_0_1_2
      (broadcastInDim S8x4096x1 ![0, 1] bcast_S8x4096_S8x4096x1_0_1 (val_main_v27 (F := Ideal) (X0 m c) (X1 m c) (X3 m c) (X4 m c)))))

/-- They are the reference's: the larger of minus infinity and a value is the value. -/
theorem E_eq : val_main_v47 (F := Ideal) (X0 m c) (X1 m c) (X3 m c) (X4 m c) = E m c := by
  have h : val_main_v34 (F := Ideal) (X0 m c) (X1 m c) (X3 m c) (X4 m c) = val_main_v27 (F := Ideal) (X0 m c) (X1 m c) (X3 m c) (X4 m c) := by
    funext y
    rw [Cert.ReferenceIdeal.Read.val_main_v34_apply, Cert.ReferenceIdeal.Read.val_main_v33_apply, Cert.ReferenceIdeal.Read.val_main_cst_2_apply,
      Ideal.ofBits_def, ofBits_bot, Ideal.maximumf_def, max_eq_right bot_le]
  unfold val_main_v47 val_main_v46 val_main_v45 val_main_v44
  rw [h]

/-- The attention output on the host is the reference's. -/
theorem V38 : V m c main_v38 = val_main_v57 (F := Ideal) (X0 m c) (X1 m c) (X2 m c) (X3 m c) (X4 m c) := by
  unfold val_main_v57 val_main_v56 val_main_v55 val_main_v51 val_main_v50 val_main_v49 val_main_v48
  rw [E_eq]
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's softmax statistics, in base two. -/
theorem V55 : V m c main_v55 = (shapeCast S32x4096 (pad S4x8x4096 ![0, 0, 0] ![0, 6, 0] ![0, 0, 0]
    (shapeCast S4x2x4096 (Host.divf (F := Ideal) (φ := .f32) (shapeCast S8x4096 (addf (F := Ideal) (φ := .f32) (broadcastInDim S8x4096x1 ![0, 1] bcast_S8x4096_S8x4096x1_0_1
        (val_main_v27 (F := Ideal) (X0 m c) (X1 m c) (X3 m c) (X4 m c)))
        (Host.log (F := Ideal) (φ := .f32) (val_main_v49 (F := Ideal) (X0 m c) (X1 m c) (X3 m c) (X4 m c)))) shapeCasts_S8x4096x1_S8x4096)
      (broadcastInDim S8x4096 ![] bcast_S_S8x4096 (Host.log (F := Ideal) (φ := .f32) (constant (F := Ideal) S_ .f32 0x40000000#32)))) shapeCasts_S8x4096_S4x2x4096)
      z0 pads_S4x2x4096_S4x8x4096_000_060_000 h_S_) shapeCasts_S4x8x4096_S32x4096 : (⟨S32x4096, .f32⟩ : BufTy).Contents (Elt Ideal)) := by
  unfold val_main_v49 val_main_v48
  rw [E_eq]
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's cosine operand. -/
theorem V67 : V m c main_v67 = (concatenate S4096x128 1 [⟨S4096x64, broadcastInDim S4096x64 ![] bcast_S_S4096x64 (constant (F := Ideal) S_ .f32 0x3F800000#32)⟩,
    ⟨S4096x32, shapeCast S4096x32 (concatenate S4096x2x2x8 2 [⟨S4096x2x1x8, broadcastInDim S4096x2x1x8 ![0, 1, 3] bcast_S4096x2x8_S4096x2x1x8_0_1_3 (X3 m c)⟩,
      ⟨S4096x2x1x8, broadcastInDim S4096x2x1x8 ![0, 1, 3] bcast_S4096x2x8_S4096x2x1x8_0_1_3 (X3 m c)⟩] concatenates_S4096x2x1x8_S4096x2x1x8_S4096x2x2x8_d2)
      shapeCasts_S4096x2x2x8_S4096x32⟩,
    ⟨S4096x32, broadcastInDim S4096x32 ![] bcast_S_S4096x32 (constant (F := Ideal) S_ .f32 0x3F800000#32)⟩] concatenates_S4096x64_S4096x32_S4096x32_S4096x128_d1
      : (⟨S4096x128, .f32⟩ : BufTy).Contents (Elt Ideal)) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's signed sine operand. -/
theorem V68 : V m c main_v68 = (pad S4096x128 ![0, 64] ![0, 32] ![0, 0]
    (shapeCast S4096x32 (concatenate S4096x2x2x8 2 [⟨S4096x2x1x8, broadcastInDim S4096x2x1x8 ![0, 1, 3] bcast_S4096x2x8_S4096x2x1x8_0_1_3 (Host.negf (F := Ideal) (φ := .f32) (X4 m c))⟩,
      ⟨S4096x2x1x8, broadcastInDim S4096x2x1x8 ![0, 1, 3] bcast_S4096x2x8_S4096x2x1x8_0_1_3 (X4 m c)⟩] concatenates_S4096x2x1x8_S4096x2x1x8_S4096x2x2x8_d2)
      shapeCasts_S4096x2x2x8_S4096x32) z0 pads_S4096x32_S4096x128_000_64320 h_S_ : (⟨S4096x128, .f32⟩ : BufTy).Contents (Elt Ideal)) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

end Cert.Attn.HostK
end
-- ==== Proof.HostAt.lean ====
module

public import proofs.«01_k».proof.Proof.HostK

@[expose] public section

set_option maxRecDepth 16384

noncomputable section

namespace Cert.Attn.HostAt

open Idealize.ShloMosaic Idealize.ShloMosaic.TcCoe Idealize.SL.Sem Idealize.ShloMosaic.ValueIdx
open Cert.KernelIdeal Cert.KernelIdeal.Gen Cert.Attn.HostK

variable (m : (ℓ : Loc nD τ sig) → Buf (Elt Ideal) ℓ) (c : Dev nD)
variable {r0 : S4096x8x96.Idx → ℝ} {r1 : S4352x8x96.Idx → ℝ} {r2 : S4352x8x64.Idx → ℝ} {r3 r4 : S4096x2x8.Idx → ℝ}

/-- The filling scalar is zero. -/
theorem z0_first : z0 (Shape.Idx.first h_S_) = ((0 : ℝ) : EReal) := by
  show (((0#32 : BitVec 32).toInt : ℝ) : EReal) = _
  norm_num

/-- A narrowing keeps the value. -/
theorem narrow {s : Shape} (x : s.Idx → EReal) (y : s.Idx) : truncf (F := Ideal) (φ := .f32) .bf16 x bitsLt_bf16_f32 y = x y := rfl

/-- A padded array of queries, its heads laid side by side, at head `h` and lane `d`. -/
theorem padQ (A : S4096x8x96.Idx → EReal) (i : Fin 4096) (h : Fin 8) (d : Fin 128) :
    truncf (F := Ideal) (φ := .f32) .bf16 (shapeCast S4096x1024 (pad S4096x8x128 ![0, 0, 0] ![0, 0, 32] ![0, 0, 0] A z0 pads_S4096x8x96_S4096x8x128_000_000_0320 h_S_)
      shapeCasts_S4096x8x128_S4096x1024) bitsLt_bf16_f32 (ix2 i ⟨128 * h.val + d.val, by omega⟩)
      = if hd : d.val < 96 then A (ix3 i h ⟨d.val, hd⟩) else ((0 : ℝ) : EReal) := by
  rw [narrow]
  refine (shapeCast_apply _ _ _ (ix3 i h d : S4096x8x128.Idx) ?_).trans ?_
  · rw [Shape.rowMajor_val_two, Shape.rowMajor_val_three]
    show (i.val * 8 + h.val) * 128 + d.val = i.val * 1024 + (128 * h.val + d.val); omega
  by_cases hd : d.val < 96
  · rw [dif_pos hd]
    refine pad_apply_of_inside (s := S4096x8x96) (k := (ix3 i h ⟨d.val, hd⟩ : S4096x8x96.Idx)) (hk := fun b => ?_) ..
    match b with
    | ⟨0, _⟩ => show i.val = 0 + i.val * 1; omega
    | ⟨1, _⟩ => show h.val = 0 + h.val * 1; omega
    | ⟨2, _⟩ => show d.val = 0 + d.val * 1; omega
  · rw [dif_neg hd]
    refine (pad_apply_of_not_inside (s := S4096x8x96) (a := 2) (ha := ?_) ..).trans z0_first
    rintro ⟨-, -, h1'⟩
    have : (d.val - 0) / 1 < 96 := h1'
    omega

/-- A padded array of keys, its heads laid side by side, at head `h` and lane `d`. -/
theorem padK (A : S4352x8x96.Idx → EReal) (i : Fin 4352) (h : Fin 8) (d : Fin 128) :
    shapeCast S4352x1024 (pad S4352x8x128 ![0, 0, 0] ![0, 0, 32] ![0, 0, 0] A z0 pads_S4352x8x96_S4352x8x128_000_000_0320 h_S_)
      shapeCasts_S4352x8x128_S4352x1024 (ix2 i ⟨128 * h.val + d.val, by omega⟩)
      = if hd : d.val < 96 then A (ix3 i h ⟨d.val, hd⟩) else ((0 : ℝ) : EReal) := by
  refine (shapeCast_apply _ _ _ (ix3 i h d : S4352x8x128.Idx) ?_).trans ?_
  · rw [Shape.rowMajor_val_two, Shape.rowMajor_val_three]
    show (i.val * 8 + h.val) * 128 + d.val = i.val * 1024 + (128 * h.val + d.val); omega
  by_cases hd : d.val < 96
  · rw [dif_pos hd]
    refine pad_apply_of_inside (s := S4352x8x96) (k := (ix3 i h ⟨d.val, hd⟩ : S4352x8x96.Idx)) (hk := fun b => ?_) ..
    match b with
    | ⟨0, _⟩ => show i.val = 0 + i.val * 1; omega
    | ⟨1, _⟩ => show h.val = 0 + h.val * 1; omega
    | ⟨2, _⟩ => show d.val = 0 + d.val * 1; omega
  · rw [dif_neg hd]
    refine (pad_apply_of_not_inside (s := S4352x8x96) (a := 2) (ha := ?_) ..).trans z0_first
    rintro ⟨-, -, h1'⟩
    have : (d.val - 0) / 1 < 96 := h1'
    omega

/-- Keys then values side by side, read among the keys. -/
theorem catL (A : S4352x1024.Idx → EReal) (B : S4352x512.Idx → EReal) (j : Fin 4352) (l : Fin 1536) (hl : l.val < 1024) :
    truncf (F := Ideal) (φ := .f32) .bf16 (concatenate S4352x1536 1 [⟨S4352x1024, A⟩, ⟨S4352x512, B⟩] concatenates_S4352x1024_S4352x512_S4352x1536_d1) bitsLt_bf16_f32
      (ix2 j l) = A (ix2 j ⟨l.val, hl⟩) := by
  rw [narrow]
  refine concatenate_pair_apply_left (t := S4352x1536) (s₁ := S4352x1024) (s₂ := S4352x512) 1 _ _ _ _ rfl (ix2 j ⟨l.val, hl⟩ : S4352x1024.Idx) fun b => ?_
  match b with
  | ⟨0, _⟩ => rfl
  | ⟨1, _⟩ => rfl

/-- Keys then values side by side, read among the values. -/
theorem catR (A : S4352x1024.Idx → EReal) (B : S4352x512.Idx → EReal) (j : Fin 4352) (l : Fin 512) :
    truncf (F := Ideal) (φ := .f32) .bf16 (concatenate S4352x1536 1 [⟨S4352x1024, A⟩, ⟨S4352x512, B⟩] concatenates_S4352x1024_S4352x512_S4352x1536_d1) bitsLt_bf16_f32
      (ix2 j ⟨1024 + l.val, by omega⟩) = B (ix2 j l) := by
  rw [narrow]
  refine concatenate_pair_apply_right (t := S4352x1536) (s₁ := S4352x1024) (s₂ := S4352x512) 1 _ _ _ _ rfl rfl (ix2 j l : S4352x512.Idx) (fun b hb => ?_) ?_
  · match b with
    | ⟨0, _⟩ => rfl
    | ⟨1, _⟩ => exact absurd rfl hb
  · show l.val + 1024 = 1024 + l.val; omega

/-- The query operand at head `h`, row `i`, lane `d`. -/
theorem V44_apply (h0 : ∀ y, X0 m c y = (r0 y : EReal)) (h3 : ∀ y, X3 m c y = (r3 y : EReal)) (h4 : ∀ y, X4 m c y = (r4 y : EReal))
    (i : Fin 4096) (h : Fin 8) (d : Fin 128) :
    (V m c main_v44 : S4096x1024.Idx → EReal) (ix2 i ⟨128 * h.val + d.val, by omega⟩) = (ext96 (qq r0 r3 r4 h i) d.val : EReal) := by
  rw [V44, padQ]
  unfold ext96
  split
  · exact Ref.v23_apply h0 h3 h4 i h _
  · rfl

/-- The key operand at head `h`, row `j`, lane `d`. -/
theorem V49_key (h1 : ∀ y, X1 m c y = (r1 y : EReal)) (j : Fin 4352) (h : Fin 8) (d : Fin 128) :
    (V m c main_v49 : S4352x1536.Idx → EReal) (ix2 j ⟨128 * h.val + d.val, by omega⟩) = (ext96 (kk r1 h j) d.val : EReal) := by
  rw [V49, catL _ _ _ _ (by show 128 * h.val + d.val < 1024; omega), padK]
  unfold ext96
  split
  · exact h1 _
  · rfl

/-- The value operand at head `h`, row `j`, lane `d`. -/
theorem V49_val (h2 : ∀ y, X2 m c y = (r2 y : EReal)) (j : Fin 4352) (h : Fin 8) (d : Fin 64) :
    (V m c main_v49 : S4352x1536.Idx → EReal) (ix2 j ⟨1024 + (64 * h.val + d.val), by omega⟩) = (vv r2 h j d : EReal) := by
  rw [V49]
  refine (catR _ _ j ⟨64 * h.val + d.val, by omega⟩).trans ?_
  refine (shapeCast_apply _ _ _ (ix3 j h d : S4352x8x64.Idx) ?_).trans (h2 _)
  rw [Shape.rowMajor_val_two, Shape.rowMajor_val_three]
  show (j.val * 8 + h.val) * 64 + d.val = j.val * 512 + (64 * h.val + d.val); omega

/-- The attention output at head `h`, row `i`, lane `d`. -/
theorem V38_apply (h0 : ∀ y, X0 m c y = (r0 y : EReal)) (h1 : ∀ y, X1 m c y = (r1 y : EReal)) (h2 : ∀ y, X2 m c y = (r2 y : EReal))
    (h3 : ∀ y, X3 m c y = (r3 y : EReal)) (h4 : ∀ y, X4 m c y = (r4 y : EReal)) (i : Fin 4096) (h : Fin 8) (d : Fin 64) :
    (V m c main_v38 : S4096x512.Idx → EReal) (ix2 i ⟨64 * h.val + d.val, by omega⟩) = (outRow (ss r0 r1 r3 r4 h) (vv r2 h) i d : EReal) := by
  obtain ⟨μ, hμ⟩ := Ref.v27_real h0 h1 h3 h4 h i
  rw [V38, Cert.ReferenceIdeal.Read.val_main_v57_apply, show Cert.ReferenceIdeal.Read.idx_main_v57 (ix2 i ⟨64 * h.val + d.val, by omega⟩) = ix3 i h d from
    ext3 _ _ (by show (i.val * 512 + (64 * h.val + d.val)) / 512 = i.val; omega) (by show (i.val * 512 + (64 * h.val + d.val)) / 64 % 8 = h.val; omega)
      (by show (i.val * 512 + (64 * h.val + d.val)) % 64 = d.val; omega),
    Cert.ReferenceIdeal.Read.val_main_v56_apply, Cert.ReferenceIdeal.Read.val_main_v55_apply]
  unfold outRow
  refine sum_eq_coe fun j => ?_
  rw [show Cert.ReferenceIdeal.Read.ridx_main_v55 (Cert.ReferenceIdeal.Read.idx_main_v56 (ix3 i h d)) j = ix3 h i j from ext3 _ _ rfl rfl rfl,
    Ref.v51_apply h0 h1 h3 h4 h i hμ, h2,
    show Cert.ReferenceIdeal.Read.lidx_main_v55 (Cert.ReferenceIdeal.Read.idx_main_v56 (ix3 i h d)) j = ix3 j h d from ext3 _ _ rfl rfl rfl,
    ← EReal.coe_mul]
  exact congrArg _ (mul_comm _ _)

/-- The logarithms of the row sums in base two, laid out in groups of eight rows, read at a head of a pair. -/
theorem statsAt (M : S8x4096.Idx → EReal) (Z : S8x4096x1.Idx → EReal) (p : Fin 4) (s : Fin 2) (h : Fin 8) (hh : h.val = 2 * p.val + s.val)
    (i : Fin 4096) (μ z : ℝ) (hz : 0 < z) (hM : M (ix2 h i) = (μ : EReal)) (hZ : Z (ix3 h i 0) = (z : EReal)) :
    shapeCast S32x4096 (pad S4x8x4096 ![0, 0, 0] ![0, 6, 0] ![0, 0, 0]
    (shapeCast S4x2x4096 (Host.divf (F := Ideal) (φ := .f32) (shapeCast S8x4096 (addf (F := Ideal) (φ := .f32) (broadcastInDim S8x4096x1 ![0, 1] bcast_S8x4096_S8x4096x1_0_1 M)
        (Host.log (F := Ideal) (φ := .f32) Z)) shapeCasts_S8x4096x1_S8x4096)
      (broadcastInDim S8x4096 ![] bcast_S_S8x4096 (Host.log (F := Ideal) (φ := .f32) (constant (F := Ideal) S_ .f32 0x40000000#32)))) shapeCasts_S8x4096_S4x2x4096)
      z0 pads_S4x2x4096_S4x8x4096_000_060_000 h_S_) shapeCasts_S4x8x4096_S32x4096 (ix2 ⟨8 * p.val + s.val, by omega⟩ i)
      = (((μ + Real.log z) * (1 / Real.log 2) : ℝ) : EReal) := by
  refine (shapeCast_apply _ _ _ (ix3 p ⟨s.val, by omega⟩ i : S4x8x4096.Idx) ?_).trans ?_
  · rw [Shape.rowMajor_val_two, Shape.rowMajor_val_three]
    show (p.val * 8 + s.val) * 4096 + i.val = (8 * p.val + s.val) * 4096 + i.val; omega
  refine (pad_apply_of_inside (s := S4x2x4096) (k := (ix3 p s i : S4x2x4096.Idx)) (hk := fun b => ?_) ..).trans ?_
  · match b with
    | ⟨0, _⟩ => show p.val = 0 + p.val * 1; omega
    | ⟨1, _⟩ => show s.val = 0 + s.val * 1; omega
    | ⟨2, _⟩ => show i.val = 0 + i.val * 1; omega
  refine (shapeCast_apply _ _ _ (ix2 h i : S8x4096.Idx) ?_).trans ?_
  · rw [Shape.rowMajor_val_two, Shape.rowMajor_val_three]
    show h.val * 4096 + i.val = (p.val * 2 + s.val) * 4096 + i.val; omega
  have e1 : shapeCast S8x4096 (addf (F := Ideal) (φ := .f32) (broadcastInDim S8x4096x1 ![0, 1] bcast_S8x4096_S8x4096x1_0_1 M)
        (Host.log (F := Ideal) (φ := .f32) Z)) shapeCasts_S8x4096x1_S8x4096 (ix2 h i) = ((μ + Real.log z : ℝ) : EReal) := by
    refine (shapeCast_apply _ _ _ (ix3 h i 0 : S8x4096x1.Idx) ?_).trans ?_
    · rw [Shape.rowMajor_val_two, Shape.rowMajor_val_three]
      show (h.val * 4096 + i.val) * 1 + 0 = h.val * 4096 + i.val; omega
    rw [EReal.coe_add]
    refine congrArg₂ (fun a b : EReal => a + b) ?_ ?_
    · refine (broadcastInDim_apply _ _ _ _ (ix2 h i : S8x4096.Idx) fun a => ?_).trans hM
      match a with
      | ⟨0, _⟩ => rfl
      | ⟨1, _⟩ => rfl
    · show Ideal.log (Z (ix3 h i 0)) = _
      rw [hZ, Ideal.log_coe, if_neg (not_le.2 hz)]
  have e2 : broadcastInDim S8x4096 ![] bcast_S_S8x4096 (Host.log (F := Ideal) (φ := .f32) (constant (F := Ideal) S_ .f32 0x40000000#32)) (ix2 h i)
      = ((Real.log 2 : ℝ) : EReal) := by
    refine (broadcastInDim_apply _ _ _ _ (fun a => a.elim0 : S_.Idx) fun a => a.elim0).trans ?_
    show Ideal.log (Ideal.ofBits .f32 0x40000000#32) = _
    rw [ofBits_two, Ideal.log_coe, if_neg (by norm_num)]
  refine (congrArg₂ (FloatOps.hostDivf (F := Ideal) (φ := .f32)) e1 e2).trans ?_
  rw [Ideal.hostDivf_def, Ref.div_real _ _ (Real.log_pos (by norm_num)).ne']

/-- The softmax statistic of head `2 p + s`, row `i`. -/
theorem V55_apply (h0 : ∀ y, X0 m c y = (r0 y : EReal)) (h1 : ∀ y, X1 m c y = (r1 y : EReal))
    (h3 : ∀ y, X3 m c y = (r3 y : EReal)) (h4 : ∀ y, X4 m c y = (r4 y : EReal)) (p : Fin 4) (s : Fin 2) (h : Fin 8) (hh : h.val = 2 * p.val + s.val)
    (i : Fin 4096) (μ : ℝ) (hμ : Cert.ReferenceIdeal.Read.val_main_v27 (F := Ideal) (X0 m c) (X1 m c) (X3 m c) (X4 m c) (ix2 h i) = (μ : EReal)) :
    (V m c main_v55 : S32x4096.Idx → EReal) (ix2 ⟨8 * p.val + s.val, by omega⟩ i)
      = (((μ + Real.log (∑ j, Real.exp (ss r0 r1 r3 r4 h i j - μ))) * (1 / Real.log 2) : ℝ) : EReal) := by
  rw [V55]
  refine statsAt _ _ p s h hh i μ _ (part_shift_pos _ _ _) hμ ?_
  rw [Cert.ReferenceIdeal.Read.val_main_v49_apply, show Cert.ReferenceIdeal.Read.idx_main_v49 (ix3 h i 0) = ix2 h i from ext2 _ _ rfl rfl,
    Ref.v48_apply h0 h1 h3 h4 h i hμ]

/-- The cosine operand at row `i`, lane `d`. -/
def csAt (r3 : S4096x2x8.Idx → ℝ) (i : Fin 4096) (d : Fin 128) : ℝ :=
  if 64 ≤ d.val ∧ d.val < 96 then r3 (ix3 i ⟨d.val / 16 % 2, by omega⟩ ⟨d.val % 8, by omega⟩) else 1
/-- The signed sine operand at row `i`, lane `d`. -/
def snAt (r4 : S4096x2x8.Idx → ℝ) (i : Fin 4096) (d : Fin 128) : ℝ :=
  if 64 ≤ d.val ∧ d.val < 96 then
    if d.val / 8 % 2 = 0 then -r4 (ix3 i ⟨d.val / 16 % 2, by omega⟩ ⟨d.val % 8, by omega⟩)
    else r4 (ix3 i ⟨d.val / 16 % 2, by omega⟩ ⟨d.val % 8, by omega⟩)
  else 0

/-- Two tables laid alternately in runs of eight, read at a lane. -/
theorem pairs_apply (A B : S4096x2x8.Idx → EReal) (i : Fin 4096) (e : Fin 32) :
    shapeCast S4096x32 (concatenate S4096x2x2x8 2 [⟨S4096x2x1x8, broadcastInDim S4096x2x1x8 ![0, 1, 3] bcast_S4096x2x8_S4096x2x1x8_0_1_3 A⟩,
      ⟨S4096x2x1x8, broadcastInDim S4096x2x1x8 ![0, 1, 3] bcast_S4096x2x8_S4096x2x1x8_0_1_3 B⟩] concatenates_S4096x2x1x8_S4096x2x1x8_S4096x2x2x8_d2)
      shapeCasts_S4096x2x2x8_S4096x32 (ix2 i e)
      = if e.val / 8 % 2 = 0 then A (ix3 i ⟨e.val / 16, by omega⟩ ⟨e.val % 8, by omega⟩)
        else B (ix3 i ⟨e.val / 16, by omega⟩ ⟨e.val % 8, by omega⟩) := by
  refine (shapeCast_apply _ _ _ (ix4 i ⟨e.val / 16, by omega⟩ ⟨e.val / 8 % 2, by omega⟩ ⟨e.val % 8, by omega⟩ : S4096x2x2x8.Idx) ?_).trans ?_
  · rw [Shape.rowMajor_val_two, Shape.rowMajor_val_four]
    show ((i.val * 2 + e.val / 16) * 2 + e.val / 8 % 2) * 8 + e.val % 8 = i.val * 32 + e.val; omega
  by_cases he : e.val / 8 % 2 = 0
  · rw [if_pos he]
    refine (concatenate_pair_apply_left (t := S4096x2x2x8) (s₁ := S4096x2x1x8) (s₂ := S4096x2x1x8) 2 _ _ _ _ rfl
      (ix4 i ⟨e.val / 16, by omega⟩ 0 ⟨e.val % 8, by omega⟩ : S4096x2x1x8.Idx) (fun b => ?_)).trans ?_
    · match b with
      | ⟨0, _⟩ => rfl
      | ⟨1, _⟩ => rfl
      | ⟨2, _⟩ => exact he.symm
      | ⟨3, _⟩ => rfl
    refine (broadcastInDim_apply _ _ _ _ (ix3 i ⟨e.val / 16, by omega⟩ ⟨e.val % 8, by omega⟩ : S4096x2x8.Idx) fun a => ?_)
    match a with
    | ⟨0, _⟩ => rfl
    | ⟨1, _⟩ => rfl
    | ⟨2, _⟩ => rfl
  · rw [if_neg he]
    refine (concatenate_pair_apply_right (t := S4096x2x2x8) (s₁ := S4096x2x1x8) (s₂ := S4096x2x1x8) 2 _ _ _ _ rfl rfl
      (ix4 i ⟨e.val / 16, by omega⟩ 0 ⟨e.val % 8, by omega⟩ : S4096x2x1x8.Idx) (fun b hb => ?_) ?_).trans ?_
    · match b with
      | ⟨0, _⟩ => rfl
      | ⟨1, _⟩ => rfl
      | ⟨2, _⟩ => exact absurd rfl hb
      | ⟨3, _⟩ => rfl
    · show 0 + 1 = e.val / 8 % 2; omega
    refine (broadcastInDim_apply _ _ _ _ (ix3 i ⟨e.val / 16, by omega⟩ ⟨e.val % 8, by omega⟩ : S4096x2x8.Idx) fun a => ?_)
    match a with
    | ⟨0, _⟩ => rfl
    | ⟨1, _⟩ => rfl
    | ⟨2, _⟩ => rfl

/-- Three tables side by side. -/
theorem cat3 (A : S4096x64.Idx → EReal) (B C : S4096x32.Idx → EReal) (i : Fin 4096) (d : Fin 128) :
    concatenate S4096x128 1 [⟨S4096x64, A⟩, ⟨S4096x32, B⟩, ⟨S4096x32, C⟩] concatenates_S4096x64_S4096x32_S4096x32_S4096x128_d1 (ix2 i d)
      = if hA : d.val < 64 then A (ix2 i ⟨d.val, hA⟩) else if hB : d.val < 96 then B (ix2 i ⟨d.val - 64, by omega⟩)
        else C (ix2 i ⟨d.val - 96, by omega⟩) := by
  by_cases hA : d.val < 64
  · rw [dif_pos hA]
    refine concatenate_apply_piece (t := S4096x128) 1 _ _ _ 0 (by show 0 < 3; norm_num) S4096x64 A rfl rfl 0 rfl (ix2 i ⟨d.val, hA⟩ : S4096x64.Idx) (fun b hb => ?_) ?_
    · match b with
      | ⟨0, _⟩ => rfl
      | ⟨1, _⟩ => exact absurd rfl hb
    · show 0 + d.val = d.val; omega
  · rw [dif_neg hA]
    by_cases hB : d.val < 96
    · rw [dif_pos hB]
      refine concatenate_apply_piece (t := S4096x128) 1 _ _ _ 1 (by show 1 < 3; norm_num) S4096x32 B rfl rfl 64 rfl (ix2 i ⟨d.val - 64, by omega⟩ : S4096x32.Idx) (fun b hb => ?_) ?_
      · match b with
        | ⟨0, _⟩ => rfl
        | ⟨1, _⟩ => exact absurd rfl hb
      · show 64 + (d.val - 64) = d.val; omega
    · rw [dif_neg hB]
      refine concatenate_apply_piece (t := S4096x128) 1 _ _ _ 2 (by show 2 < 3; norm_num) S4096x32 C rfl rfl 96 rfl (ix2 i ⟨d.val - 96, by omega⟩ : S4096x32.Idx) (fun b hb => ?_) ?_
      · match b with
        | ⟨0, _⟩ => rfl
        | ⟨1, _⟩ => exact absurd rfl hb
      · show 96 + (d.val - 96) = d.val; omega

/-- The cosine operand read at an index. -/
theorem V67_apply (h3 : ∀ y, X3 m c y = (r3 y : EReal)) (i : Fin 4096) (d : Fin 128) :
    (V m c main_v67 : S4096x128.Idx → EReal) (ix2 i d) = (csAt r3 i d : EReal) := by
  rw [V67, cat3]
  unfold csAt
  by_cases hA : d.val < 64
  · rw [dif_pos hA, if_neg (by omega)]
    exact (broadcastInDim_apply _ _ _ _ (fun a => a.elim0 : S_.Idx) fun a => a.elim0).trans ofBits_one
  · rw [dif_neg hA]
    by_cases hB : d.val < 96
    · rw [dif_pos hB, if_pos (by omega), pairs_apply, ite_self, h3]
      refine congrArg (fun y => (r3 y : EReal)) (ext3 _ _ rfl ?_ ?_)
      · show (d.val - 64) / 16 = d.val / 16 % 2; omega
      · show (d.val - 64) % 8 = d.val % 8; omega
    · rw [dif_neg hB, if_neg (by omega)]
      exact (broadcastInDim_apply _ _ _ _ (fun a => a.elim0 : S_.Idx) fun a => a.elim0).trans ofBits_one

/-- The signed sine operand read at an index. -/
theorem V68_apply (h4 : ∀ y, X4 m c y = (r4 y : EReal)) (i : Fin 4096) (d : Fin 128) :
    (V m c main_v68 : S4096x128.Idx → EReal) (ix2 i d) = (snAt r4 i d : EReal) := by
  rw [V68]
  unfold snAt
  by_cases hB : 64 ≤ d.val ∧ d.val < 96
  · rw [if_pos hB]
    refine (pad_apply_of_inside (s := S4096x32) (k := (ix2 i ⟨d.val - 64, by omega⟩ : S4096x32.Idx)) (hk := fun b => ?_) ..).trans ?_
    · match b with
      | ⟨0, _⟩ => show i.val = 0 + i.val * 1; omega
      | ⟨1, _⟩ => show d.val = 64 + (d.val - 64) * 1; omega
    rw [pairs_apply]
    have e : (ix3 i ⟨(d.val - 64) / 16, by omega⟩ ⟨(d.val - 64) % 8, by omega⟩ : S4096x2x8.Idx) = ix3 i ⟨d.val / 16 % 2, by omega⟩ ⟨d.val % 8, by omega⟩ :=
      ext3 _ _ rfl (by show (d.val - 64) / 16 = d.val / 16 % 2; omega) (by show (d.val - 64) % 8 = d.val % 8; omega)
    by_cases he : d.val / 8 % 2 = 0
    · rw [if_pos he, if_pos (by show (d.val - 64) / 8 % 2 = 0; omega)]
      refine (congrArg (Host.negf (F := Ideal) (φ := .f32) (X4 m c)) e).trans ?_
      show -(X4 m c _ : EReal) = _
      rw [h4]
      exact (EReal.coe_neg _).symm
    · rw [if_neg he, if_neg (by show ¬(d.val - 64) / 8 % 2 = 0; omega)]
      exact (congrArg (X4 m c) e).trans (h4 _)
  · rw [if_neg hB]
    refine (pad_apply_of_not_inside (s := S4096x32) (a := 1) (ha := ?_) ..).trans z0_first
    rintro ⟨h1', -, h2'⟩
    have a1 : 64 ≤ d.val := h1'
    have a2 : (d.val - 64) / 1 < 32 := h2'
    omega

end Cert.Attn.HostAt
end
-- ==== Proof.Pays.lean ====
module

public import proofs.«01_k».proof.Proof.Ref
public import proofs.«01_k».proof.Proof.Gen.KernelIdeal.Skeleton

@[expose] public section

set_option maxRecDepth 16384

noncomputable section

namespace Cert.Attn.Pays

open Idealize.ShloMosaic Idealize.ShloMosaic.ValueIdx
open Cert.KernelIdeal Cert.KernelIdeal.Gen

/-! ## The four products of the kernel on real operands -/

section Products

variable {φ₁ φ₂ : FTy} (pr : Option ContractPrecision)

/-- Keys (or values) against queries (or output gradients), both contracted over the lanes. -/
theorem mm_lanes (A : FVec Ideal S4352x128 φ₁) (B : FVec Ideal S512x128 φ₂) (a : Fin 4352 → Fin 128 → ℝ)
    (b : Fin 512 → Fin 128 → ℝ) (hA : ∀ j d, A (ix2 j d) = (a j d : EReal)) (hB : ∀ r d, B (ix2 r d) = (b r d : EReal))
    (j : Fin 4352) (r : Fin 512) :
    matmul dot_S4352x128_S512x128_S4352x512_1_1_0_0_n_n pr A B (constant S4352x512 .f32 0x00000000#32) (ix2 j r)
      = ((∑ d, a j d * b r d : ℝ) : EReal) := by
  refine (Ideal.matmul_constant_zero_apply dot_S4352x128_S512x128_S4352x512_1_1_0_0_n_n pr A B (ix2 j r)).trans ?_
  rw [← Equiv.sum_comp (contrEquiv1 dot_S4352x128_S512x128_S4352x512_1_1_0_0_n_n 128 rfl rfl).symm]
  refine sum_eq_coe fun d => ?_
  rw [EReal.coe_mul, ← hA, ← hB]
  have hc := contrEquiv1_symm_val dot_S4352x128_S512x128_S4352x512_1_1_0_0_n_n 128 rfl rfl d
  exact congrArg₂ (· * ·) (congrArg A (ext2 _ _ rfl ((DotDims.lhsIdx_val_of_single _ rfl _ _).trans hc)))
    (congrArg B (ext2 _ _ rfl ((DotDims.rhsIdx_val_of_single _ rfl _ _).trans hc)))

/-- A row of ones against a tile, contracted over the lanes. -/
theorem mm_ones (A : FVec Ideal S8x128 φ₁) (B : FVec Ideal S512x128 φ₂) (a : Fin 8 → Fin 128 → ℝ)
    (b : Fin 512 → Fin 128 → ℝ) (hA : ∀ j d, A (ix2 j d) = (a j d : EReal)) (hB : ∀ r d, B (ix2 r d) = (b r d : EReal))
    (j : Fin 8) (r : Fin 512) :
    matmul dot_S8x128_S512x128_S8x512_1_1_0_0_n_n pr A B (constant S8x512 .f32 0x00000000#32) (ix2 j r)
      = ((∑ d, a j d * b r d : ℝ) : EReal) := by
  refine (Ideal.matmul_constant_zero_apply dot_S8x128_S512x128_S8x512_1_1_0_0_n_n pr A B (ix2 j r)).trans ?_
  rw [← Equiv.sum_comp (contrEquiv1 dot_S8x128_S512x128_S8x512_1_1_0_0_n_n 128 rfl rfl).symm]
  refine sum_eq_coe fun d => ?_
  rw [EReal.coe_mul, ← hA, ← hB]
  have hc := contrEquiv1_symm_val dot_S8x128_S512x128_S8x512_1_1_0_0_n_n 128 rfl rfl d
  exact congrArg₂ (· * ·) (congrArg A (ext2 _ _ rfl ((DotDims.lhsIdx_val_of_single _ rfl _ _).trans hc)))
    (congrArg B (ext2 _ _ rfl ((DotDims.rhsIdx_val_of_single _ rfl _ _).trans hc)))

/-- A key-by-query tile against query rows, contracted over the tile's queries. -/
theorem mm_rows (A : FVec Ideal S4352x512 φ₁) (B : FVec Ideal S512x128 φ₂) (a : Fin 4352 → Fin 512 → ℝ)
    (b : Fin 512 → Fin 128 → ℝ) (hA : ∀ j r, A (ix2 j r) = (a j r : EReal)) (hB : ∀ r d, B (ix2 r d) = (b r d : EReal))
    (j : Fin 4352) (d : Fin 128) :
    matmul dot_S4352x512_S512x128_S4352x128_1_0_0_1_n_n pr A B (constant S4352x128 .f32 0x00000000#32) (ix2 j d)
      = ((∑ r, a j r * b r d : ℝ) : EReal) := by
  refine (Ideal.matmul_constant_zero_apply dot_S4352x512_S512x128_S4352x128_1_0_0_1_n_n pr A B (ix2 j d)).trans ?_
  rw [← Equiv.sum_comp (contrEquiv1 dot_S4352x512_S512x128_S4352x128_1_0_0_1_n_n 512 rfl rfl).symm]
  refine sum_eq_coe fun r => ?_
  rw [EReal.coe_mul, ← hA, ← hB]
  have hc := contrEquiv1_symm_val dot_S4352x512_S512x128_S4352x128_1_0_0_1_n_n 512 rfl rfl r
  exact congrArg₂ (· * ·) (congrArg A (ext2 _ _ rfl ((DotDims.lhsIdx_val_of_single _ rfl _ _).trans hc)))
    (congrArg B (ext2 _ _ ((DotDims.rhsIdx_val_of_single _ rfl _ _).trans hc) rfl))

/-- A key-by-query tile against key rows, contracted over the keys. -/
theorem mm_keys (A : FVec Ideal S4352x512 φ₁) (B : FVec Ideal S4352x128 φ₂) (a : Fin 4352 → Fin 512 → ℝ)
    (b : Fin 4352 → Fin 128 → ℝ) (hA : ∀ j r, A (ix2 j r) = (a j r : EReal)) (hB : ∀ j d, B (ix2 j d) = (b j d : EReal))
    (r : Fin 512) (d : Fin 128) :
    matmul dot_S4352x512_S4352x128_S512x128_0_0_1_1_n_n pr A B (constant S512x128 .f32 0x00000000#32) (ix2 r d)
      = ((∑ j, a j r * b j d : ℝ) : EReal) := by
  refine (Ideal.matmul_constant_zero_apply dot_S4352x512_S4352x128_S512x128_0_0_1_1_n_n pr A B (ix2 r d)).trans ?_
  rw [← Equiv.sum_comp (contrEquiv1 dot_S4352x512_S4352x128_S512x128_0_0_1_1_n_n 4352 rfl rfl).symm]
  refine sum_eq_coe fun j => ?_
  rw [EReal.coe_mul, ← hA, ← hB]
  have hc := contrEquiv1_symm_val dot_S4352x512_S4352x128_S512x128_0_0_1_1_n_n 4352 rfl rfl j
  exact congrArg₂ (· * ·) (congrArg A (ext2 _ _ ((DotDims.lhsIdx_val_of_single _ rfl _ _).trans hc) rfl))
    (congrArg B (ext2 _ _ ((DotDims.rhsIdx_val_of_single _ rfl _ _).trans hc) rfl))

end Products

/-! ## The lane masks -/

/-- The first head's lane mask holds on the lower 64 lanes. -/
theorem pay13_apply (r : Fin 512) (d : Fin 128) : k0_pay13 (ix2 r d) = if d.val / 64 = 0 then 1#1 else 0#1 := by
  have h : ∀ d : Fin 128, IntOp.andi (IntOp.cmpi .sge (BitVec.ofNat 32 (0 * 128 + d.val)) 0#32)
      (IntOp.cmpi .slt (BitVec.ofNat 32 (0 * 128 + d.val)) 64#32) = if d.val / 64 = 0 then 1#1 else 0#1 := by decide
  exact h d

/-- The second head's lane mask holds on the upper 64 lanes. -/
theorem pay25_apply (r : Fin 512) (d : Fin 128) : k0_pay25 (ix2 r d) = if d.val / 64 = 1 then 1#1 else 0#1 := by
  have h : ∀ d : Fin 128, IntOp.andi (IntOp.cmpi .sge (BitVec.ofNat 32 (0 * 128 + d.val)) 64#32)
      (IntOp.cmpi .slt (BitVec.ofNat 32 (0 * 128 + d.val)) 128#32) = if d.val / 64 = 1 then 1#1 else 0#1 := by decide
  exact h d

/-- A row kept on the 64 lanes of head `h`, zero on the other 64. -/
def keep (h : ℕ) (u : Fin 128 → ℝ) (d : Fin 128) : ℝ := if d.val / 64 = h then u d else 0

/-- The select under a head's mask, against zero, keeps that head's lanes. -/
theorem select_keep (h : ℕ) (M : IVec S512x128 1) (hM : ∀ r d, M (ix2 r d) = if d.val / 64 = h then 1#1 else 0#1)
    (A : S512x128.Idx → EReal) (a : Fin 512 → Fin 128 → ℝ) (hA : ∀ r d, A (ix2 r d) = (a r d : EReal)) (r : Fin 512)
    (d : Fin 128) :
    select M A (broadcast S512x128 (Ideal.ofBits .f32 0x00000000#32)) (ix2 r d) = (keep h (a r) d : EReal) := by
  rw [select_apply, hM, hA]
  unfold keep
  by_cases hd : d.val / 64 = h
  · rw [if_pos hd, if_pos hd]; rfl
  · rw [if_neg hd, if_neg hd]
    exact Ideal.ofBits_zero_f32

/-! ## One tile's payloads on real operands -/

/-- The exponent scale. -/
def eA : ℝ := cA * (Real.log 2)⁻¹

/-- One tile's attention weights from the saved row statistics, keys by queries. -/
def Pt (q : Fin 512 → Fin 128 → ℝ) (k : Fin 4352 → Fin 128 → ℝ) (L : Fin 512 → ℝ) (j : Fin 4352) (r : Fin 512) : ℝ :=
  Real.rpow 2 ((∑ d, k j d * q r d) * eA - L r)

/-- One tile's row sums of output gradient times output over head `h`'s lanes. -/
def Dl (h : ℕ) (o g : Fin 512 → Fin 128 → ℝ) (r : Fin 512) : ℝ := ∑ d, 1 * keep h (fun d => g r d * o r d) d

/-- One tile's score gradients from weights `p`. -/
def Ds (h : ℕ) (v : Fin 4352 → Fin 128 → ℝ) (o g : Fin 512 → Fin 128 → ℝ) (p : Fin 4352 → Fin 512 → ℝ) (j : Fin 4352)
    (r : Fin 512) : ℝ :=
  p j r * (∑ d, v j d * keep h (g r) d - Dl h o g r)

section Tile

variable {x0 : Vec Ideal S512x128 .bf16} {x1 x2 : Vec Ideal S4352x128 .bf16} {x3 x4 : Vec Ideal S512x128 .f32}
  {x5 : Vec Ideal S1x512 .f32}
  {q o g : Fin 512 → Fin 128 → ℝ} {k v : Fin 4352 → Fin 128 → ℝ} {L : Fin 512 → ℝ}
  (h0 : ∀ r d, x0 (ix2 r d) = (q r d : EReal)) (h1 : ∀ j d, x1 (ix2 j d) = (k j d : EReal))
  (h2 : ∀ j d, x2 (ix2 j d) = (v j d : EReal)) (h3 : ∀ r d, x3 (ix2 r d) = (o r d : EReal))
  (h4 : ∀ r d, x4 (ix2 r d) = (g r d : EReal)) (h5 : ∀ r, x5 (ix2 0 r) = (L r : EReal))

include h0 h1 h5 in
/-- The first head's weights. -/
theorem pay16_apply (j : Fin 4352) (r : Fin 512) :
    k0_pay16 (F := Ideal) x0 x1 x5 (ix2 j r) = (Pt q k L j r : EReal) := by
  unfold k0_pay16 k0_pay12 k0_pay11
  simp only [shapeCast_self]
  refine (congrArg (FloatOps.exp2 (F := Ideal) (φ := .f32)) (congrArg₂ (FloatOps.subf (F := Ideal) (φ := .f32))
    (congrArg₂ (FloatOps.mulf (F := Ideal) (φ := .f32)) (mm_lanes none x1 x0 k q h1 h0 j r)
      (IdealRules.named_const.ideal_named_scalar _ _ _ _ rfl))
    ((broadcastTo_apply _ _ _ (ix2 0 r) (fun a => match a with | ⟨0, _⟩ => rfl | ⟨1, _⟩ => rfl)).trans (h5 r)))).trans ?_
  rw [Ideal.subf_def, Ideal.mulf_def, ← EReal.coe_mul, ← EReal.coe_sub]
  exact Ideal.exp2_coe _

include h0 h1 h5 in
/-- The second head's weights. -/
theorem pay27_apply (j : Fin 4352) (r : Fin 512) :
    k0_pay27 (F := Ideal) x0 x1 x5 (ix2 j r) = (Pt q k L j r : EReal) :=
  pay16_apply h0 h1 h5 j r

include h4 in
/-- The output gradient on the first head's lanes. -/
theorem pay14_apply (r : Fin 512) (d : Fin 128) : k0_pay14 (F := Ideal) x4 (ix2 r d) = (keep 0 (g r) d : EReal) :=
  select_keep 0 k0_pay13 pay13_apply x4 g h4 r d

include h4 in
/-- The output gradient on the second head's lanes. -/
theorem pay26_apply (r : Fin 512) (d : Fin 128) : k0_pay26 (F := Ideal) x4 (ix2 r d) = (keep 1 (g r) d : EReal) :=
  select_keep 1 k0_pay25 pay25_apply x4 g h4 r d

include h3 h4 in
/-- The output gradient times the output. -/
theorem pay9_apply (r : Fin 512) (d : Fin 128) :
    k0_pay9 (F := Ideal) x4 x3 (ix2 r d) = ((g r d * o r d : ℝ) : EReal) := by
  unfold k0_pay9
  simp only [shapeCast_self]
  refine (congrArg₂ (FloatOps.mulf (F := Ideal) (φ := .f32)) (h4 r d) (h3 r d)).trans ?_
  rw [Ideal.mulf_def, EReal.coe_mul]

/-- The row of ones. -/
theorem pay10_apply (r : Fin 8) (d : Fin 128) : k0_pay10 (F := Ideal) (ix2 r d) = ((1 : ℝ) : EReal) := ofBits_one

include h3 h4 in
/-- The first head's row sums. -/
theorem pay15_apply (r : Fin 512) : k0_pay15 (F := Ideal) x4 x3 (ix2 0 r) = (Dl 0 o g r : EReal) := by
  unfold k0_pay15
  refine (extractStridedSlice_apply _ _ _ _ (ix2 (0 : Fin 8) r)
    (fun a => match a with | ⟨0, _⟩ => rfl | ⟨1, _⟩ => (Nat.zero_add _).symm)).trans ?_
  exact mm_ones (some .fp32) _ _ (fun _ _ => 1) _ pay10_apply
    (select_keep 0 k0_pay13 pay13_apply _ (fun r d => g r d * o r d) (pay9_apply h3 h4)) 0 r

/-- Score gradients from their three parts. -/
theorem scoreGrad (A : FVec Ideal S4352x512 .f32) (W : FVec Ideal S4352x512 .f32) (D : FVec Ideal S1x512 .f32)
    (a p : Fin 4352 → Fin 512 → ℝ) (e : Fin 512 → ℝ) (hA : ∀ j r, A (ix2 j r) = (a j r : EReal))
    (hW : ∀ j r, W (ix2 j r) = (p j r : EReal)) (hD : ∀ r, D (ix2 0 r) = (e r : EReal)) (j : Fin 4352) (r : Fin 512) :
    mulf W (subf A (broadcastTo S4352x512 D broadcasts_S1x512_S4352x512)) (ix2 j r)
      = ((p j r * (a j r - e r) : ℝ) : EReal) := by
  refine (congrArg₂ (FloatOps.mulf (F := Ideal) (φ := .f32)) (hW j r) (congrArg₂ (FloatOps.subf (F := Ideal) (φ := .f32))
    (hA j r) ((broadcastTo_apply _ _ _ (ix2 0 r) (fun a => match a with | ⟨0, _⟩ => rfl | ⟨1, _⟩ => rfl)).trans (hD r)))).trans ?_
  rw [Ideal.subf_def, Ideal.mulf_def, EReal.coe_mul, EReal.coe_sub]

include h2 h3 h4 in
/-- The first head's score gradients. -/
theorem pay18_apply (W : FVec Ideal S4352x512 .f32) (p : Fin 4352 → Fin 512 → ℝ)
    (hW : ∀ j r, W (ix2 j r) = (p j r : EReal)) (j : Fin 4352) (r : Fin 512) :
    k0_pay18 (F := Ideal) (k0_pay8 x2) (k0_pay14 x4) (k0_pay15 x4 x3) W (ix2 j r) = (Ds 0 v o g p j r : EReal) := by
  unfold k0_pay18 k0_pay8
  simp only [shapeCast_self]
  exact scoreGrad _ _ _ _ _ _ (mm_lanes none x2 _ v _ h2 (pay14_apply h4)) hW (pay15_apply h3 h4) j r

include h0 h1 h2 h3 h4 h5 in
/-- The second head's score gradients. -/
theorem pay28_apply (j : Fin 4352) (r : Fin 512) :
    k0_pay28 (F := Ideal) (k0_pay8 x2) x4 (k0_pay9 x4 x3) k0_pay10 x0 x1 x5 (ix2 j r)
      = (Ds 1 v o g (Pt q k L) j r : EReal) := by
  unfold k0_pay28 k0_pay8
  simp only [shapeCast_self]
  refine scoreGrad _ _ _ _ _ _ (mm_lanes none x2 _ v _ h2 (pay26_apply h4)) (pay27_apply h0 h1 h5) (fun r => ?_) j r
  refine (extractStridedSlice_apply _ _ _ _ (ix2 (0 : Fin 8) r)
    (fun a => match a with | ⟨0, _⟩ => rfl | ⟨1, _⟩ => (Nat.zero_add _).symm)).trans ?_
  exact mm_ones (some .fp32) _ _ (fun _ _ => 1) _ pay10_apply
    (select_keep 1 k0_pay25 pay25_apply _ (fun r d => g r d * o r d) (pay9_apply h3 h4)) 0 r

include h4 in
/-- The value-gradient accumulator after the first head's share. -/
theorem pay19_apply (W : FVec Ideal S4352x512 .f32) (p : Fin 4352 → Fin 512 → ℝ)
    (hW : ∀ j r, W (ix2 j r) = (p j r : EReal)) (acc : Vec Ideal S4352x128 .f32) (j : Fin 4352) (d : Fin 128) :
    k0_pay19 (F := Ideal) (k0_pay14 x4) W acc (ix2 j d)
      = acc (ix2 j d) + ((∑ r, p j r * keep 0 (g r) d : ℝ) : EReal) := by
  unfold k0_pay19
  simp only [shapeCast_self]
  exact congrArg (acc (ix2 j d) + ·) (mm_rows none (k0_pay17 W) (k0_pay14 x4) p (fun r d => keep 0 (g r) d) hW (pay14_apply h4) j d)

include h0 h1 h4 h5 in
/-- The value-gradient accumulator after the second head's share. -/
theorem pay29_apply (acc : Vec Ideal S4352x128 .f32) (j : Fin 4352) (d : Fin 128) :
    k0_pay1 (F := Ideal) (k0_pay29 x4 x0 x1 x5 acc) (ix2 j d)
      = acc (ix2 j d) + ((∑ r, Pt q k L j r * keep 1 (g r) d : ℝ) : EReal) := by
  unfold k0_pay1 k0_pay29
  simp only [shapeCast_self]
  exact congrArg (acc (ix2 j d) + ·) (mm_rows none (k0_pay27 x0 x1 x5) (k0_pay26 x4) (Pt q k L) (fun r d => keep 1 (g r) d)
    (pay27_apply h0 h1 h5) (pay26_apply h4) j d)

include h0 in
/-- The key-gradient accumulator's lower half after the first head's share. -/
theorem pay20_apply (y2 : FVec Ideal S4352x128 .bf16) (y22 : FVec Ideal S512x128 .bf16) (y26 : FVec Ideal S1x512 .f32)
    (y34 : FVec Ideal S4352x512 .f32) (s : Fin 4352 → Fin 512 → ℝ)
    (hS : ∀ j r, k0_pay18 (F := Ideal) y2 y22 y26 y34 (ix2 j r) = (s j r : EReal))
    (acc : Vec Ideal S4352x128 .f32) (j : Fin 4352) (d : Fin 128) :
    k0_pay20 (F := Ideal) y2 (k0_pay11 x0) y22 y26 y34 acc (ix2 j d)
      = acc (ix2 j d) + ((∑ r, s j r * q r d : ℝ) : EReal) := by
  unfold k0_pay20 k0_pay11
  simp only [shapeCast_self]
  exact congrArg (acc (ix2 j d) + ·) (mm_rows none (k0_pay18 y2 y22 y26 y34) x0 s q hS h0 j d)

include h0 in
/-- The key-gradient accumulator's upper half after the second head's share. -/
theorem pay2_apply (S : FVec Ideal S4352x512 .bf16) (s : Fin 4352 → Fin 512 → ℝ)
    (hS : ∀ j r, S (ix2 j r) = (s j r : EReal)) (acc : Vec Ideal S4352x128 .f32) (j : Fin 4352) (d : Fin 128) :
    k0_pay2 (F := Ideal) (k0_pay23 x0) S acc (ix2 j d)
      = acc (ix2 j d) + ((∑ r, s j r * q r d : ℝ) : EReal) := by
  unfold k0_pay2 k0_pay23
  simp only [shapeCast_self]
  exact congrArg (acc (ix2 j d) + ·) (mm_rows none S x0 s q hS h0 j d)

end Tile

/-! ## The query gradient's rotary transpose on 128 lanes -/

/-- The lane rotation: each lane by its cosine, plus the partner lane's product with its signed sine. -/
def turn (cs sn u : Fin 128 → ℝ) (d : Fin 128) : ℝ :=
  u d * cs d + if d.val % 16 < 8 then u ⟨(d.val + 8) % 128, Nat.mod_lt _ (by decide)⟩ * sn ⟨(d.val + 8) % 128, Nat.mod_lt _ (by decide)⟩
    else u ⟨(d.val + 120) % 128, Nat.mod_lt _ (by decide)⟩ * sn ⟨(d.val + 120) % 128, Nat.mod_lt _ (by decide)⟩

section Rotary

variable {x6 x7 : Vec Ideal S512x128 .f32} {cs sn : Fin 512 → Fin 128 → ℝ}
  (h6 : ∀ r d, x6 (ix2 r d) = (cs r d : EReal)) (h7 : ∀ r d, x7 (ix2 r d) = (sn r d : EReal))

include h6 h7 in
/-- The printed rotation of a tile scaled by the attention scale. -/
theorem turn_apply (M : FVec Ideal S512x128 .f32) (w : Fin 512 → Fin 128 → ℝ)
    (hM : ∀ r d, M (ix2 r d) = (w r d : EReal)) (r : Fin 512) (d : Fin 128) :
    addf (mulf (mulf M (broadcast S512x128 (Scalar.ofBits (F := Ideal) .f32 0x3DD105EC#32))) x6)
      (select (cmpi .slt (andi (iota .tc S512x128 32 [1] iota_S512x128_d1_w32) (broadcast S512x128 15#32)) (broadcast S512x128 8#32))
        (dynamicRotate 1 120#32 none (mulf (mulf M (broadcast S512x128 (Scalar.ofBits (F := Ideal) .f32 0x3DD105EC#32))) x7) rotates_S512x128_d1)
        (dynamicRotate 1 8#32 none (mulf (mulf M (broadcast S512x128 (Scalar.ofBits (F := Ideal) .f32 0x3DD105EC#32))) x7) rotates_S512x128_d1))
      (ix2 r d) = (turn (cs r) (sn r) (fun d => w r d * cA) d : EReal) := by
  have hm : ∀ d : Fin 128, IntOp.cmpi .slt (IntOp.andi (BitVec.ofNat 32 (0 * 128 + d.val)) 15#32) 8#32
      = if d.val % 16 < 8 then 1#1 else 0#1 := by decide
  have hN : ∀ (x : Vec Ideal S512x128 .f32) (c : Fin 512 → Fin 128 → ℝ), (∀ r d, x (ix2 r d) = (c r d : EReal)) → ∀ (r : Fin 512)
      (d : Fin 128), mulf (mulf M (broadcast S512x128 (Scalar.ofBits (F := Ideal) .f32 0x3DD105EC#32))) x (ix2 r d)
        = ((w r d * cA * c r d : ℝ) : EReal) := by
    intro x c hx r d
    refine (congrArg₂ (FloatOps.mulf (F := Ideal) (φ := .f32)) (congrArg₂ (FloatOps.mulf (F := Ideal) (φ := .f32)) (hM r d) ofBits_cA)
      (hx r d)).trans ?_
    rw [Ideal.mulf_def, Ideal.mulf_def, EReal.coe_mul, EReal.coe_mul]
  unfold turn
  rw [EReal.coe_add]
  refine congrArg₂ (· + ·) (hN x6 cs h6 r d) ?_
  rw [select_apply]
  refine (congrArg (fun b => Scalar.select b _ _) (hm d)).trans ?_
  by_cases hd : d.val % 16 < 8
  · rw [if_pos hd, if_pos hd]
    exact (dynamicRotate_apply _ _ _ rotates_S512x128_d1 (ix2 r d) (ix2 r ⟨(d.val + 8) % 128, Nat.mod_lt _ (by decide)⟩) (fun b => match b with
      | ⟨0, _⟩ => rfl
      | ⟨1, _⟩ => rfl)).trans (hN x7 sn h7 r _)
  · rw [if_neg hd, if_neg hd]
    exact (dynamicRotate_apply _ _ _ rotates_S512x128_d1 (ix2 r d) (ix2 r ⟨(d.val + 120) % 128, Nat.mod_lt _ (by decide)⟩) (fun b => match b with
      | ⟨0, _⟩ => rfl
      | ⟨1, _⟩ => rfl)).trans (hN x7 sn h7 r _)

variable {x1 : Vec Ideal S4352x128 .bf16} {k : Fin 4352 → Fin 128 → ℝ} (h1 : ∀ j d, x1 (ix2 j d) = (k j d : EReal))

include h1 h6 h7 in
/-- The first head's query gradient. -/
theorem pay22_apply (y2 : FVec Ideal S4352x128 .bf16) (y22 : FVec Ideal S512x128 .bf16) (y26 : FVec Ideal S1x512 .f32)
    (y34 : FVec Ideal S4352x512 .f32) (s : Fin 4352 → Fin 512 → ℝ)
    (hS : ∀ j r, k0_pay18 (F := Ideal) y2 y22 y26 y34 (ix2 j r) = (s j r : EReal)) (r : Fin 512) (d : Fin 128) :
    k0_pay22 (F := Ideal) (k0_pay21 y2 (k0_pay12 x1) y22 y26 y34 x6 x7) (ix2 r d)
      = (turn (cs r) (sn r) (fun d => (∑ j, s j r * k j d) * cA) d : EReal) := by
  unfold k0_pay22 k0_pay21 k0_pay12
  simp only [shapeCast_self]
  exact turn_apply h6 h7 _ _ (mm_keys none (k0_pay18 y2 y22 y26 y34) x1 s k hS h1) r d

include h1 h6 h7 in
/-- The second head's query gradient. -/
theorem pay3_apply (S : FVec Ideal S4352x512 .bf16) (s : Fin 4352 → Fin 512 → ℝ)
    (hS : ∀ j r, S (ix2 j r) = (s j r : EReal)) (r : Fin 512) (d : Fin 128) :
    k0_pay3 (F := Ideal) (k0_pay24 x1) S x6 x7 (ix2 r d)
      = (turn (cs r) (sn r) (fun d => (∑ j, s j r * k j d) * cA) d : EReal) := by
  unfold k0_pay3 k0_pay24
  simp only [shapeCast_self]
  exact turn_apply h6 h7 _ _ (mm_keys none S x1 s k hS h1) r d

end Rotary

/-! ## The results' last steps -/

/-- The key gradient scaled on its way out. -/
theorem pay4_apply (acc : Vec Ideal S4352x256 .f32) (a : Fin 4352 → Fin 256 → ℝ) (hA : ∀ j d, acc (ix2 j d) = (a j d : EReal))
    (j : Fin 4352) (d : Fin 256) : k0_pay4 (F := Ideal) acc (ix2 j d) = ((a j d * cA : ℝ) : EReal) := by
  refine (congrArg₂ (FloatOps.mulf (F := Ideal) (φ := .f32)) (hA j d) ofBits_cA).trans ?_
  rw [Ideal.mulf_def, EReal.coe_mul]

/-- The key-gradient accumulator starts at zero. -/
theorem pay6_apply (y : S4352x256.Idx) : k0_pay6 (F := Ideal) y = 0 := by
  unfold k0_pay6
  simp only [shapeCast_self]
  exact Ideal.ofBits_zero_f32

/-- The value-gradient accumulator starts at zero. -/
theorem pay7_apply (y : S4352x128.Idx) : k0_pay7 (F := Ideal) y = 0 := by
  unfold k0_pay7
  simp only [shapeCast_self]
  exact Ideal.ofBits_zero_f32

end Cert.Attn.Pays
end
-- ==== Proof.Pieces.lean ====
module

public import proofs.«01_k».proof.Proof.Pays
public import proofs.«01_k».proof.Proof.Gen.KernelIdeal.Value
public import Idealize.ShloMosaic.Lib.Tactic
public import Idealize.ShloMosaic.Lib.WritesUnit
public import Idealize.ShloMosaic.Lib.Pipeline.ReadBack

@[expose] public section

set_option maxRecDepth 16384

noncomputable section

namespace Cert.Attn.Pieces

open Idealize.ShloMosaic Idealize.ShloMosaic.TcCoe Idealize.SL.Sem Idealize.ShloMosaic.ValueIdx
open Cert.KernelIdeal Cert.KernelIdeal.Gen

variable {F : FTy → Type} [FloatOps F] [Named F]

/-! ## What one grid point's body leaves, as payloads of the blocks it reads -/

/-- Half `h` of a block 256 lanes wide: one head's 128 lanes. -/
def half {n : ℕ} {e : EltTy} (h : Fin 2) (x : Vec F ⟨2, ![n, 256]⟩ e) : Vec F ⟨2, ![n, 128]⟩ e :=
  fun y => x (ix2 (y 0) ⟨128 * h.val + (y 1).val, by have := (y 1).isLt; have h' : (y 1).val < 128 := this; have := h.isLt; omega⟩)

/-- Row `h` of the statistics block. -/
def srow (h : Fin 2) (x : Vec F S8x512 .f32) : Vec F S1x512 .f32 :=
  fun y => x (ix2 ⟨h.val, by have := h.isLt; omega⟩ (y 1))

/-- Lane `d` of half `h`. -/
abbrev lane (h : Fin 2) (d : Fin 128) : Fin 256 := ⟨128 * h.val + d.val, by have := h.isLt; omega⟩

theorem ld_half0 {n : ℕ} {e : EltTy} (x : Vec F ⟨2, ![n, 256]⟩ e) (inb : ∀ a, (![0, 0] : Fin 2 → ℕ) a + (![n, 128] : Fin 2 → ℕ) a ≤ (![n, 256] : Fin 2 → ℕ) a) :
    View.ld x (Rect.unit (s := ⟨2, ![n, 256]⟩) ![0, 0] ![n, 128] inb) = half 0 x :=
  funext fun y => congrArg x (ext2 _ _ ((Nat.zero_add _).trans (Nat.one_mul _)) (by show 0 + 1 * (y 1).val = 128 * 0 + (y 1).val; omega))

theorem ld_half1 {n : ℕ} {e : EltTy} (x : Vec F ⟨2, ![n, 256]⟩ e) (inb : ∀ a, (![0, 128] : Fin 2 → ℕ) a + (![n, 128] : Fin 2 → ℕ) a ≤ (![n, 256] : Fin 2 → ℕ) a) :
    View.ld x (Rect.unit (s := ⟨2, ![n, 256]⟩) ![0, 128] ![n, 128] inb) = half 1 x :=
  funext fun y => congrArg x (ext2 _ _ ((Nat.zero_add _).trans (Nat.one_mul _)) (by show 128 + 1 * (y 1).val = 128 * 1 + (y 1).val; omega))

theorem ld_srow0 (x : Vec F S8x512 .f32) (inb : ∀ a, (![0, 0] : Fin 2 → ℕ) a + (![1, 512] : Fin 2 → ℕ) a ≤ (![8, 512] : Fin 2 → ℕ) a) :
    View.ld x (Rect.unit (s := S8x512) ![0, 0] ![1, 512] inb) = srow 0 x :=
  funext fun y => congrArg x (ext2 _ _ (by show 0 + 1 * (y 0).val = 0; have h : (y 0).val < 1 := (y 0).isLt; omega) (by show 0 + 1 * (y 1).val = (y 1).val; omega))

theorem ld_srow1 (x : Vec F S8x512 .f32) (inb : ∀ a, (![1, 0] : Fin 2 → ℕ) a + (![1, 512] : Fin 2 → ℕ) a ≤ (![8, 512] : Fin 2 → ℕ) a) :
    View.ld x (Rect.unit (s := S8x512) ![1, 0] ![1, 512] inb) = srow 1 x :=
  funext fun y => congrArg x (ext2 _ _ (by show 1 + 1 * (y 0).val = 1; have h : (y 0).val < 1 := (y 0).isLt; omega) (by show 0 + 1 * (y 1).val = (y 1).val; omega))

section Cases

variable (c : Dev nD) (i : grid0.Coords) (arg2 : Memref sig .tc .vmem S512x256 .bf16) (harg2 : arg2.IsWhole) (arg3 : Memref sig .tc .vmem S4352x256 .bf16) (harg3 : arg3.IsWhole) (arg4 : Memref sig .tc .vmem S4352x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S8x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4352x256 .bf16) (harg11 : arg11.IsWhole) (arg12 : Memref sig .tc .vmem S4352x128 .bf16) (harg12 : arg12.IsWhole) (arg13 : Memref sig .tc .vmem S4352x256 .f32) (harg13 : arg13.IsWhole) (arg14 : Memref sig .tc .vmem S4352x128 .f32) (harg14 : arg14.IsWhole)
  (x0 : Vec F S512x256 .bf16) (x1 : Vec F S4352x256 .bf16) (x2 : Vec F S4352x128 .bf16) (x3 : Vec F S512x128 .f32) (x4 : Vec F S512x128 .f32) (x5 : Vec F S8x512 .f32) (x6 : Vec F S512x128 .f32) (x7 : Vec F S512x128 .f32) (xs0 : Vec F S4352x256 .f32) (xs1 : Vec F S4352x128 .f32)

section CaseA

variable (hc0 : cond0_0 i) (hc1 : ¬cond0_1 i)

/-- The value-gradient accumulator after the first tile. -/
theorem s1_A : sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7
    = k0_pay1 (k0_pay29 x4 (half 1 x0) (half 1 x1) (srow 1 x5) (k0_pay19 (k0_pay14 x4) (k0_pay16 (half 0 x0) (half 0 x1) (srow 0 x5)) k0_pay7)) := by
  unfold sout0_A_1 kernelRun0_A
  dsimp only
  sl_unfold_words
  rw [View.read_writes_junk_eq_canon]
  simp (disch := decide) only [↓ View.readCov_skip, ↓ View.readCov_cons_toLoadRect, ↓ View.readCov_fill, View.canon_cons_unit_lit, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The key-gradient accumulator's half 0 after the first tile. -/
theorem s0_A_0 (j : Fin 4352) (d : Fin 128) : sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 j (lane 0 d))
    = k0_pay20 (k0_pay8 x2) (k0_pay11 (half 0 x0)) (k0_pay14 x4) (k0_pay15 x4 x3) (k0_pay16 (half 0 x0) (half 0 x1) (srow 0 x5)) (half 0 k0_pay6) (ix2 j d) := by
  unfold sout0_A_0 kernelRun0_A
  dsimp only
  sl_unfold_words
  refine (View.read_writes_cons_unit_of_not_mem _ _ _ _ _ _ rfl (1 : Fin 2) (Or.inl ?_)).trans ?_
  · show 128 * 0 + d.val < 128; have := d.isLt; omega
  refine (View.read_writes_cons_unit_of_mem _ _ _ _ _ _ (ix2 j d : Shape.Idx ⟨2, ![4352, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The key-gradient accumulator's half 1 after the first tile. -/
theorem s0_A_1 (j : Fin 4352) (d : Fin 128) : sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 j (lane 1 d))
    = k0_pay2 (k0_pay23 (half 1 x0)) (k0_pay28 (k0_pay8 x2) x4 (k0_pay9 x4 x3) k0_pay10 (half 1 x0) (half 1 x1) (srow 1 x5)) (half 1 k0_pay6) (ix2 j d) := by
  unfold sout0_A_0 kernelRun0_A
  dsimp only
  sl_unfold_words
  refine (View.read_writes_cons_unit_of_mem _ _ _ _ _ _ (ix2 j d : Shape.Idx ⟨2, ![4352, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The query gradient's half 0 after the first tile. -/
theorem o8_A_0 (r : Fin 512) (d : Fin 128) : out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 r (lane 0 d))
    = k0_pay22 (k0_pay21 (k0_pay8 x2) (k0_pay12 (half 0 x1)) (k0_pay14 x4) (k0_pay15 x4 x3) (k0_pay16 (half 0 x0) (half 0 x1) (srow 0 x5)) x6 x7) (ix2 r d) := by
  unfold out0_A_8 kernelRun0_A
  dsimp only
  sl_unfold_words
  refine (View.read_writes_cons_unit_of_not_mem _ _ _ _ _ _ rfl (1 : Fin 2) (Or.inl ?_)).trans ?_
  · show 128 * 0 + d.val < 128; have := d.isLt; omega
  refine (View.read_writes_cons_unit_of_mem _ _ _ _ _ _ (ix2 r d : Shape.Idx ⟨2, ![512, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The query gradient's half 1 after the first tile. -/
theorem o8_A_1 (r : Fin 512) (d : Fin 128) : out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 r (lane 1 d))
    = k0_pay3 (k0_pay24 (half 1 x1)) (k0_pay28 (k0_pay8 x2) x4 (k0_pay9 x4 x3) k0_pay10 (half 1 x0) (half 1 x1) (srow 1 x5)) x6 x7 (ix2 r d) := by
  unfold out0_A_8 kernelRun0_A
  dsimp only
  sl_unfold_words
  refine (View.read_writes_cons_unit_of_mem _ _ _ _ _ _ (ix2 r d : Shape.Idx ⟨2, ![512, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

end CaseA

section CaseB

variable (hc0 : ¬cond0_0 i) (hc1 : ¬cond0_1 i)

/-- The value-gradient accumulator after the middle tiles. -/
theorem s1_B : sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1
    = k0_pay1 (k0_pay29 x4 (half 1 x0) (half 1 x1) (srow 1 x5) (k0_pay19 (k0_pay14 x4) (k0_pay16 (half 0 x0) (half 0 x1) (srow 0 x5)) xs1)) := by
  unfold sout0_B_1 kernelRun0_B
  dsimp only
  sl_unfold_words
  rw [View.read_writes_junk_eq_canon]
  simp (disch := decide) only [↓ View.readCov_skip, ↓ View.readCov_cons_toLoadRect, ↓ View.readCov_fill, View.canon_cons_unit_lit, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The key-gradient accumulator's half 0 after the middle tiles. -/
theorem s0_B_0 (j : Fin 4352) (d : Fin 128) : sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 j (lane 0 d))
    = k0_pay20 (k0_pay8 x2) (k0_pay11 (half 0 x0)) (k0_pay14 x4) (k0_pay15 x4 x3) (k0_pay16 (half 0 x0) (half 0 x1) (srow 0 x5)) (half 0 xs0) (ix2 j d) := by
  unfold sout0_B_0 kernelRun0_B
  dsimp only
  sl_unfold_words
  refine (View.read_writes_cons_unit_of_not_mem _ _ _ _ _ _ rfl (1 : Fin 2) (Or.inl ?_)).trans ?_
  · show 128 * 0 + d.val < 128; have := d.isLt; omega
  refine (View.read_writes_cons_unit_of_mem _ _ _ _ _ _ (ix2 j d : Shape.Idx ⟨2, ![4352, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The key-gradient accumulator's half 1 after the middle tiles. -/
theorem s0_B_1 (j : Fin 4352) (d : Fin 128) : sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 j (lane 1 d))
    = k0_pay2 (k0_pay23 (half 1 x0)) (k0_pay28 (k0_pay8 x2) x4 (k0_pay9 x4 x3) k0_pay10 (half 1 x0) (half 1 x1) (srow 1 x5)) (half 1 xs0) (ix2 j d) := by
  unfold sout0_B_0 kernelRun0_B
  dsimp only
  sl_unfold_words
  refine (View.read_writes_cons_unit_of_mem _ _ _ _ _ _ (ix2 j d : Shape.Idx ⟨2, ![4352, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The query gradient's half 0 after the middle tiles. -/
theorem o8_B_0 (r : Fin 512) (d : Fin 128) : out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 r (lane 0 d))
    = k0_pay22 (k0_pay21 (k0_pay8 x2) (k0_pay12 (half 0 x1)) (k0_pay14 x4) (k0_pay15 x4 x3) (k0_pay16 (half 0 x0) (half 0 x1) (srow 0 x5)) x6 x7) (ix2 r d) := by
  unfold out0_B_8 kernelRun0_B
  dsimp only
  sl_unfold_words
  refine (View.read_writes_cons_unit_of_not_mem _ _ _ _ _ _ rfl (1 : Fin 2) (Or.inl ?_)).trans ?_
  · show 128 * 0 + d.val < 128; have := d.isLt; omega
  refine (View.read_writes_cons_unit_of_mem _ _ _ _ _ _ (ix2 r d : Shape.Idx ⟨2, ![512, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The query gradient's half 1 after the middle tiles. -/
theorem o8_B_1 (r : Fin 512) (d : Fin 128) : out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 r (lane 1 d))
    = k0_pay3 (k0_pay24 (half 1 x1)) (k0_pay28 (k0_pay8 x2) x4 (k0_pay9 x4 x3) k0_pay10 (half 1 x0) (half 1 x1) (srow 1 x5)) x6 x7 (ix2 r d) := by
  unfold out0_B_8 kernelRun0_B
  dsimp only
  sl_unfold_words
  refine (View.read_writes_cons_unit_of_mem _ _ _ _ _ _ (ix2 r d : Shape.Idx ⟨2, ![512, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

end CaseB

section CaseC

variable (hc0 : ¬cond0_0 i) (hc1 : cond0_1 i)

/-- The value-gradient accumulator after the last tile. -/
theorem s1_C : sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1
    = k0_pay1 (k0_pay29 x4 (half 1 x0) (half 1 x1) (srow 1 x5) (k0_pay19 (k0_pay14 x4) (k0_pay16 (half 0 x0) (half 0 x1) (srow 0 x5)) xs1)) := by
  unfold sout0_C_1 kernelRun0_C
  dsimp only
  sl_unfold_words
  rw [View.read_writes_junk_eq_canon]
  simp (disch := decide) only [↓ View.readCov_skip, ↓ View.readCov_cons_toLoadRect, ↓ View.readCov_fill, View.canon_cons_unit_lit, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The key-gradient accumulator's half 0 after the last tile. -/
theorem s0_C_0 (j : Fin 4352) (d : Fin 128) : sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 j (lane 0 d))
    = k0_pay20 (k0_pay8 x2) (k0_pay11 (half 0 x0)) (k0_pay14 x4) (k0_pay15 x4 x3) (k0_pay16 (half 0 x0) (half 0 x1) (srow 0 x5)) (half 0 xs0) (ix2 j d) := by
  unfold sout0_C_0 kernelRun0_C
  dsimp only
  sl_unfold_words
  refine (View.read_writes_cons_unit_of_not_mem _ _ _ _ _ _ rfl (1 : Fin 2) (Or.inl ?_)).trans ?_
  · show 128 * 0 + d.val < 128; have := d.isLt; omega
  refine (View.read_writes_cons_unit_of_mem _ _ _ _ _ _ (ix2 j d : Shape.Idx ⟨2, ![4352, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The key-gradient accumulator's half 1 after the last tile. -/
theorem s0_C_1 (j : Fin 4352) (d : Fin 128) : sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 j (lane 1 d))
    = k0_pay2 (k0_pay23 (half 1 x0)) (k0_pay28 (k0_pay8 x2) x4 (k0_pay9 x4 x3) k0_pay10 (half 1 x0) (half 1 x1) (srow 1 x5)) (half 1 xs0) (ix2 j d) := by
  unfold sout0_C_0 kernelRun0_C
  dsimp only
  sl_unfold_words
  refine (View.read_writes_cons_unit_of_mem _ _ _ _ _ _ (ix2 j d : Shape.Idx ⟨2, ![4352, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The query gradient's half 0 after the last tile. -/
theorem o8_C_0 (r : Fin 512) (d : Fin 128) : out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 r (lane 0 d))
    = k0_pay22 (k0_pay21 (k0_pay8 x2) (k0_pay12 (half 0 x1)) (k0_pay14 x4) (k0_pay15 x4 x3) (k0_pay16 (half 0 x0) (half 0 x1) (srow 0 x5)) x6 x7) (ix2 r d) := by
  unfold out0_C_8 kernelRun0_C
  dsimp only
  sl_unfold_words
  refine (View.read_writes_cons_unit_of_not_mem _ _ _ _ _ _ rfl (1 : Fin 2) (Or.inl ?_)).trans ?_
  · show 128 * 0 + d.val < 128; have := d.isLt; omega
  refine (View.read_writes_cons_unit_of_mem _ _ _ _ _ _ (ix2 r d : Shape.Idx ⟨2, ![512, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The query gradient's half 1 after the last tile. -/
theorem o8_C_1 (r : Fin 512) (d : Fin 128) : out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 (ix2 r (lane 1 d))
    = k0_pay3 (k0_pay24 (half 1 x1)) (k0_pay28 (k0_pay8 x2) x4 (k0_pay9 x4 x3) k0_pay10 (half 1 x0) (half 1 x1) (srow 1 x5)) x6 x7 (ix2 r d) := by
  unfold out0_C_8 kernelRun0_C
  dsimp only
  sl_unfold_words
  refine (View.read_writes_cons_unit_of_mem _ _ _ _ _ _ (ix2 r d : Shape.Idx ⟨2, ![512, 128]⟩) rfl (fun a => match a with | ⟨0, _⟩ => (Nat.zero_add _).symm | ⟨1, _⟩ => rfl)).trans ?_
  simp (disch := decide) only [↓ View.readCov_skip, ↓ View.readCov_cons_toLoadRect, ↓ View.readCov_fill, View.readCov_unit_lit, View.readAt_eq_ld, harg2.read_unread, harg3.read_unread, harg4.read_unread, harg5.read_unread, harg6.read_unread, harg7.read_unread, harg8.read_unread, harg9.read_unread, harg13.read_unread, harg14.read_unread, ld_half0, ld_half1, ld_srow0, ld_srow1, View.ld_unit_lit]

/-- The result written after the last tile from the accumulator. -/
theorem o9_C : out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1
    = k0_pay4 (sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1) := by
  unfold sout0_C_0 out0_C_9 kernelRun0_C
  dsimp only
  sl_unfold_words
  rw [View.read_writes_junk_eq_canon, View.read_writes_junk_eq_canon]
  refine (View.canon_cons_unit_lit _ _ _ (by decide)).trans (congrArg k0_pay4 ?_)
  refine (View.readCov_eq_canon' _ _ _).trans ?_
  exact View.ld_unit_lit _ _ (by decide)

/-- The result written after the last tile from the accumulator. -/
theorem o10_C : out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1
    = k0_pay5 (sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1) := by
  unfold sout0_C_1 out0_C_10 kernelRun0_C
  dsimp only
  sl_unfold_words
  rw [View.read_writes_junk_eq_canon, View.read_writes_junk_eq_canon]
  refine (View.canon_cons_unit_lit _ _ _ (by decide)).trans (congrArg k0_pay5 ?_)
  refine (View.readCov_eq_canon' _ _ _).trans ?_
  exact View.ld_unit_lit _ _ (by decide)

end CaseC

end Cases

end Cert.Attn.Pieces
end
-- ==== Proof.Blocks.lean ====
module

public import proofs.«01_k».proof.Proof.HostAt
public import proofs.«01_k».proof.Proof.Pieces
import Idealize.ShloMosaic.Lib.Pipeline.ValueKit

@[expose] public section

set_option maxRecDepth 16384

noncomputable section

namespace Cert.Attn.Blocks

open Idealize.ShloMosaic Idealize.ShloMosaic.TcCoe Idealize.SL.Sem
open Cert.KernelIdeal Cert.KernelIdeal.Gen Cert.Attn.HostK Cert.Attn.HostAt Cert.Attn.Pieces

variable (m : (ℓ : Loc nD τ sig) → Buf (Elt Ideal) ℓ) (c : Dev nD)

/-! ## Where each window's block lies at a grid point -/

/-- The query window's block index. -/
theorem idx0 : ∀ t : Fin cfg0.N, win0_0.index t = ![t.val % 8, t.val / 8] := by decide +kernel
/-- The key window's block index. -/
theorem idx1 : ∀ t : Fin cfg0.N, win0_1.index t = ![0, t.val / 8] := by decide +kernel
/-- The value window's block index. -/
theorem idx2 : ∀ t : Fin cfg0.N, win0_2.index t = ![0, 8 + t.val / 8] := by decide +kernel
/-- The attention output window's block index. -/
theorem idx3 : ∀ t : Fin cfg0.N, win0_3.index t = ![t.val % 8, t.val / 8] := by decide +kernel
/-- The output gradient window's block index. -/
theorem idx4 : ∀ t : Fin cfg0.N, win0_4.index t = ![t.val % 8, t.val / 8] := by decide +kernel
/-- The statistics window's block index. -/
theorem idx5 : ∀ t : Fin cfg0.N, win0_5.index t = ![t.val / 8, t.val % 8] := by decide +kernel
/-- The cosine window's block index. -/
theorem idx6 : ∀ t : Fin cfg0.N, win0_6.index t = ![t.val % 8, 0] := by decide +kernel
/-- The sine window's block index. -/
theorem idx7 : ∀ t : Fin cfg0.N, win0_7.index t = ![t.val % 8, 0] := by decide +kernel

/-- Row `r` of row block `i`. -/
abbrev row (i : Fin 8) (r : Fin 512) : Fin 4096 := ⟨512 * i.val + r.val, by omega⟩
/-- Head `s` of head pair `p`. -/
abbrev hd (p : Fin 4) (s : Fin 2) : Fin 8 := ⟨2 * p.val + s.val, by omega⟩

variable (t : Fin cfg0.N) (p : Fin 4) (i : Fin 8) (ht : t.val = 8 * p.val + i.val)

include ht in
/-- The query block at a point, read off its array. -/
theorem blk0 (r : Fin 512) (l : Fin 256) : (iblk m c 0 t : S512x256.Idx → EReal) (ValueIdx.ix2 r l)
    = (V m c main_v44 : S4096x1024.Idx → EReal) (ValueIdx.ix2 (row i r) ⟨256 * p.val + l.val, by omega⟩) := by
  show (V m c main_v44 : S4096x1024.Idx → EReal) (((cfg0.win 0).blk t).view.emb (ValueIdx.ix2 r l)) = _
  refine congrArg _ (ext2 _ _ ?_ ?_)
  · blk_simp [idx0]; try (simp only [Attn.ix2_0, Attn.ix2_1]; omega)
  · blk_simp [idx0]; try (simp only [Attn.ix2_0, Attn.ix2_1]; omega)

include ht in
/-- The key block at a point, read off its array. -/
theorem blk1 (r : Fin 4352) (l : Fin 256) : (iblk m c 1 t : S4352x256.Idx → EReal) (ValueIdx.ix2 r l)
    = (V m c main_v49 : S4352x1536.Idx → EReal) (ValueIdx.ix2 (r) ⟨256 * p.val + l.val, by omega⟩) := by
  show (V m c main_v49 : S4352x1536.Idx → EReal) (((cfg0.win 1).blk t).view.emb (ValueIdx.ix2 r l)) = _
  refine congrArg _ (ext2 _ _ ?_ ?_)
  · blk_simp [idx1]; try (simp only [Attn.ix2_0, Attn.ix2_1]; omega)
  · blk_simp [idx1]; try (simp only [Attn.ix2_0, Attn.ix2_1]; omega)

include ht in
/-- The value block at a point, read off its array. -/
theorem blk2 (r : Fin 4352) (l : Fin 128) : (iblk m c 2 t : S4352x128.Idx → EReal) (ValueIdx.ix2 r l)
    = (V m c main_v49 : S4352x1536.Idx → EReal) (ValueIdx.ix2 (r) ⟨1024 + (128 * p.val + l.val), by omega⟩) := by
  show (V m c main_v49 : S4352x1536.Idx → EReal) (((cfg0.win 2).blk t).view.emb (ValueIdx.ix2 r l)) = _
  refine congrArg _ (ext2 _ _ ?_ ?_)
  · blk_simp [idx2]; try (simp only [Attn.ix2_0, Attn.ix2_1]; omega)
  · blk_simp [idx2]; try (simp only [Attn.ix2_0, Attn.ix2_1]; omega)

include ht in
/-- The attention output block at a point, read off its array. -/
theorem blk3 (r : Fin 512) (l : Fin 128) : (iblk m c 3 t : S512x128.Idx → EReal) (ValueIdx.ix2 r l)
    = (V m c main_v38 : S4096x512.Idx → EReal) (ValueIdx.ix2 (row i r) ⟨128 * p.val + l.val, by omega⟩) := by
  show (V m c main_v38 : S4096x512.Idx → EReal) (((cfg0.win 3).blk t).view.emb (ValueIdx.ix2 r l)) = _
  refine congrArg _ (ext2 _ _ ?_ ?_)
  · blk_simp [idx3]; try (simp only [Attn.ix2_0, Attn.ix2_1]; omega)
  · blk_simp [idx3]; try (simp only [Attn.ix2_0, Attn.ix2_1]; omega)

include ht in
/-- The output gradient block at a point, read off its array. -/
theorem blk4 (r : Fin 512) (l : Fin 128) : (iblk m c 4 t : S512x128.Idx → EReal) (ValueIdx.ix2 r l)
    = (V m c main_arg5 : S4096x1024.Idx → EReal) (ValueIdx.ix2 (row i r) ⟨128 * p.val + l.val, by omega⟩) := by
  show (V m c main_arg5 : S4096x1024.Idx → EReal) (((cfg0.win 4).blk t).view.emb (ValueIdx.ix2 r l)) = _
  refine congrArg _ (ext2 _ _ ?_ ?_)
  · blk_simp [idx4]; try (simp only [Attn.ix2_0, Attn.ix2_1]; omega)
  · blk_simp [idx4]; try (simp only [Attn.ix2_0, Attn.ix2_1]; omega)

include ht in
/-- The statistics block at a point, read off its array. -/
theorem blk5 (r : Fin 8) (l : Fin 512) : (iblk m c 5 t : S8x512.Idx → EReal) (ValueIdx.ix2 r l)
    = (V m c main_v55 : S32x4096.Idx → EReal) (ValueIdx.ix2 (⟨8 * p.val + r.val, by omega⟩) ⟨512 * i.val + l.val, by omega⟩) := by
  show (V m c main_v55 : S32x4096.Idx → EReal) (((cfg0.win 5).blk t).view.emb (ValueIdx.ix2 r l)) = _
  refine congrArg _ (ext2 _ _ ?_ ?_)
  · blk_simp [idx5]; try (simp only [Attn.ix2_0, Attn.ix2_1]; omega)
  · blk_simp [idx5]; try (simp only [Attn.ix2_0, Attn.ix2_1]; omega)

include ht in
/-- The cosine block at a point, read off its array. -/
theorem blk6 (r : Fin 512) (l : Fin 128) : (iblk m c 6 t : S512x128.Idx → EReal) (ValueIdx.ix2 r l)
    = (V m c main_v67 : S4096x128.Idx → EReal) (ValueIdx.ix2 (row i r) l) := by
  show (V m c main_v67 : S4096x128.Idx → EReal) (((cfg0.win 6).blk t).view.emb (ValueIdx.ix2 r l)) = _
  refine congrArg _ (ext2 _ _ ?_ ?_)
  · blk_simp [idx6]; try (simp only [Attn.ix2_0, Attn.ix2_1]; omega)
  · blk_simp [idx6]; try (simp only [Attn.ix2_0, Attn.ix2_1]; omega)

include ht in
/-- The sine block at a point, read off its array. -/
theorem blk7 (r : Fin 512) (l : Fin 128) : (iblk m c 7 t : S512x128.Idx → EReal) (ValueIdx.ix2 r l)
    = (V m c main_v68 : S4096x128.Idx → EReal) (ValueIdx.ix2 (row i r) l) := by
  show (V m c main_v68 : S4096x128.Idx → EReal) (((cfg0.win 7).blk t).view.emb (ValueIdx.ix2 r l)) = _
  refine congrArg _ (ext2 _ _ ?_ ?_)
  · blk_simp [idx7]; try (simp only [Attn.ix2_0, Attn.ix2_1]; omega)
  · blk_simp [idx7]; try (simp only [Attn.ix2_0, Attn.ix2_1]; omega)

end Cert.Attn.Blocks
end
-- ==== Proof.Tile.lean ====
module

public import proofs.«01_k».proof.Proof.Pays

@[expose] public section

noncomputable section

namespace Cert.Attn.Tile

open Idealize.ShloMosaic Idealize.ShloMosaic.ValueIdx Cert.Attn.Pays

/-! ## The tile's quantities, in the mathematics of one head -/

/-- A sum over 128 lanes of two rows that are zero from lane 96. -/
theorem sum_ext96 (u w : Fin 96 → ℝ) : ∑ d : Fin 128, ext96 u d.val * ext96 w d.val = ∑ d : Fin 96, u d * w d := by
  refine (Fin.sum_univ_add (a := 96) (b := 32) fun d : Fin (96 + 32) => ext96 u d.val * ext96 w d.val).trans ?_
  have e1 : ∀ d : Fin 96, ext96 u (Fin.castAdd 32 d).val * ext96 w (Fin.castAdd 32 d).val = u d * w d := fun d => by
    unfold ext96
    rw [dif_pos (show (Fin.castAdd 32 d).val < 96 from d.isLt), dif_pos (show (Fin.castAdd 32 d).val < 96 from d.isLt)]
    rfl
  have e2 : ∀ d : Fin 32, ext96 u (Fin.natAdd 96 d).val * ext96 w (Fin.natAdd 96 d).val = 0 := fun d => by
    unfold ext96
    rw [dif_neg (show ¬(Fin.natAdd 96 d).val < 96 from by show ¬96 + d.val < 96; omega), zero_mul]
  rw [Finset.sum_congr rfl fun d _ => e1 d, Finset.sum_congr rfl fun d _ => e2 d, Finset.sum_const_zero, add_zero]

/-- A scaled sum of rows that are zero from lane 96. -/
theorem sum_mul_ext96 {n : ℕ} (a : Fin n → ℝ) (u : Fin n → Fin 96 → ℝ) (c : ℝ) (d : ℕ) :
    (∑ j, a j * ext96 (u j) d) * c = ext96 (fun d => (∑ j, a j * u j d) * c) d := by
  unfold ext96
  by_cases h : d < 96
  · simp only [dif_pos h]
  · simp only [dif_neg h, mul_zero, Finset.sum_const_zero, zero_mul]

/-- Lane `d` of the 64 lanes of head `s` of a pair. -/
abbrev lane64 (s : Fin 2) (d : Fin 64) : Fin 128 := ⟨64 * s.val + d.val, by omega⟩

/-- A sum over 128 lanes of a row kept on head `s`. -/
theorem sum_keep (s : Fin 2) (a b : Fin 128 → ℝ) : ∑ d, a d * keep s.val b d = ∑ d, a (lane64 s d) * b (lane64 s d) := by
  refine (Fin.sum_univ_add (a := 64) (b := 64) fun d : Fin (64 + 64) => a d * keep s.val b d).trans ?_
  unfold keep
  match s with
  | ⟨0, _⟩ =>
    have e1 : ∀ d : Fin 64, (if (Fin.castAdd 64 d).val / 64 = 0 then b (Fin.castAdd 64 d) else 0) = b (lane64 0 d) := fun d => by
      rw [if_pos (by show d.val / 64 = 0; omega)]
      exact congrArg b (Fin.ext (by show d.val = 64 * 0 + d.val; omega))
    have e2 : ∀ d : Fin 64, (if (Fin.natAdd 64 d).val / 64 = 0 then b (Fin.natAdd 64 d) else 0) = 0 := fun d =>
      if_neg (by show ¬(64 + d.val) / 64 = 0; omega)
    have e3 : ∀ d : Fin 64, a (Fin.castAdd 64 d) = a (lane64 0 d) := fun d =>
      congrArg a (Fin.ext (by show d.val = 64 * 0 + d.val; omega))
    simp only [e1, e2, e3, mul_zero, Finset.sum_const_zero, add_zero]
    rfl
  | ⟨1, _⟩ =>
    have e1 : ∀ d : Fin 64, (if (Fin.castAdd 64 d).val / 64 = 1 then b (Fin.castAdd 64 d) else 0) = 0 := fun d =>
      if_neg (by show ¬d.val / 64 = 1; omega)
    have e2 : ∀ d : Fin 64, (if (Fin.natAdd 64 d).val / 64 = 1 then b (Fin.natAdd 64 d) else 0) = b (lane64 1 d) := fun d => by
      rw [if_pos (by show (64 + d.val) / 64 = 1; omega)]
      exact congrArg b (Fin.ext (by show 64 + d.val = 64 * 1 + d.val; omega))
    have e3 : ∀ d : Fin 64, a (Fin.natAdd 64 d) = a (lane64 1 d) := fun d =>
      congrArg a (Fin.ext (by show 64 + d.val = 64 * 1 + d.val; omega))
    simp only [e1, e2, e3, mul_zero, Finset.sum_const_zero, zero_add]
    rfl

section Head

variable (q : Fin 4096 → Fin 96 → ℝ) (k : Fin 4352 → Fin 96 → ℝ) (rw' : Fin 512 → Fin 4096) (μ : Fin 4096 → ℝ)

/-- The saved statistics, in base two, of a tile's rows. -/
def Lt (s : Fin 4096 → Fin 4352 → ℝ) (r : Fin 512) : ℝ :=
  (μ (rw' r) + Real.log (∑ j, Real.exp (s (rw' r) j - μ (rw' r)))) * (1 / Real.log 2)

/-- The tile's weights are the softmax's. -/
theorem Pt_eq (j : Fin 4352) (r : Fin 512) :
    Pt (fun r d => ext96 (q (rw' r)) d.val) (fun j d => ext96 (k j) d.val) (Lt rw' μ (score cA q k)) j r
      = prob (score cA q k) (rw' r) j := by
  unfold Pt
  rw [sum_ext96]
  refine prob_exp2 (score cA q k) (μ (rw' r)) _ cA (rw' r) j ?_
  unfold score
  exact congrArg (· * cA) (Finset.sum_congr rfl fun d _ => mul_comm _ _)

variable (s : Fin 2) (S : Fin 4096 → Fin 4352 → ℝ) (v : Fin 4352 → Fin 64 → ℝ) (g : Fin 4096 → Fin 64 → ℝ)
  {vT : Fin 4352 → Fin 128 → ℝ} {oT gT : Fin 512 → Fin 128 → ℝ}
  (hv : ∀ j d, vT j (lane64 s d) = v j d) (hg : ∀ r d, gT r (lane64 s d) = g (rw' r) d)
  (ho : ∀ r d, oT r (lane64 s d) = outRow S v (rw' r) d)

include hg ho in
/-- The tile's row sums. -/
theorem Dl_eq (r : Fin 512) : Dl s.val oT gT r = delta S v g (rw' r) := by
  unfold Dl delta
  rw [sum_keep s (fun _ => 1)]
  exact Finset.sum_congr rfl fun d _ => by rw [one_mul, hg, ho]

include hv hg ho in
/-- The tile's score gradients. -/
theorem Ds_eq (p : Fin 4352 → Fin 512 → ℝ) (hp : ∀ j r, p j r = prob S (rw' r) j) (j : Fin 4352) (r : Fin 512) :
    Ds s.val vT oT gT p j r = dscore S v g (rw' r) j := by
  unfold Ds dscore
  rw [hp, Dl_eq rw' s S v g hg ho, sum_keep]
  unfold dprob
  refine congrArg (fun z : ℝ => prob S (rw' r) j * (z - delta S v g (rw' r))) (Finset.sum_congr rfl fun d _ => ?_)
  rw [hv, hg, mul_comm]

end Head

/-- The printed rotation is the rotary embedding's transpose. -/
theorem turn_eq (C S : Fin 2 → Fin 8 → ℝ) (cs sn : Fin 128 → ℝ)
    (hcs : ∀ d : Fin 128, cs d = if 64 ≤ d.val ∧ d.val < 96 then C ⟨d.val / 16 % 2, by omega⟩ ⟨d.val % 8, by omega⟩ else 1)
    (hsn : ∀ d : Fin 128, sn d = if 64 ≤ d.val ∧ d.val < 96 then
      if d.val / 8 % 2 = 0 then -S ⟨d.val / 16 % 2, by omega⟩ ⟨d.val % 8, by omega⟩ else S ⟨d.val / 16 % 2, by omega⟩ ⟨d.val % 8, by omega⟩ else 0)
    (u : Fin 96 → ℝ) (d : Fin 128) : turn cs sn (fun d => ext96 u d.val) d = ext96 (rotT C S u) d.val := by
  unfold turn
  beta_reduce
  by_cases hd : d.val < 96
  · by_cases h64 : d.val < 64
    · have e : ext96 (rotT C S u) d.val = u ⟨d.val, hd⟩ := by
        unfold ext96 rotT
        rw [dif_pos hd, if_pos h64]
      rw [e, hcs, if_neg (by omega), mul_one]
      have e0 : ext96 u d.val = u ⟨d.val, hd⟩ := dif_pos hd
      rw [e0]
      split
      · rw [hsn, if_neg (by show ¬(64 ≤ (d.val + 8) % 128 ∧ (d.val + 8) % 128 < 96); omega), mul_zero, add_zero]
      · rw [hsn, if_neg (by show ¬(64 ≤ (d.val + 120) % 128 ∧ (d.val + 120) % 128 < 96); omega), mul_zero, add_zero]
    · have e0 : ext96 u d.val = u ⟨d.val, hd⟩ := dif_pos hd
      rw [e0, hcs, if_pos (by omega)]
      by_cases h8 : d.val / 8 % 2 = 0
      · rw [if_pos (by omega), hsn, if_pos (by show 64 ≤ (d.val + 8) % 128 ∧ (d.val + 8) % 128 < 96; omega),
          if_neg (by show ¬(d.val + 8) % 128 / 8 % 2 = 0; omega)]
        have e1 : ext96 u ((d.val + 8) % 128) = u ⟨d.val + 8, by omega⟩ := by
          unfold ext96
          rw [dif_pos (by omega)]
          exact congrArg u (Fin.ext (by show (d.val + 8) % 128 = d.val + 8; omega))
        have e : ext96 (rotT C S u) d.val = u ⟨d.val, hd⟩ * C (pairOf d.val) (freqOf d.val)
            + u ⟨d.val + 8, by omega⟩ * S (pairOf d.val) (freqOf d.val) := by
          unfold ext96 rotT
          rw [dif_pos hd, if_neg h64, dif_pos h8]
        rw [e]
        refine congrArg₂ (· + ·) rfl (congrArg₂ (· * ·) e1 (congrArg₂ S (Fin.ext ?_) (Fin.ext ?_)))
        · show (d.val + 8) % 128 / 16 % 2 = d.val / 16 % 2; omega
        · show (d.val + 8) % 128 % 8 = d.val % 8; omega
      · rw [if_neg (by omega), hsn, if_pos (by show 64 ≤ (d.val + 120) % 128 ∧ (d.val + 120) % 128 < 96; omega),
          if_pos (by show (d.val + 120) % 128 / 8 % 2 = 0; omega)]
        have e1 : ext96 u ((d.val + 120) % 128) = u ⟨d.val - 8, by omega⟩ := by
          unfold ext96
          rw [dif_pos (by omega)]
          exact congrArg u (Fin.ext (by show (d.val + 120) % 128 = d.val - 8; omega))
        have e : ext96 (rotT C S u) d.val = u ⟨d.val, hd⟩ * C (pairOf d.val) (freqOf d.val)
            - u ⟨d.val - 8, by omega⟩ * S (pairOf d.val) (freqOf d.val) := by
          unfold ext96 rotT
          rw [dif_pos hd, if_neg h64, dif_neg h8]
        rw [e, sub_eq_add_neg, ← mul_neg]
        refine congrArg₂ (· + ·) rfl (congrArg₂ (· * ·) e1 (congrArg Neg.neg (congrArg₂ S (Fin.ext ?_) (Fin.ext ?_))))
        · show (d.val + 120) % 128 / 16 % 2 = d.val / 16 % 2; omega
        · show (d.val + 120) % 128 % 8 = d.val % 8; omega
  · have e : ∀ (w : Fin 96 → ℝ) (n : ℕ), ¬n < 96 → ext96 w n = 0 := fun w n h => dif_neg h
    rw [e u _ hd, e _ _ hd, zero_mul, zero_add]
    split
    · rw [e u _ (by show ¬(d.val + 8) % 128 < 96; omega), zero_mul]
    · rw [e u _ (by show ¬(d.val + 120) % 128 < 96; omega), zero_mul]

end Cert.Attn.Tile
end
-- ==== Proof.Operands.lean ====
module

public import proofs.«01_k».proof.Proof.Blocks
public import proofs.«01_k».proof.Proof.Tile

@[expose] public section

set_option maxRecDepth 16384

noncomputable section

namespace Cert.Attn.Operands

open Idealize.ShloMosaic Idealize.ShloMosaic.TcCoe Idealize.SL.Sem Idealize.ShloMosaic.ValueIdx
open Cert.KernelIdeal Cert.KernelIdeal.Gen Cert.Attn.HostK Cert.Attn.HostAt Cert.Attn.Pieces Cert.Attn.Blocks Cert.Attn.Tile

variable (m : (ℓ : Loc nD τ sig) → Buf (Elt Ideal) ℓ) (c : Dev nD)
variable (r0 : S4096x8x96.Idx → ℝ) (r1 : S4352x8x96.Idx → ℝ) (r2 : S4352x8x64.Idx → ℝ) (r3 r4 : S4096x2x8.Idx → ℝ)
  (r5 : S4096x1024.Idx → ℝ) (μ : Fin 8 → Fin 4096 → ℝ)

/-- The device's arguments are the reals `r0 … r5`, and `μ` the rows' largest scores. -/
structure Data : Prop where
  /-- The unrotated queries. -/
  h0 : ∀ y, X0 m c y = (r0 y : EReal)
  /-- The keys. -/
  h1 : ∀ y, X1 m c y = (r1 y : EReal)
  /-- The values. -/
  h2 : ∀ y, X2 m c y = (r2 y : EReal)
  /-- The cosines. -/
  h3 : ∀ y, X3 m c y = (r3 y : EReal)
  /-- The sines. -/
  h4 : ∀ y, X4 m c y = (r4 y : EReal)
  /-- The output's gradient. -/
  h5 : ∀ y, X5 m c y = (r5 y : EReal)
  /-- The row maxima. -/
  hμ : ∀ h i, Cert.ReferenceIdeal.Read.val_main_v27 (F := Ideal) (X0 m c) (X1 m c) (X3 m c) (X4 m c) (ix2 h i) = (μ h i : EReal)

/-- An array read at two spellings of one lane. -/
theorem at_lane {n k : ℕ} (f : Shape.Idx ⟨2, ![n, k]⟩ → EReal) (a : Fin n) {b b' : Fin k} {v : EReal} (h : b.val = b'.val)
    (hv : f (ix2 a b') = v) : f (ix2 a b) = v := by
  rw [Fin.ext h]
  exact hv

/-- A tile's queries of head `h`, zero from lane 96. -/
def qT (h : Fin 8) (i : Fin 8) (r : Fin 512) (d : Fin 128) : ℝ := ext96 (qq r0 r3 r4 h (row i r)) d.val
/-- Head `h`'s keys, zero from lane 96. -/
def kT (h : Fin 8) (j : Fin 4352) (d : Fin 128) : ℝ := ext96 (kk r1 h j) d.val
/-- The head of a pair that a lane of 128 belongs to. -/
abbrev hdOf (p : Fin 4) (l : Fin 128) : Fin 8 := ⟨2 * p.val + l.val / 64, by omega⟩
/-- A lane's place in its head. -/
abbrev lnOf (l : Fin 128) : Fin 64 := ⟨l.val % 64, by omega⟩
/-- A head pair's values. -/
def vT (p : Fin 4) (j : Fin 4352) (l : Fin 128) : ℝ := vv r2 (hdOf p l) j (lnOf l)
/-- A tile's attention outputs of a head pair. -/
def oT (p : Fin 4) (i : Fin 8) (r : Fin 512) (l : Fin 128) : ℝ :=
  outRow (ss r0 r1 r3 r4 (hdOf p l)) (vv r2 (hdOf p l)) (row i r) (lnOf l)
/-- A tile's output gradients of a head pair. -/
def gT (p : Fin 4) (i : Fin 8) (r : Fin 512) (l : Fin 128) : ℝ := gg r5 (hdOf p l) (row i r) (lnOf l)
/-- A tile's statistics of head `h`. -/
def lT (h : Fin 8) (i : Fin 8) : Fin 512 → ℝ := Lt (row i) (μ h) (ss r0 r1 r3 r4 h)

variable {m c r0 r1 r2 r3 r4 r5 μ} (D : Data m c r0 r1 r2 r3 r4 r5 μ)
variable (t : Fin cfg0.N) (p : Fin 4) (i : Fin 8) (ht : t.val = 8 * p.val + i.val)

include D ht in
/-- The query block's halves. -/
theorem x0_apply (s : Fin 2) (r : Fin 512) (d : Fin 128) :
    half s (iblk m c 0 t : Vec Ideal S512x256 .bf16) (ix2 r d) = (qT r0 r3 r4 (hd p s) i r d : EReal) := by
  refine (blk0 m c t p i ht r (lane s d)).trans ?_
  refine at_lane _ _ ?_ (V44_apply m c D.h0 D.h3 D.h4 (row i r) (hd p s) d)
  show 256 * p.val + (128 * s.val + d.val) = 128 * (2 * p.val + s.val) + d.val
  omega

include D ht in
/-- The key block's halves. -/
theorem x1_apply (s : Fin 2) (j : Fin 4352) (d : Fin 128) :
    half s (iblk m c 1 t : Vec Ideal S4352x256 .bf16) (ix2 j d) = (kT r1 (hd p s) j d : EReal) := by
  refine (blk1 m c t p i ht j (lane s d)).trans ?_
  refine at_lane _ _ ?_ (V49_key m c D.h1 j (hd p s) d)
  show 256 * p.val + (128 * s.val + d.val) = 128 * (2 * p.val + s.val) + d.val
  omega

include D ht in
/-- The value block. -/
theorem x2_apply (j : Fin 4352) (l : Fin 128) : (iblk m c 2 t : Vec Ideal S4352x128 .bf16) (ix2 j l) = (vT r2 p j l : EReal) := by
  refine (blk2 m c t p i ht j l).trans ?_
  refine at_lane _ _ ?_ (V49_val m c D.h2 j (hdOf p l) (lnOf l))
  show 1024 + (128 * p.val + l.val) = 1024 + (64 * (2 * p.val + l.val / 64) + l.val % 64)
  omega

include D ht in
/-- The attention output's block. -/
theorem x3_apply (r : Fin 512) (l : Fin 128) : (iblk m c 3 t : Vec Ideal S512x128 .f32) (ix2 r l) = (oT r0 r1 r2 r3 r4 p i r l : EReal) := by
  refine (blk3 m c t p i ht r l).trans ?_
  refine at_lane _ _ ?_ (V38_apply m c D.h0 D.h1 D.h2 D.h3 D.h4 (row i r) (hdOf p l) (lnOf l))
  show 128 * p.val + l.val = 64 * (2 * p.val + l.val / 64) + l.val % 64
  omega

include D ht in
/-- The output gradient's block. -/
theorem x4_apply (r : Fin 512) (l : Fin 128) : (iblk m c 4 t : Vec Ideal S512x128 .f32) (ix2 r l) = (gT r5 p i r l : EReal) := by
  refine (blk4 m c t p i ht r l).trans ?_
  refine (congrFun (V_main_arg5 m c) _).trans ((D.h5 _).trans ?_)
  refine congrArg (fun y => (r5 y : EReal)) (ext2 _ _ rfl ?_)
  show 128 * p.val + l.val = (2 * p.val + l.val / 64) * 64 + l.val % 64
  omega

include D ht in
/-- The statistics' rows. -/
theorem x5_apply (s : Fin 2) (r : Fin 512) :
    srow s (iblk m c 5 t : Vec Ideal S8x512 .f32) (ix2 0 r) = (lT r0 r1 r3 r4 μ (hd p s) i r : EReal) := by
  refine (blk5 m c t p i ht ⟨s.val, by omega⟩ r).trans ?_
  exact V55_apply m c D.h0 D.h1 D.h3 D.h4 p s (hd p s) rfl (row i r) _ (D.hμ _ _)

include D ht in
/-- The cosines' block. -/
theorem x6_apply (r : Fin 512) (d : Fin 128) : (iblk m c 6 t : Vec Ideal S512x128 .f32) (ix2 r d) = (csAt r3 (row i r) d : EReal) :=
  (blk6 m c t p i ht r d).trans (V67_apply m c D.h3 _ _)

include D ht in
/-- The sines' block. -/
theorem x7_apply (r : Fin 512) (d : Fin 128) : (iblk m c 7 t : Vec Ideal S512x128 .f32) (ix2 r d) = (snAt r4 (row i r) d : EReal) :=
  (blk7 m c t p i ht r d).trans (V68_apply m c D.h4 _ _)

/-! ## The tile's quantities -/

section Values

variable (r0 r1 r2 r3 r4 r5 μ)

/-- The tile's weights. -/
theorem weights (h : Fin 8) (j : Fin 4352) (r : Fin 512) :
    Pays.Pt (qT r0 r3 r4 h i) (kT r1 h) (lT r0 r1 r3 r4 μ h i) j r = prob (ss r0 r1 r3 r4 h) (row i r) j :=
  Pt_eq (qq r0 r3 r4 h) (kk r1 h) (row i) (μ h) j r

/-- The tile's score gradients. -/
theorem scores (s : Fin 2) (j : Fin 4352) (r : Fin 512) :
    Pays.Ds s.val (vT r2 p) (oT r0 r1 r2 r3 r4 p i) (gT r5 p i) (Pays.Pt (qT r0 r3 r4 (hd p s) i) (kT r1 (hd p s)) (lT r0 r1 r3 r4 μ (hd p s) i)) j r
      = dscore (ss r0 r1 r3 r4 (hd p s)) (vv r2 (hd p s)) (gg r5 (hd p s)) (row i r) j := by
  have e1 : ∀ d : Fin 64, hdOf p (lane64 s d) = hd p s := fun d => Fin.ext (by
    show 2 * p.val + (64 * s.val + d.val) / 64 = 2 * p.val + s.val; omega)
  have e2 : ∀ d : Fin 64, lnOf (lane64 s d) = d := fun d => Fin.ext (by show (64 * s.val + d.val) % 64 = d.val; omega)
  refine Ds_eq (row i) s _ _ _ (fun j d => ?_) (fun r d => ?_) (fun r d => ?_) _ (weights r0 r1 r3 r4 μ i (hd p s)) j r
  · unfold vT; rw [e1, e2]
  · unfold gT; rw [e1, e2]
  · unfold oT; rw [e1, e2]

end Values

end Cert.Attn.Operands
end
-- ==== Proof.Step.lean ====
module

public import proofs.«01_k».proof.Proof.Operands

@[expose] public section

set_option maxRecDepth 16384

noncomputable section

namespace Cert.Attn.Step

open Idealize.ShloMosaic Idealize.ShloMosaic.TcCoe Idealize.SL.Sem Idealize.ShloMosaic.ValueIdx
open Cert.KernelIdeal Cert.KernelIdeal.Gen Cert.KernelIdeal.Value
open Cert.Attn.HostK Cert.Attn.HostAt Cert.Attn.Pieces Cert.Attn.Blocks Cert.Attn.Tile Cert.Attn.Operands Cert.Attn.Pays

variable (r0 : S4096x8x96.Idx → ℝ) (r1 : S4352x8x96.Idx → ℝ) (r2 : S4352x8x64.Idx → ℝ) (r3 r4 : S4096x2x8.Idx → ℝ)
  (r5 : S4096x1024.Idx → ℝ) (μ : Fin 8 → Fin 4096 → ℝ)

/-- A row block's share of head `h`'s unscaled key gradient. -/
def kAdd (h i : Fin 8) (j : Fin 4352) (d : Fin 128) : ℝ :=
  ∑ r : Fin 512, dscore (ss r0 r1 r3 r4 h) (vv r2 h) (gg r5 h) (row i r) j * qT r0 r3 r4 h i r d
/-- A row block's share of a head pair's value gradient. -/
def vAdd (p : Fin 4) (i : Fin 8) (j : Fin 4352) (l : Fin 128) : ℝ :=
  ∑ r : Fin 512, prob (ss r0 r1 r3 r4 (hdOf p l)) (row i r) j * gT r5 p i r l

variable {m : (ℓ : Loc nD τ sig) → Buf (Elt Ideal) ℓ} {c : Dev nD}
variable {r0 r1 r2 r3 r4 r5 μ} (D : Data m c r0 r1 r2 r3 r4 r5 μ)
variable (t : Fin cfg0.N) (p : Fin 4) (i : Fin 8) (ht : t.val = 8 * p.val + i.val)

/-! ## One point's payloads over its blocks -/

include D ht in
/-- The first head's score gradients. -/
theorem score0 (j : Fin 4352) (r : Fin 512) :
    k0_pay18 (F := Ideal) (k0_pay8 (iblk m c 2 t)) (k0_pay14 (iblk m c 4 t)) (k0_pay15 (iblk m c 4 t) (iblk m c 3 t))
      (k0_pay16 (half 0 (iblk m c 0 t : Vec Ideal S512x256 .bf16)) (half 0 (iblk m c 1 t : Vec Ideal S4352x256 .bf16)) (srow 0 (iblk m c 5 t))) (ix2 j r)
      = (dscore (ss r0 r1 r3 r4 (hd p 0)) (vv r2 (hd p 0)) (gg r5 (hd p 0)) (row i r) j : EReal) := by
  refine (pay18_apply (x2_apply D t p i ht) (x3_apply D t p i ht) (x4_apply D t p i ht) _ _
    (pay16_apply (x0_apply D t p i ht 0) (x1_apply D t p i ht 0) (x5_apply D t p i ht 0)) j r).trans ?_
  exact congrArg _ (scores r0 r1 r2 r3 r4 r5 μ p i 0 j r)

include D ht in
/-- The second head's score gradients. -/
theorem score1 (j : Fin 4352) (r : Fin 512) :
    k0_pay28 (F := Ideal) (k0_pay8 (iblk m c 2 t)) (iblk m c 4 t) (k0_pay9 (iblk m c 4 t) (iblk m c 3 t)) k0_pay10
      (half 1 (iblk m c 0 t : Vec Ideal S512x256 .bf16)) (half 1 (iblk m c 1 t : Vec Ideal S4352x256 .bf16)) (srow 1 (iblk m c 5 t)) (ix2 j r)
      = (dscore (ss r0 r1 r3 r4 (hd p 1)) (vv r2 (hd p 1)) (gg r5 (hd p 1)) (row i r) j : EReal) := by
  refine (pay28_apply (x0_apply D t p i ht 1) (x1_apply D t p i ht 1) (x2_apply D t p i ht) (x3_apply D t p i ht) (x4_apply D t p i ht)
    (x5_apply D t p i ht 1) j r).trans ?_
  exact congrArg _ (scores r0 r1 r2 r3 r4 r5 μ p i 1 j r)

include D ht in
/-- The first head's key-gradient accumulation. -/
theorem key0 (acc : Vec Ideal S4352x128 .f32) (j : Fin 4352) (d : Fin 128) :
    k0_pay20 (F := Ideal) (k0_pay8 (iblk m c 2 t)) (k0_pay11 (half 0 (iblk m c 0 t : Vec Ideal S512x256 .bf16))) (k0_pay14 (iblk m c 4 t)) (k0_pay15 (iblk m c 4 t) (iblk m c 3 t))
      (k0_pay16 (half 0 (iblk m c 0 t : Vec Ideal S512x256 .bf16)) (half 0 (iblk m c 1 t : Vec Ideal S4352x256 .bf16)) (srow 0 (iblk m c 5 t))) acc (ix2 j d)
      = acc (ix2 j d) + (kAdd r0 r1 r2 r3 r4 r5 (hd p 0) i j d : EReal) :=
  pay20_apply (x0_apply D t p i ht 0) _ _ _ _ _ (score0 D t p i ht) acc j d

include D ht in
/-- The second head's key-gradient accumulation. -/
theorem key1 (acc : Vec Ideal S4352x128 .f32) (j : Fin 4352) (d : Fin 128) :
    k0_pay2 (F := Ideal) (k0_pay23 (half 1 (iblk m c 0 t : Vec Ideal S512x256 .bf16))) (k0_pay28 (k0_pay8 (iblk m c 2 t)) (iblk m c 4 t) (k0_pay9 (iblk m c 4 t) (iblk m c 3 t)) k0_pay10
      (half 1 (iblk m c 0 t : Vec Ideal S512x256 .bf16)) (half 1 (iblk m c 1 t : Vec Ideal S4352x256 .bf16)) (srow 1 (iblk m c 5 t))) acc (ix2 j d)
      = acc (ix2 j d) + (kAdd r0 r1 r2 r3 r4 r5 (hd p 1) i j d : EReal) :=
  pay2_apply (x0_apply D t p i ht 1) _ _ (score1 D t p i ht) acc j d

include D ht in
/-- Both heads' value-gradient accumulation. -/
theorem val01 (acc : Vec Ideal S4352x128 .f32) (j : Fin 4352) (l : Fin 128) :
    k0_pay1 (F := Ideal) (k0_pay29 (iblk m c 4 t) (half 1 (iblk m c 0 t : Vec Ideal S512x256 .bf16)) (half 1 (iblk m c 1 t : Vec Ideal S4352x256 .bf16)) (srow 1 (iblk m c 5 t))
      (k0_pay19 (k0_pay14 (iblk m c 4 t)) (k0_pay16 (half 0 (iblk m c 0 t : Vec Ideal S512x256 .bf16)) (half 0 (iblk m c 1 t : Vec Ideal S4352x256 .bf16)) (srow 0 (iblk m c 5 t))) acc)) (ix2 j l)
      = acc (ix2 j l) + (vAdd r0 r1 r3 r4 r5 p i j l : EReal) := by
  refine (pay29_apply (x0_apply D t p i ht 1) (x1_apply D t p i ht 1) (x4_apply D t p i ht) (x5_apply D t p i ht 1) _ j l).trans ?_
  rw [pay19_apply (x4_apply D t p i ht) _ _ (pay16_apply (x0_apply D t p i ht 0) (x1_apply D t p i ht 0) (x5_apply D t p i ht 0)) acc j l,
    add_assoc, ← EReal.coe_add]
  refine congrArg (fun z : ℝ => acc (ix2 j l) + (z : EReal)) ?_
  rw [← Finset.sum_add_distrib]
  refine Finset.sum_congr rfl fun r _ => ?_
  rw [weights r0 r1 r3 r4 μ i (hd p 0) j r, weights r0 r1 r3 r4 μ i (hd p 1) j r]
  unfold keep
  by_cases hl : l.val / 64 = 0
  · rw [if_pos hl, if_neg (by omega), mul_zero, add_zero, show hdOf p l = hd p 0 from Fin.ext (by show 2 * p.val + l.val / 64 = 2 * p.val + 0; omega)]
  · rw [if_neg hl, if_pos (by omega), mul_zero, zero_add, show hdOf p l = hd p 1 from Fin.ext (by show 2 * p.val + l.val / 64 = 2 * p.val + 1; omega)]

/-- A tile's query gradient, turned back, is the head's. -/
theorem turned (h i : Fin 8) (r : Fin 512) (d : Fin 128) :
    turn (csAt r3 (row i r)) (snAt r4 (row i r)) (fun d => (∑ j, dscore (ss r0 r1 r3 r4 h) (vv r2 h) (gg r5 h) (row i r) j * kT r1 h j d) * cA) d
      = ext96 (DQ r0 r1 r2 r3 r4 r5 h (row i r)) d.val := by
  have e : (fun d : Fin 128 => (∑ j, dscore (ss r0 r1 r3 r4 h) (vv r2 h) (gg r5 h) (row i r) j * kT r1 h j d) * cA)
      = fun d : Fin 128 => ext96 (dqry cA (ss r0 r1 r3 r4 h) (kk r1 h) (vv r2 h) (gg r5 h) (row i r)) d.val := by
    funext d
    exact sum_mul_ext96 _ _ _ _
  rw [e]
  exact turn_eq (fun a t => r3 (ix3 (row i r) a t)) (fun a t => r4 (ix3 (row i r) a t)) (csAt r3 (row i r)) (snAt r4 (row i r)) (fun _ => rfl) (fun _ => rfl) _ d

include D ht in
/-- The first head's query gradient. -/
theorem qry0 (r : Fin 512) (d : Fin 128) :
    k0_pay22 (F := Ideal) (k0_pay21 (k0_pay8 (iblk m c 2 t)) (k0_pay12 (half 0 (iblk m c 1 t : Vec Ideal S4352x256 .bf16))) (k0_pay14 (iblk m c 4 t)) (k0_pay15 (iblk m c 4 t) (iblk m c 3 t))
      (k0_pay16 (half 0 (iblk m c 0 t : Vec Ideal S512x256 .bf16)) (half 0 (iblk m c 1 t : Vec Ideal S4352x256 .bf16)) (srow 0 (iblk m c 5 t))) (iblk m c 6 t) (iblk m c 7 t)) (ix2 r d)
      = (ext96 (DQ r0 r1 r2 r3 r4 r5 (hd p 0) (row i r)) d.val : EReal) :=
  (pay22_apply (x6_apply D t p i ht) (x7_apply D t p i ht) (x1_apply D t p i ht 0) _ _ _ _ _ (score0 D t p i ht) r d).trans
    (congrArg _ (turned (hd p 0) i r d))

include D ht in
/-- The second head's query gradient. -/
theorem qry1 (r : Fin 512) (d : Fin 128) :
    k0_pay3 (F := Ideal) (k0_pay24 (half 1 (iblk m c 1 t : Vec Ideal S4352x256 .bf16))) (k0_pay28 (k0_pay8 (iblk m c 2 t)) (iblk m c 4 t) (k0_pay9 (iblk m c 4 t) (iblk m c 3 t)) k0_pay10
      (half 1 (iblk m c 0 t : Vec Ideal S512x256 .bf16)) (half 1 (iblk m c 1 t : Vec Ideal S4352x256 .bf16)) (srow 1 (iblk m c 5 t))) (iblk m c 6 t) (iblk m c 7 t) (ix2 r d)
      = (ext96 (DQ r0 r1 r2 r3 r4 r5 (hd p 1) (row i r)) d.val : EReal) :=
  (pay3_apply (x6_apply D t p i ht) (x7_apply D t p i ht) (x1_apply D t p i ht 1) _ _ (score1 D t p i ht) r d).trans
    (congrArg _ (turned (hd p 1) i r d))

/-! ## One point's step on the carried state -/

/-- The carried state: the three results' blocks and the two accumulators. -/
abbrev St : Type := Vec Ideal S512x256 .bf16 × Vec Ideal S4352x256 .bf16 × Vec Ideal S4352x128 .bf16 × Vec Ideal S4352x256 .f32 × Vec Ideal S4352x128 .f32

variable (acc : St)

/-- Case A of the query gradient's block. -/
theorem out8_A (h0 : t.val % 8 = 0) (h1 : ¬t.val % 8 = 7) : (stAt0 m c t.val t.isLt acc).1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) :=
  by rw [stAt0_A m c t acc h0 h1]

/-- Case A of the key-gradient accumulator. -/
theorem acc0_A (h0 : t.val % 8 = 0) (h1 : ¬t.val % 8 = 7) : (stAt0 m c t.val t.isLt acc).2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) :=
  by rw [stAt0_A m c t acc h0 h1]

/-- Case A of the value-gradient accumulator. -/
theorem acc1_A (h0 : t.val % 8 = 0) (h1 : ¬t.val % 8 = 7) : (stAt0 m c t.val t.isLt acc).2.2.2.2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) :=
  by rw [stAt0_A m c t acc h0 h1]

/-- Case B of the query gradient's block. -/
theorem out8_B (h0 : ¬t.val % 8 = 0) (h1 : ¬t.val % 8 = 7) : (stAt0 m c t.val t.isLt acc).1 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.1 acc.2.2.2.2 :=
  by rw [stAt0_B m c t acc h0 h1]

/-- Case B of the key-gradient accumulator. -/
theorem acc0_B (h0 : ¬t.val % 8 = 0) (h1 : ¬t.val % 8 = 7) : (stAt0 m c t.val t.isLt acc).2.2.2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.1 acc.2.2.2.2 :=
  by rw [stAt0_B m c t acc h0 h1]

/-- Case B of the value-gradient accumulator. -/
theorem acc1_B (h0 : ¬t.val % 8 = 0) (h1 : ¬t.val % 8 = 7) : (stAt0 m c t.val t.isLt acc).2.2.2.2 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.1 acc.2.2.2.2 :=
  by rw [stAt0_B m c t acc h0 h1]

/-- Case C of the query gradient's block. -/
theorem out8_C (h0 : ¬t.val % 8 = 0) (h1 : t.val % 8 = 7) : (stAt0 m c t.val t.isLt acc).1 = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.1 acc.2.2.2.2 :=
  by rw [stAt0_C m c t acc h0 h1]

/-- Case C of the key gradient's block. -/
theorem out9_C (h0 : ¬t.val % 8 = 0) (h1 : t.val % 8 = 7) : (stAt0 m c t.val t.isLt acc).2.1 = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.1 acc.2.2.2.2 :=
  by rw [stAt0_C m c t acc h0 h1]

/-- Case C of the value gradient's block. -/
theorem out10_C (h0 : ¬t.val % 8 = 0) (h1 : t.val % 8 = 7) : (stAt0 m c t.val t.isLt acc).2.2.1 = out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.1 acc.2.2.2.2 :=
  by rw [stAt0_C m c t acc h0 h1]

/-- Case C of the key-gradient accumulator. -/
theorem acc0_C (h0 : ¬t.val % 8 = 0) (h1 : t.val % 8 = 7) : (stAt0 m c t.val t.isLt acc).2.2.2.1 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.1 acc.2.2.2.2 :=
  by rw [stAt0_C m c t acc h0 h1]

/-- Case C of the value-gradient accumulator. -/
theorem acc1_C (h0 : ¬t.val % 8 = 0) (h1 : t.val % 8 = 7) : (stAt0 m c t.val t.isLt acc).2.2.2.2 = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.1 acc.2.2.2.2 :=
  by rw [stAt0_C m c t acc h0 h1]

include D ht in
/-- The query gradient's block, in its halves. -/
theorem out8 (s : Fin 2) (r : Fin 512) (d : Fin 128) :
    (stAt0 m c t.val t.isLt acc).1 (ix2 r (lane s d)) = (ext96 (DQ r0 r1 r2 r3 r4 r5 (hd p s) (row i r)) d.val : EReal) := by
  by_cases h0 : t.val % 8 = 0
  · have h1 : ¬t.val % 8 = 7 := by omega
    obtain rfl | rfl : s = 0 ∨ s = 1 := by omega
    · exact (congrFun (out8_A t acc h0 h1) _).trans ((o8_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) r d).trans (qry0 D t p i ht r d))
    · exact (congrFun (out8_A t acc h0 h1) _).trans ((o8_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) r d).trans (qry1 D t p i ht r d))
  · by_cases h1 : t.val % 8 = 7
    · obtain rfl | rfl : s = 0 ∨ s = 1 := by omega
      · exact (congrFun (out8_C t acc h0 h1) _).trans ((o8_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) ((hcond0_1 t).mpr h1) r d).trans (qry0 D t p i ht r d))
      · exact (congrFun (out8_C t acc h0 h1) _).trans ((o8_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) ((hcond0_1 t).mpr h1) r d).trans (qry1 D t p i ht r d))
    · obtain rfl | rfl : s = 0 ∨ s = 1 := by omega
      · exact (congrFun (out8_B t acc h0 h1) _).trans ((o8_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) (fun h => h1 ((hcond0_1 t).mp h)) r d).trans (qry0 D t p i ht r d))
      · exact (congrFun (out8_B t acc h0 h1) _).trans ((o8_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) (fun h => h1 ((hcond0_1 t).mp h)) r d).trans (qry1 D t p i ht r d))

/-- The cleared accumulators. -/
abbrev clearK : Vec Ideal S4352x256 .f32 := k0_pay6 (F := Ideal)
/-- The cleared value-gradient accumulator. -/
abbrev clearV : Vec Ideal S4352x128 .f32 := k0_pay7 (F := Ideal)
/-- The cleared key-gradient accumulator adds nothing. -/
theorem from_zero (s : Fin 2) (j : Fin 4352) (d : Fin 128) (x : ℝ) :
    (half s clearK (ix2 j d) : EReal) + (x : EReal) = (x : EReal) := by
  have h : (half s clearK (ix2 j d) : EReal) = 0 := pay6_apply _
  rw [h, zero_add]
/-- The cleared value-gradient accumulator adds nothing. -/
theorem from_zero' (y : S4352x128.Idx) (x : ℝ) : (clearV y : EReal) + (x : EReal) = (x : EReal) := by
  have h : (clearV y : EReal) = 0 := pay7_apply _
  rw [h, zero_add]

include D ht in
/-- The key-gradient accumulator restarts at a head pair's first row block. -/
theorem accK_first (h0 : t.val % 8 = 0) (s : Fin 2) (j : Fin 4352) (d : Fin 128) :
    (stAt0 m c t.val t.isLt acc).2.2.2.1 (ix2 j (lane s d)) = (kAdd r0 r1 r2 r3 r4 r5 (hd p s) i j d : EReal) := by
  have h1 : ¬t.val % 8 = 7 := by omega
  obtain rfl | rfl : s = 0 ∨ s = 1 := by omega
  · exact (congrFun (acc0_A t acc h0 h1) _).trans ((s0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) j d).trans ((key0 D t p i ht (half 0 clearK) j d).trans (from_zero 0 j d _)))
  · exact (congrFun (acc0_A t acc h0 h1) _).trans ((s0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) j d).trans ((key1 D t p i ht (half 1 clearK) j d).trans (from_zero 1 j d _)))

/-- A head's half of an accumulator, at its lane. -/
theorem from_acc (s : Fin 2) (w : Vec Ideal S4352x256 .f32) (j : Fin 4352) (d : Fin 128) (x : ℝ) :
    half s w (ix2 j d) + (x : EReal) = w (ix2 j (lane s d)) + (x : EReal) := rfl

include D ht in
/-- It gains a share at every later row block. -/
theorem accK_next (h0 : ¬t.val % 8 = 0) (s : Fin 2) (j : Fin 4352) (d : Fin 128) :
    (stAt0 m c t.val t.isLt acc).2.2.2.1 (ix2 j (lane s d))
      = (acc.2.2.2.1 (ix2 j (lane s d)) + (kAdd r0 r1 r2 r3 r4 r5 (hd p s) i j d : EReal) : EReal) := by
  by_cases h1 : t.val % 8 = 7
  · obtain rfl | rfl : s = 0 ∨ s = 1 := by omega
    · exact (congrFun (acc0_C t acc h0 h1) _).trans ((s0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) ((hcond0_1 t).mpr h1) j d).trans ((key0 D t p i ht (half 0 acc.2.2.2.1) j d).trans (from_acc 0 acc.2.2.2.1 j d _)))
    · exact (congrFun (acc0_C t acc h0 h1) _).trans ((s0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) ((hcond0_1 t).mpr h1) j d).trans ((key1 D t p i ht (half 1 acc.2.2.2.1) j d).trans (from_acc 1 acc.2.2.2.1 j d _)))
  · obtain rfl | rfl : s = 0 ∨ s = 1 := by omega
    · exact (congrFun (acc0_B t acc h0 h1) _).trans ((s0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) (fun h => h1 ((hcond0_1 t).mp h)) j d).trans ((key0 D t p i ht (half 0 acc.2.2.2.1) j d).trans (from_acc 0 acc.2.2.2.1 j d _)))
    · exact (congrFun (acc0_B t acc h0 h1) _).trans ((s0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) (fun h => h1 ((hcond0_1 t).mp h)) j d).trans ((key1 D t p i ht (half 1 acc.2.2.2.1) j d).trans (from_acc 1 acc.2.2.2.1 j d _)))

include D ht in
/-- The value-gradient accumulator restarts at a head pair's first row block. -/
theorem accV_first (h0 : t.val % 8 = 0) (j : Fin 4352) (l : Fin 128) :
    (stAt0 m c t.val t.isLt acc).2.2.2.2 (ix2 j l) = (vAdd r0 r1 r3 r4 r5 p i j l : EReal) := by
  have h1 : ¬t.val % 8 = 7 := by omega
  exact (congrFun (acc1_A t acc h0 h1) _).trans ((congrFun (s1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))) (ix2 j l)).trans ((val01 D t p i ht clearV j l).trans (from_zero' _ _)))

include D ht in
/-- It gains a share at every later row block. -/
theorem accV_next (h0 : ¬t.val % 8 = 0) (j : Fin 4352) (l : Fin 128) :
    (stAt0 m c t.val t.isLt acc).2.2.2.2 (ix2 j l) = (acc.2.2.2.2 (ix2 j l) + (vAdd r0 r1 r3 r4 r5 p i j l : EReal) : EReal) := by
  by_cases h1 : t.val % 8 = 7
  · exact (congrFun (acc1_C t acc h0 h1) _).trans ((congrFun (s1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) ((hcond0_1 t).mpr h1)) (ix2 j l)).trans (val01 D t p i ht acc.2.2.2.2 j l))
  · exact (congrFun (acc1_B t acc h0 h1) _).trans ((congrFun (s1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) (fun h => h1 ((hcond0_1 t).mp h))) (ix2 j l)).trans (val01 D t p i ht acc.2.2.2.2 j l))

/-- The scaling of the key gradients at one place. -/
theorem pay4_at (w : Vec Ideal S4352x256 .f32) (y : S4352x256.Idx) (a : ℝ) (ha : w y = (a : EReal)) : k0_pay4 w y = ((a * cA : ℝ) : EReal) := by
  refine (congrArg₂ (FloatOps.mulf (F := Ideal) (φ := .f32)) ha ofBits_cA).trans ?_
  rw [Ideal.mulf_def, EReal.coe_mul]

/-- The same through equal blocks. -/
theorem scaled {A B : Vec Ideal S4352x256 .bf16} {S C : Vec Ideal S4352x256 .f32} (e₁ : A = B) (e₂ : B = k0_pay4 C) (e₃ : S = C)
    (y : S4352x256.Idx) (a : ℝ) (ha : S y = (a : EReal)) : A y = ((a * cA : ℝ) : EReal) := by
  subst e₁ e₂ e₃
  exact pay4_at _ y a ha

/-- The key gradient's block at a head pair's last row block: the accumulator scaled. -/
theorem out9 (h1 : t.val % 8 = 7) (y : S4352x256.Idx) (a : ℝ) (ha : (stAt0 m c t.val t.isLt acc).2.2.2.1 y = (a : EReal)) :
    (stAt0 m c t.val t.isLt acc).2.1 y = ((a * cA : ℝ) : EReal) := by
  have h0 : ¬t.val % 8 = 0 := by omega
  exact scaled (out9_C t acc h0 h1) (o9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) ((hcond0_1 t).mpr h1)) (acc0_C t acc h0 h1) y a ha

/-- The narrowing of the value gradients changes nothing, through equal blocks. -/
theorem kept {A B : Vec Ideal S4352x128 .bf16} {S C : Vec Ideal S4352x128 .f32} (e₁ : A = B) (e₂ : B = k0_pay5 C) (e₃ : S = C)
    (y : S4352x128.Idx) : A y = S y := by
  subst e₁ e₂ e₃
  rfl

/-- The value gradient's block at a head pair's last row block: the accumulator. -/
theorem out10 (h1 : t.val % 8 = 7) (y : S4352x128.Idx) : (stAt0 m c t.val t.isLt acc).2.2.1 y = (stAt0 m c t.val t.isLt acc).2.2.2.2 y := by
  have h0 : ¬t.val % 8 = 0 := by omega
  exact kept (out10_C t acc h0 h1) (o10_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.1 acc.2.2.2.2 (fun h => h0 ((hcond0_0 t).mp h)) ((hcond0_1 t).mpr h1)) (acc1_C t acc h0 h1) y

end Cert.Attn.Step
end
-- ==== Proof.Fold.lean ====
module

public import proofs.«01_k».proof.Proof.Step

@[expose] public section

set_option maxRecDepth 16384

noncomputable section

namespace Cert.Attn.Fold

open Idealize.ShloMosaic Idealize.ShloMosaic.TcCoe Idealize.SL.Sem Idealize.ShloMosaic.ValueIdx
open Cert.KernelIdeal Cert.KernelIdeal.Gen Cert.KernelIdeal.Value
open Cert.Attn.HostK Cert.Attn.HostAt Cert.Attn.Pieces Cert.Attn.Blocks Cert.Attn.Tile Cert.Attn.Operands Cert.Attn.Pays Cert.Attn.Step

/-! ## The carried state after each point -/

section Chain
variable (m : (ℓ : Loc nD τ sig) → Buf (Elt Ideal) ℓ) (c : Dev nD)

/-- The state after point `n`, by recursion over the points. -/
def chain : (n : ℕ) → n < cfg0.N → St
  | 0, h => stAt0 m c 0 h junk0
  | n + 1, h => stAt0 m c (n + 1) h (chain n (Nat.lt_of_succ_lt h))

/-- The step does not depend on how the point's number is written. -/
theorem step_congr {a b : ℕ} (e : a = b) (ha : a < cfg0.N) (acc : St) : stAt0 m c a ha acc = stAt0 m c b (e ▸ ha) acc := by
  subst e
  rfl

/-- The fold the results read is that recursion. -/
theorem fold_eq : ∀ (n : ℕ) (h : 0 + n < cfg0.N) (h' : n < cfg0.N),
    Pipeline.accAt (fun n h => stAt0 m c n h junk0) (stAt0 m c) 0 n h = chain m c n h'
  | 0, _, _ => rfl
  | n + 1, h, h' => by
    rw [Pipeline.accAt_succ, fold_eq n (Nat.lt_of_succ_lt h) (Nat.lt_of_succ_lt h')]
    exact step_congr m c (Nat.zero_add (n + 1)) h _

/-- Every point's state is a step from some state. -/
theorem chain_step : ∀ (n : ℕ) (h : n < cfg0.N), ∃ acc : St, chain m c n h = stAt0 m c n h acc
  | 0, _ => ⟨junk0, rfl⟩
  | n + 1, h => ⟨chain m c n (Nat.lt_of_succ_lt h), rfl⟩

end Chain

/-! ## Sums over the row blocks -/

/-- A sum over the rows, block by block. -/
theorem sum_rows (f : Fin 4096 → ℝ) : ∑ i : Fin 8, ∑ r : Fin 512, f (row i r) = ∑ a, f a := by
  rw [← Fintype.sum_prod_type' (fun (i : Fin 8) (r : Fin 512) => f (row i r))]
  exact Fintype.sum_equiv (finProdFinEquiv (m := 8) (n := 512)) _ f fun x => congrArg f (Fin.ext (Nat.add_comm _ _))

/-- The first `n` of eight terms. -/
def upto (f : Fin 8 → ℝ) : ℕ → ℝ
  | 0 => 0
  | n + 1 => upto f n + if h : n < 8 then f ⟨n, h⟩ else 0

/-- All eight terms. -/
theorem upto_eight (f : Fin 8 → ℝ) : upto f 8 = ∑ i, f i := by
  simp [upto, Fin.sum_univ_eight]

/-- One more term. -/
theorem upto_succ (f : Fin 8 → ℝ) (i : Fin 8) : upto f (i.val + 1) = upto f i.val + f i := by
  rw [upto, dif_pos i.isLt]

variable {r0 : S4096x8x96.Idx → ℝ} {r1 : S4352x8x96.Idx → ℝ} {r2 : S4352x8x64.Idx → ℝ} {r3 r4 : S4096x2x8.Idx → ℝ}
  {r5 : S4096x1024.Idx → ℝ} {μ : Fin 8 → Fin 4096 → ℝ}
variable {m : (ℓ : Loc nD τ sig) → Buf (Elt Ideal) ℓ} {c : Dev nD} (D : Data m c r0 r1 r2 r3 r4 r5 μ)

include D in
/-- The key-gradient accumulator after row block `k` of head pair `p`. -/
theorem chainK (p : Fin 4) (s : Fin 2) (j : Fin 4352) (d : Fin 128) : ∀ (k : ℕ) (_ : k < 8) (n : ℕ) (h : n < cfg0.N) (_ : n = 8 * p.val + k),
    (chain m c n h).2.2.2.1 (ix2 j (lane s d)) = (upto (fun i => kAdd r0 r1 r2 r3 r4 r5 (hd p s) i j d) (k + 1) : EReal)
  | 0, hk, n, h, hn => by
    obtain ⟨acc, e⟩ := chain_step m c n h
    rw [e, upto_succ _ ⟨0, hk⟩]
    refine (accK_first D ⟨n, h⟩ p ⟨0, hk⟩ hn acc (by show n % 8 = 0; omega) s j d).trans ?_
    rw [show upto (fun i => kAdd r0 r1 r2 r3 r4 r5 (hd p s) i j d) (⟨0, hk⟩ : Fin 8).val = 0 from rfl, zero_add]
  | k + 1, hk, n, h, hn => by
    obtain ⟨n', rfl⟩ : ∃ n', n = n' + 1 := ⟨8 * p.val + k, by omega⟩
    have ih := chainK p s j d k (by omega) n' (Nat.lt_of_succ_lt h) (by omega)
    refine (accK_next D ⟨n' + 1, h⟩ p ⟨k + 1, hk⟩ hn (chain m c n' (Nat.lt_of_succ_lt h)) (by show ¬(n' + 1) % 8 = 0; omega) s j d).trans ?_
    rw [ih, ← EReal.coe_add, upto_succ _ ⟨k + 1, hk⟩]

include D in
/-- The value-gradient accumulator after row block `k` of head pair `p`. -/
theorem chainV (p : Fin 4) (j : Fin 4352) (l : Fin 128) : ∀ (k : ℕ) (_ : k < 8) (n : ℕ) (h : n < cfg0.N) (_ : n = 8 * p.val + k),
    (chain m c n h).2.2.2.2 (ix2 j l) = (upto (fun i => vAdd r0 r1 r3 r4 r5 p i j l) (k + 1) : EReal)
  | 0, hk, n, h, hn => by
    obtain ⟨acc, e⟩ := chain_step m c n h
    rw [e, upto_succ _ ⟨0, hk⟩]
    refine (accV_first D ⟨n, h⟩ p ⟨0, hk⟩ hn acc (by show n % 8 = 0; omega) j l).trans ?_
    rw [show upto (fun i => vAdd r0 r1 r3 r4 r5 p i j l) (⟨0, hk⟩ : Fin 8).val = 0 from rfl, zero_add]
  | k + 1, hk, n, h, hn => by
    obtain ⟨n', rfl⟩ : ∃ n', n = n' + 1 := ⟨8 * p.val + k, by omega⟩
    have ih := chainV p j l k (by omega) n' (Nat.lt_of_succ_lt h) (by omega)
    refine (accV_next D ⟨n' + 1, h⟩ p ⟨k + 1, hk⟩ hn (chain m c n' (Nat.lt_of_succ_lt h)) (by show ¬(n' + 1) % 8 = 0; omega) j l).trans ?_
    rw [ih, ← EReal.coe_add, upto_succ _ ⟨k + 1, hk⟩]

/-- All shares of a key gradient, scaled. -/
theorem allK (h : Fin 8) (j : Fin 4352) (d : Fin 128) :
    upto (fun i => kAdd r0 r1 r2 r3 r4 r5 h i j d) 8 * cA = ext96 (DK r0 r1 r2 r3 r4 r5 h j) d.val := by
  rw [upto_eight]
  refine (congrArg (· * cA) (sum_rows fun a => dscore (ss r0 r1 r3 r4 h) (vv r2 h) (gg r5 h) a j * ext96 (qq r0 r3 r4 h a) d.val)).trans ?_
  exact sum_mul_ext96 _ _ _ _

/-- All shares of a value gradient. -/
theorem allV (p : Fin 4) (j : Fin 4352) (l : Fin 128) :
    upto (fun i => vAdd r0 r1 r3 r4 r5 p i j l) 8 = DV r0 r1 r3 r4 r5 (hdOf p l) j (lnOf l) := by
  rw [upto_eight]
  exact sum_rows fun a => prob (ss r0 r1 r3 r4 (hdOf p l)) a j * gg r5 (hdOf p l) a (lnOf l)

/-! ## The results -/

include D in
/-- The query gradient the kernel leaves. -/
theorem G8_apply (y : S4096x1024.Idx) : (G8 m c : Vec Ideal S4096x1024 .bf16) y = (outQ r0 r1 r2 r3 r4 r5 y : EReal) := by
  have h0 : (y 0).val < 4096 := (y 0).isLt
  have h1 : (y 1).val < 1024 := (y 1).isLt
  have hN : cfg0.N = 32 := by decide +kernel
  have hp : pt8Of y = 8 * ((y 1).val / 256) + (y 0).val / 512 := by show 1 * _ + 8 * _ = _; omega
  have hlt : pt8Of y < cfg0.N := by rw [hN, hp]; omega
  obtain ⟨acc, e⟩ := chain_step m c (pt8Of y) hlt
  have hl : loc8Of y = ix2 (⟨(y 0).val % 512, by omega⟩ : Fin 512) (lane ⟨(y 1).val % 256 / 128, by omega⟩ ⟨(y 1).val % 128, by omega⟩) := by
    refine ext2 _ _ rfl ?_
    show (y 1).val % 256 = 128 * ((y 1).val % 256 / 128) + (y 1).val % 128
    omega
  refine (dif_pos hlt).trans ?_
  rw [fold_eq m c _ _ hlt, e, hl]
  refine (out8 D ⟨pt8Of y, hlt⟩ ⟨(y 1).val / 256, by omega⟩ ⟨(y 0).val / 512, by omega⟩ hp acc _ _ _).trans ?_
  refine congrArg _ ?_
  unfold outQ
  refine congrArg₂ (fun h i => ext96 (DQ r0 r1 r2 r3 r4 r5 h i) ((y 1).val % 128)) (Fin.ext ?_) (Fin.ext ?_)
  · show 2 * ((y 1).val / 256) + (y 1).val % 256 / 128 = (y 1).val / 128
    omega
  · show 512 * ((y 0).val / 512) + (y 0).val % 512 = (y 0).val
    omega

include D in
/-- The key gradient the kernel leaves. -/
theorem G9_apply (y : S4352x1024.Idx) : (G9 m c : Vec Ideal S4352x1024 .bf16) y = (outK r0 r1 r2 r3 r4 r5 y : EReal) := by
  have h0 : (y 0).val < 4352 := (y 0).isLt
  have h1 : (y 1).val < 1024 := (y 1).isLt
  have hN : cfg0.N = 32 := by decide +kernel
  have hp : pt9Of y = 8 * ((y 1).val / 256) + 7 := by show 8 * (4 * _ + 1 * _) + 7 = _; omega
  have hlt : pt9Of y < cfg0.N := by rw [hN, hp]; omega
  obtain ⟨acc, e⟩ := chain_step m c (pt9Of y) hlt
  have hl : loc9Of y = ix2 (y 0 : Fin 4352) (lane ⟨(y 1).val % 256 / 128, by omega⟩ ⟨(y 1).val % 128, by omega⟩) := by
    refine ext2 _ _ (Nat.mod_eq_of_lt h0) ?_
    show (y 1).val % 256 = 128 * ((y 1).val % 256 / 128) + (y 1).val % 128
    omega
  refine (dif_pos hlt).trans ?_
  rw [fold_eq m c _ _ hlt, hl]
  have hk := chainK D ⟨(y 1).val / 256, by omega⟩ ⟨(y 1).val % 256 / 128, by omega⟩ (y 0) ⟨(y 1).val % 128, by omega⟩ 7 (by omega) (pt9Of y) hlt hp
  rw [e] at hk ⊢
  refine (out9 ⟨pt9Of y, hlt⟩ acc (by show pt9Of y % 8 = 7; omega) _ _ hk).trans ?_
  refine congrArg _ ((allK _ _ _).trans ?_)
  unfold outK
  refine congrArg (fun h => ext96 (DK r0 r1 r2 r3 r4 r5 h (y 0)) ((y 1).val % 128)) (Fin.ext ?_)
  show 2 * ((y 1).val / 256) + (y 1).val % 256 / 128 = (y 1).val / 128
  omega

include D in
/-- The value gradient the kernel leaves. -/
theorem G10_apply (y : S4352x512.Idx) : (G10 m c : Vec Ideal S4352x512 .bf16) y = (outV r0 r1 r3 r4 r5 y : EReal) := by
  have h0 : (y 0).val < 4352 := (y 0).isLt
  have h1 : (y 1).val < 512 := (y 1).isLt
  have hN : cfg0.N = 32 := by decide +kernel
  have hp : pt10Of y = 8 * ((y 1).val / 128) + 7 := by show 8 * (4 * _ + 1 * _) + 7 = _; omega
  have hlt : pt10Of y < cfg0.N := by rw [hN, hp]; omega
  obtain ⟨acc, e⟩ := chain_step m c (pt10Of y) hlt
  have hl : loc10Of y = ix2 (y 0 : Fin 4352) (⟨(y 1).val % 128, by omega⟩ : Fin 128) :=
    ext2 _ _ (Nat.mod_eq_of_lt h0) rfl
  refine (dif_pos hlt).trans ?_
  rw [fold_eq m c _ _ hlt, hl]
  have hk := chainV D ⟨(y 1).val / 128, by omega⟩ (y 0) ⟨(y 1).val % 128, by omega⟩ 7 (by omega) (pt10Of y) hlt hp
  rw [e] at hk ⊢
  refine (out10 ⟨pt10Of y, hlt⟩ acc (by show pt10Of y % 8 = 7; omega) _).trans (hk.trans ?_)
  refine congrArg _ ((allV _ _ _).trans ?_)
  unfold outV
  refine congrArg₂ (fun h l => DV r0 r1 r3 r4 r5 h (y 0) l) (Fin.ext ?_) (Fin.ext ?_)
  · show 2 * ((y 1).val / 128) + (y 1).val % 128 / 64 = (y 1).val / 64
    omega
  · show (y 1).val % 128 % 64 = (y 1).val % 64
    omega

end Cert.Attn.Fold
end
-- ==== Proof.Finite.lean ====
module

public import proofs.«01_k».proof.Proof.Gen.Pre_finite
public import proofs.«01_k».proof.Proof.Ref
public import Idealize.ShloMosaic.Lib.ReduceAll
public import Idealize.ShloMosaic.Lib.Affine

@[expose] public section

set_option maxRecDepth 16384

noncomputable section

namespace Cert.Attn.Finite

open Idealize.ShloMosaic Cert.Pre_finite

/-- An extended real whose absolute value is below the pattern of infinity is a real. -/
theorem of_below {x : EReal} (h : Ideal.cmp .olt (max x (-x)) (FloatOps.ofBits (F := Ideal) .f32 0x7F800000#32) = 1#1) : x = (x.toReal : EReal) := by
  have e : (FloatOps.ofBits (F := Ideal) .f32 0x7F800000#32 : EReal) = ⊤ := by
    show Ideal.ofBits .f32 0x7F800000#32 = ⊤
    simp [Ideal.ofBits, Ideal.ieee]
  rw [e] at h
  have hx : max x (-x) < ⊤ := by
    by_contra hn
    simp [Ideal.cmp, hn] at h
  refine (EReal.coe_toReal ?_ ?_).symm
  · rintro rfl
    simp at hx
  · rintro rfl
    simp at hx

/-- The index of a scalar is unique. -/
instance : Subsingleton S_.Idx := ⟨fun a b => funext fun k => k.elim0⟩

/-- The precondition's conjunct about one array, at an index. -/
theorem at_index {s : Shape} (x : FVec Ideal s .f32) (b : FVec Ideal s .f32) (hb : ∀ y, b y = FloatOps.ofBits (F := Ideal) .f32 0x7F800000#32)
    (init : IVec S_ 1) {l : List (Fin s.rank)} (hr : s.ReducesTo l S_) (j : S_.Idx)
    (e : Host.reduce IntOp.andi (cmpf .olt (Host.absf x) b) init hr Gen.h_S_ j = 1#1) (y : s.Idx) : x y = ((x y).toReal : EReal) := by
  have h := Host.reduce_andi_all _ init hr Gen.h_S_ j e y
  refine of_below ?_
  rw [← hb y]
  exact h

/-- The precondition says every entry of every argument is a real. -/
theorem all (x0 : FVec Ideal S4096x8x96 .f32) (x1 : FVec Ideal S4352x8x96 .f32) (x2 : FVec Ideal S4352x8x64 .f32)
    (x3 x4 : FVec Ideal S4096x2x8 .f32) (x5 : FVec Ideal S4096x1024 .f32) (h : fn (F := Ideal) x0 x1 x2 x3 x4 x5 = fun _ => 1#1) :
    (∀ y, x0 y = ((x0 y).toReal : EReal)) ∧ (∀ y, x1 y = ((x1 y).toReal : EReal)) ∧ (∀ y, x2 y = ((x2 y).toReal : EReal))
      ∧ (∀ y, x3 y = ((x3 y).toReal : EReal)) ∧ (∀ y, x4 y = ((x4 y).toReal : EReal)) ∧ ∀ y, x5 y = ((x5 y).toReal : EReal) := by
  have e := congrFun h (fun k => k.elim0)
  unfold fn fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨_, e0⟩ := IntOp.andi_eq_one.1 e
  refine ⟨at_index x0 _ ?_ _ _ _ e0, at_index x1 _ ?_ _ _ _ e1, at_index x2 _ ?_ _ _ _ e2,
    at_index x3 _ ?_ _ _ _ e3, at_index x4 _ ?_ _ _ _ e4, at_index x5 _ ?_ _ _ _ e5⟩
  all_goals exact fun _ => rfl

end Cert.Attn.Finite
end
-- ==== Proof.Claims.lean ====
module

public import proofs.«01_k».proof.Defs
public import proofs.«01_k».proof.Proof.Gen.Kernel
public import proofs.«01_k».proof.Proof.Gen.Kernel.Frame
public import proofs.«01_k».proof.Proof.Gen.ReferenceIdeal.Run
public import proofs.«01_k».proof.Proof.RefGrad
public import proofs.«01_k».proof.Proof.Fold
public import proofs.«01_k».proof.Proof.Finite

@[expose] public section

set_option maxRecDepth 16384

noncomputable section

namespace Cert.Attn.Claims

open Idealize.ShloMosaic Idealize.ShloMosaic.TcCoe Idealize.SL.Sem Idealize.ShloMosaic.ValueIdx
open Cert.Attn.HostK Cert.Attn.Operands

/-- The reference runs and leaves its arguments and the counters as they were. -/
theorem reference : Cert.quiescent_ReferenceIdeal := fun m g _ =>
  (θ_run (Cert.ReferenceIdeal.defs (F := Ideal)) _ _).mono
    (fun r h => ⟨fun c => (h c).2.2.2, sem_eq_zero_of_no_sems (by decide) r.2⟩) (Cert.ReferenceIdeal.Value.run (F := Ideal) m g)

/-- The named constant. -/
theorem preserves : Cert.preserves_Kernel_KernelIdeal :=
  IdealRules.named_const.statement _ "exp2_scale" .f32 0x3E16C740#32 _ rfl

variable (m : (ℓ : Loc Cert.KernelIdeal.nD Cert.KernelIdeal.τ Cert.KernelIdeal.sig) → Buf (Elt Ideal) ℓ)

/-- Finite arguments give the real arrays behind them. -/
theorem data (c : Dev Cert.KernelIdeal.nD)
    (h : Cert.Pre_finite.fn (F := Ideal) (X0 m c) (X1 m c) (X2 m c) (X3 m c) (X4 m c) (X5 m c) = fun _ => 1#1) :
    ∃ μ, Data m c (fun y => (X0 m c y).toReal) (fun y => (X1 m c y).toReal) (fun y => (X2 m c y).toReal) (fun y => (X3 m c y).toReal)
      (fun y => (X4 m c y).toReal) (fun y => (X5 m c y).toReal) μ := by
  obtain ⟨h0, h1, h2, h3, h4, h5⟩ := Finite.all _ _ _ _ _ _ h
  choose μ hμ using fun a b => Ref.v27_real (x0 := X0 m c) (x1 := X1 m c) (x3 := X3 m c) (x4 := X4 m c) h0 h1 h3 h4 a b
  exact ⟨μ, h0, h1, h2, h3, h4, h5, hμ⟩

/-- The kernel's gradients are the reference's. -/
theorem algebraic : Cert.algebraic_KernelIdeal_ReferenceIdeal_pre_finite := by
  intro m g m' g' hpre hagree
  refine ⟨fun c => Cert.KernelIdeal.Value.G8 m c, fun c => Cert.KernelIdeal.Value.G9 m c, fun c => Cert.KernelIdeal.Value.G10 m c,
    Cert.KernelIdeal.Value.run (F := Ideal) m g, ?_⟩
  refine (θ_run (Cert.ReferenceIdeal.defs (F := Ideal)) _ _).mono (fun r h c => ?_) (Cert.ReferenceIdeal.Value.run (F := Ideal) m' g')
  obtain ⟨e0, e1, e2, e3, e4, e5⟩ := hagree c
  obtain ⟨k0, k1, k2, kept⟩ := h c
  obtain ⟨μ, D⟩ := data m c (hpre c)
  refine ⟨?_, ?_, ?_, kept⟩
  · refine k0.trans ((Cert.ReferenceIdeal.Read.val_main_v111_eq (F := Ideal) (StableHlo.launchContents m' c)).trans ?_)
    refine Eq.trans (b := Cert.ReferenceIdeal.Read.val_main_v111 (F := Ideal) (X0 m c) (X1 m c) (X2 m c) (X3 m c) (X4 m c) (X5 m c)) ?_ ?_
    · exact congr (congr (congr (congr (congr (congrArg _ e0) e1) e2) e3) e4) e5
    · exact funext fun y => (Ref.v111_apply D.h0 D.h1 D.h2 D.h3 D.h4 D.h5 y).trans (Fold.G8_apply D y).symm
  · refine k1.trans ((Cert.ReferenceIdeal.Read.val_main_v114_eq (F := Ideal) (StableHlo.launchContents m' c)).trans ?_)
    refine Eq.trans (b := Cert.ReferenceIdeal.Read.val_main_v114 (F := Ideal) (X0 m c) (X1 m c) (X2 m c) (X3 m c) (X4 m c) (X5 m c)) ?_ ?_
    · exact congr (congr (congr (congr (congr (congrArg _ e0) e1) e2) e3) e4) e5
    · exact funext fun y => (Ref.v114_apply D.h0 D.h1 D.h2 D.h3 D.h4 D.h5 y).trans (Fold.G9_apply D y).symm
  · refine k2.trans ((Cert.ReferenceIdeal.Read.val_main_v116_eq (F := Ideal) (StableHlo.launchContents m' c)).trans ?_)
    refine Eq.trans (b := Cert.ReferenceIdeal.Read.val_main_v116 (F := Ideal) (X0 m c) (X1 m c) (X3 m c) (X4 m c) (X5 m c)) ?_ ?_
    · exact congr (congr (congr (congr (congrArg _ e0) e1) e3) e4) e5
    · exact funext fun y => (Ref.v116_apply (x2 := X2 m c) D.h0 D.h1 D.h2 D.h3 D.h4 D.h5 y).trans (Fold.G10_apply D y).symm

end Cert.Attn.Claims
end
-- ==== Proof.Mlp2.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Ref
public import Idealize.ShloMosaic.Lib.StableHlo.RunRead
import Idealize.ShloMosaic.Lib.Pipeline.ValueKit

@[expose] public section

set_option maxRecDepth 16384

noncomputable section

namespace Cert.Mlp2

open Idealize.ShloMosaic hiding ix2 ix3
open Idealize.ShloMosaic.TcCoe Idealize.SL.Sem Idealize.ShloMosaic.ValueIdx
open Cert.Kernel2Ideal Cert.Kernel2Ideal.Gen
open Cert.Attn (ext2)

/-! ## One block of the second weight's gradient -/

/-- The product of one step: both operands contracted over their rows. -/
theorem mm (A : FVec Ideal S4096x512 .bf16) (B : FVec Ideal S4096x1024 .bf16) (x : S512x1024.Idx) :
    matmul dot_S4096x512_S4096x1024_S512x1024_0_0_1_1_n_n none A B (constant S512x1024 .f32 0x00000000#32) x
      = ∑ k : Fin 4096, A (ix2 k (x 0)) * B (ix2 k (x 1)) := by
  refine (Ideal.matmul_constant_zero_apply dot_S4096x512_S4096x1024_S512x1024_0_0_1_1_n_n none A B x).trans ?_
  rw [← Equiv.sum_comp (contrEquiv1 dot_S4096x512_S4096x1024_S512x1024_0_0_1_1_n_n 4096 rfl rfl).symm]
  refine Finset.sum_congr rfl fun k _ => ?_
  have hc := contrEquiv1_symm_val dot_S4096x512_S4096x1024_S512x1024_0_0_1_1_n_n 4096 rfl rfl k
  exact congrArg₂ (· * ·) (congrArg A (ext2 _ _ ((DotDims.lhsIdx_val_of_single _ rfl _ _).trans hc) rfl))
    (congrArg B (ext2 _ _ ((DotDims.rhsIdx_val_of_single _ rfl _ _).trans hc) rfl))

/-- One half of the rows; all have this payload. -/
theorem pay1 (A : Vec Ideal S4096x512 .bf16) (B : Vec Ideal S4096x1024 .bf16) (x : S512x1024.Idx) :
    k0_pay1 (F := Ideal) A B x = ∑ k : Fin 4096, A (ix2 k (x 0)) * B (ix2 k (x 1)) := by
  unfold k0_pay1
  rw [shapeCast_self, shapeCast_self]
  exact mm A B x

/-- What one step leaves in the block of the result. -/
theorem out_apply (x0 : Vec Ideal S4096x1024 .bf16) (x1 : Vec Ideal S4096x1024 .bf16) (y : S1024x1024.Idx) :
    out0_2 (F := Ideal) x0 x1 y = ∑ k : Fin 4096, x0 (ix2 k (y 0)) * x1 (ix2 k (y 1)) := by
  unfold out0_2
  refine View.canon_eq_of_allAt _ y _ (cover0_2 _ _ y) ?_
  refine View.allAt_cons_unit _ _ _ _ _ (fun x hx => ?_) (View.allAt_cons_unit _ _ _ _ _ (fun x hx => ?_) (View.allAt_nil _ _))
  all_goals
    refine (pay1 _ _ x).trans ?_
    refine Finset.sum_congr rfl fun k _ => congrArg₂ (· * ·) (congrArg x0 (ext2 _ _ ?_ ?_)) (congrArg x1 (ext2 _ _ ?_ ?_))
    all_goals have h0 := hx 0; have h1 := hx 1; simp at h0 h1; simp [Cert.Attn.ix2_0, Cert.Attn.ix2_1]; try omega

/-! ## The whole array -/

/-- The activations' block index. -/
theorem idx0 : ∀ t : Fin cfg0.N, win0_0.index t = ![0, t.val] := by decide +kernel
/-- The output gradient's block index. -/
theorem idx1 : ∀ t : Fin cfg0.N, win0_1.index t = ![0, 0] := by decide +kernel
/-- The result's block index. -/
theorem idx2 : ∀ t : Fin cfg0.N, win0_2.index t = ![t.val, 0] := by decide +kernel

variable (m : (ℓ : Loc nD τ sig) → Buf (Elt Ideal) ℓ) (c : Dev nD)

/-- The kernel's first operand, the activations. -/
abbrev A : S4096x4096.Idx → EReal := V m c main_v3
/-- The kernel's second operand, the output's gradient. -/
abbrev B : S4096x1024.Idx → EReal := V m c main_v4
/-- Activations times output gradient, contracted over the rows. -/
def G (a : S4096x4096.Idx → EReal) (b : S4096x1024.Idx → EReal) : S4096x1024.Idx → EReal :=
  fun y => ∑ k : Fin 4096, a (ix2 k (y 0)) * b (ix2 k (y 1))

/-- The array after the run. -/
theorem arr : (dats m 0 c).arrAt 2 cfg0.N = G (A m c) (B m c) := by
  refine (dats m 0 c).arrAt_eq_of_covers 2 _ (by decide +kernel) fun t hf y => ?_
  blk_simp
  rw [after0_2]
  refine (out_apply _ _ y).trans ?_
  unfold G
  refine Finset.sum_congr rfl fun k _ => congrArg₂ (fun p q : EReal => p * q) ?_ ?_
  · show A m c (((cfg0.win 0).blk t).view.emb (ix2 k (y 0))) = _
    refine congrArg _ (ext2 _ _ ?_ ?_)
    · blk_simp [idx0]
    · blk_simp [idx0]; simp [Cert.Attn.ix2_1]; exact (congrFun (idx2 t) 0).symm
  · show B m c (((cfg0.win 1).blk t).view.emb (ix2 k (y 1))) = _
    refine congrArg _ (ext2 _ _ ?_ ?_)
    · blk_simp [idx1]
    · blk_simp [idx1]; simp [Cert.Attn.ix2_1]; exact congrFun (idx2 t) 1

/-! ## The operands and the reference -/

/-- The MLP's input. -/
abbrev X0 : (⟨S4096x1024, .f32⟩ : BufTy).Contents (Elt Ideal) := m (c.tc.loc main_arg0)
/-- The first weight. -/
abbrev X1 : (⟨S1024x4096, .f32⟩ : BufTy).Contents (Elt Ideal) := m (c.tc.loc main_arg1)
/-- The output's gradient. -/
abbrev X3 : (⟨S4096x1024, .f32⟩ : BufTy).Contents (Elt Ideal) := m (c.tc.loc main_arg3)

/-- The kernel's activations are the reference's. -/
theorem V3 : A m c = Cert.Reference2Ideal.Read.val_main_v2 (F := Ideal) (X0 m c) (X1 m c) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's output gradient is the argument. -/
theorem V4 : B m c = X3 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The reference's gradient of the second weight, entry by entry. -/
theorem ref_apply (x0 x3 : (⟨S4096x1024, .f32⟩ : BufTy).Contents (Elt Ideal)) (x1 : (⟨S1024x4096, .f32⟩ : BufTy).Contents (Elt Ideal)) (y : S4096x1024.Idx) :
    (Cert.Reference2Ideal.Read.val_main_v6 (F := Ideal) x0 x1 x3 y : EReal)
      = ∑ k : Fin 4096, (Cert.Reference2Ideal.Read.val_main_v2 (F := Ideal) x0 x1 (ix2 k (y 0)) : EReal) * (x3 (ix2 k (y 1)) : EReal) := by
  refine (Cert.Reference2Ideal.Read.val_main_v5_apply (F := Ideal) x0 x1 x3 y).trans ?_
  refine (Cert.Reference2Ideal.Read.val_main_v4_apply x0 x1 x3 _).trans (Finset.sum_congr rfl fun k _ => ?_)
  refine (mul_comm (_ : EReal) _).trans (congrArg₂ (· * ·) (congrArg _ (ext2 _ _ rfl rfl)) (congrArg x3 (ext2 _ _ rfl rfl)))

/-! ## The claims -/

/-- The reference runs and leaves its arguments and the counters as they were. -/
theorem reference : Cert.quiescent_Reference2Ideal := fun m g _ =>
  (θ_run (Cert.Reference2Ideal.defs (F := Ideal)) _ _).mono
    (fun r h => ⟨fun c => (h c).2, sem_eq_zero_of_no_sems (by decide) r.2⟩) (Cert.Reference2Ideal.Value.run (F := Ideal) m g)

/-- The kernel's gradient of the second weight is the reference's. -/
theorem algebraic : Cert.algebraic_Kernel2Ideal_Reference2Ideal := by
  intro m g m' g' _ hagree
  refine ⟨fun c => (dats m 0 c).arrAt 2 cfg0.N, Cert.Kernel2Ideal.Value.run_blocks (F := Ideal) m g, ?_⟩
  refine (θ_run (Cert.Reference2Ideal.defs (F := Ideal)) _ _).mono (fun r h c => ?_) (Cert.Reference2Ideal.Value.run (F := Ideal) m' g')
  obtain ⟨e0, e1, e2, e3⟩ := hagree c
  obtain ⟨k0, kept⟩ := h c
  refine ⟨?_, kept⟩
  refine k0.trans ((Cert.Reference2Ideal.Read.val_main_v6_eq (F := Ideal) (m' (c.tc.loc Cert.Reference2Ideal.main_arg0)) (m' (c.tc.loc Cert.Reference2Ideal.main_arg1))
    (m' (c.tc.loc Cert.Reference2Ideal.main_arg3))).trans ?_)
  refine Eq.trans (b := Cert.Reference2Ideal.Read.val_main_v6 (F := Ideal) (X0 m c) (X1 m c) (X3 m c)) ?_ ?_
  · exact congr (congr (congrArg _ e0) e1) e3
  · refine (funext fun y => ref_apply (X0 m c) (X3 m c) (X1 m c) y).trans ?_
    exact ((arr m c).trans (congrArg₂ G (V3 m c) (V4 m c))).symm

end Cert.Mlp2
end
-- ==== Proof.Mlp3.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Ref
public import Idealize.ShloMosaic.Lib.StableHlo.RunRead
import Idealize.ShloMosaic.Lib.Pipeline.ValueKit

@[expose] public section

set_option maxRecDepth 16384

noncomputable section

namespace Cert.Mlp3

open Idealize.ShloMosaic hiding ix2 ix3
open Idealize.ShloMosaic.TcCoe Idealize.SL.Sem Idealize.ShloMosaic.ValueIdx
open Cert.Kernel3Ideal Cert.Kernel3Ideal.Gen
open Cert.Attn (ext2)

/-! ## The gradient through the squared rectifier, entry by entry -/

/-- An entry of the pre-activation's gradient, from the activation's gradient `s` and the pre-activation `u`. -/
def gate (s u : EReal) : EReal := s * (Ideal.ofBits .f32 0x40000000#32 * max u (Ideal.ofBits .f32 0x00000000#32))

/-- Where the pre-activation is not positive the product is zero, so selecting zero there changes nothing. -/
theorem select_gate (s u : EReal) :
    Scalar.select (FloatOps.cmpf (F := Ideal) (φ := .f32) .ogt u (Ideal.ofBits .f32 0x00000000#32)) (gate s u)
      (Ideal.ofBits .f32 0x00000000#32 : EReal) = gate s u := by
  have hz : Ideal.ofBits .f32 0x00000000#32 = (0 : EReal) := Ideal.ofBits_zero_f32
  unfold gate
  rw [hz]
  by_cases h : (0 : EReal) < u
  · have e : FloatOps.cmpf (F := Ideal) (φ := .f32) .ogt u (0 : EReal) = 1#1 := by
      simp [FloatOps.cmpf, Ideal.cmp, h]
    rw [e]
    rfl
  · have e : FloatOps.cmpf (F := Ideal) (φ := .f32) .ogt u (0 : EReal) = 0#1 := by
      simp [FloatOps.cmpf, Ideal.cmp, h]
    rw [e, max_eq_right (not_lt.mp h), mul_zero, mul_zero]
    rfl

/-! ## One block of the gradient -/

/-- The product of one step: both operands contracted over their columns. -/
theorem mm (A : FVec Ideal S512x1024 .bf16) (B : FVec Ideal S1024x1024 .bf16) (x : S512x1024.Idx) :
    matmul dot_S512x1024_S1024x1024_S512x1024_1_1_0_0_n_n none A B (constant S512x1024 .f32 0x00000000#32) x
      = ∑ k : Fin 1024, A (ix2 (x 0) k) * B (ix2 (x 1) k) := by
  refine (Ideal.matmul_constant_zero_apply dot_S512x1024_S1024x1024_S512x1024_1_1_0_0_n_n none A B x).trans ?_
  rw [← Equiv.sum_comp (contrEquiv1 dot_S512x1024_S1024x1024_S512x1024_1_1_0_0_n_n 1024 rfl rfl).symm]
  refine Finset.sum_congr rfl fun k _ => ?_
  have hc := contrEquiv1_symm_val dot_S512x1024_S1024x1024_S512x1024_1_1_0_0_n_n 1024 rfl rfl k
  exact congrArg₂ (· * ·) (congrArg A (ext2 _ _ rfl ((DotDims.lhsIdx_val_of_single _ rfl _ _).trans hc)))
    (congrArg B (ext2 _ _ rfl ((DotDims.rhsIdx_val_of_single _ rfl _ _).trans hc)))

/-- One quarter of the rows; all have this payload. -/
theorem pay3 (A : Vec Ideal S512x1024 .bf16) (B : Vec Ideal S1024x1024 .bf16) (U : Vec Ideal S512x1024 .bf16) (x : S512x1024.Idx) :
    k0_pay3 (F := Ideal) A B U x = gate (∑ k : Fin 1024, A (ix2 (x 0) k) * B (ix2 (x 1) k)) (U x) := by
  unfold k0_pay3
  rw [shapeCast_self, shapeCast_self, shapeCast_self]
  exact congrArg (gate · (U x)) (mm A B x)

/-- What one step leaves in the block of the result. -/
theorem out_apply (x0 : Vec Ideal S2048x1024 .bf16) (x1 : Vec Ideal S1024x1024 .bf16) (x2 : Vec Ideal S2048x1024 .bf16) (y : S2048x1024.Idx) :
    out0_3 (F := Ideal) x0 x1 x2 y = gate (∑ k : Fin 1024, x0 (ix2 (y 0) k) * x1 (ix2 (y 1) k)) (x2 y) := by
  unfold out0_3
  refine View.canon_eq_of_allAt _ y _ (cover0_3 _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    refine (pay3 _ _ _ x).trans ?_
    refine congrArg₂ gate (Finset.sum_congr rfl fun k _ => congrArg₂ (· * ·) (congrArg x0 (ext2 _ _ ?_ ?_))
        (congrArg x1 (ext2 _ _ ?_ ?_))) (congrArg x2 (ext2 _ _ ?_ ?_))
    all_goals have h0 := hx 0; have h1 := hx 1; simp at h0 h1; simp [Cert.Attn.ix2_0, Cert.Attn.ix2_1]; try omega

/-! ## The whole array -/

/-- The output gradient's block index. -/
theorem idx0 : ∀ t : Fin cfg0.N, win0_0.index t = ![t.val / 4, 0] := by decide +kernel
/-- The second weight's block index. -/
theorem idx1 : ∀ t : Fin cfg0.N, win0_1.index t = ![t.val % 4, 0] := by decide +kernel
/-- The pre-activations' block index. -/
theorem idx2 : ∀ t : Fin cfg0.N, win0_2.index t = ![t.val / 4, t.val % 4] := by decide +kernel
/-- The result's block index. -/
theorem idx3 : ∀ t : Fin cfg0.N, win0_3.index t = ![t.val / 4, t.val % 4] := by decide +kernel

variable (m : (ℓ : Loc nD τ sig) → Buf (Elt Ideal) ℓ) (c : Dev nD)

/-- The kernel's first operand, the output's gradient. -/
abbrev A : S4096x1024.Idx → EReal := V m c main_v2
/-- The kernel's second operand, the second weight. -/
abbrev B : S4096x1024.Idx → EReal := V m c main_v3
/-- The kernel's third operand, the pre-activations. -/
abbrev U : S4096x4096.Idx → EReal := V m c main_v1
/-- Output gradient times the second weight's transpose, through the squared rectifier. -/
def G (a b : S4096x1024.Idx → EReal) (u : S4096x4096.Idx → EReal) : S4096x4096.Idx → EReal :=
  fun y => gate (∑ k : Fin 1024, a (ix2 (y 0) k) * b (ix2 (y 1) k)) (u y)

/-- The array after the run. -/
theorem arr : (dats m 0 c).arrAt 3 cfg0.N = G (A m c) (B m c) (U m c) := by
  refine (dats m 0 c).arrAt_eq_of_covers 3 _ (by decide +kernel) fun t hf y => ?_
  blk_simp
  rw [after0_3]
  refine (out_apply _ _ _ y).trans ?_
  unfold G
  refine congrArg₂ gate (Finset.sum_congr rfl fun k _ => congrArg₂ (fun p q : EReal => p * q) ?_ ?_) ?_
  · show A m c (((cfg0.win 0).blk t).view.emb (ix2 (y 0) k)) = _
    refine congrArg _ (ext2 _ _ ?_ ?_)
    · blk_simp [idx0]; simp [Cert.Attn.ix2_0]; exact (congrFun (idx3 t) 0).symm
    · blk_simp [idx0]
  · show B m c (((cfg0.win 1).blk t).view.emb (ix2 (y 1) k)) = _
    refine congrArg _ (ext2 _ _ ?_ ?_)
    · blk_simp [idx1]; simp [Cert.Attn.ix2_0, Cert.Attn.ix2_1]; exact (congrFun (idx3 t) 1).symm
    · blk_simp [idx1]
  · show U m c (((cfg0.win 2).blk t).view.emb y) = _
    refine congrArg _ (ext2 _ _ ?_ ?_)
    · blk_simp [idx2, idx3]
    · blk_simp [idx2, idx3]

/-! ## The operands and the reference -/

/-- The MLP's input. -/
abbrev X0 : (⟨S4096x1024, .f32⟩ : BufTy).Contents (Elt Ideal) := m (c.tc.loc main_arg0)
/-- The first weight. -/
abbrev X1 : (⟨S1024x4096, .f32⟩ : BufTy).Contents (Elt Ideal) := m (c.tc.loc main_arg1)
/-- The second weight. -/
abbrev X2 : (⟨S4096x1024, .f32⟩ : BufTy).Contents (Elt Ideal) := m (c.tc.loc main_arg2)
/-- The output's gradient. -/
abbrev X3 : (⟨S4096x1024, .f32⟩ : BufTy).Contents (Elt Ideal) := m (c.tc.loc main_arg3)

/-- The kernel's output gradient is the argument. -/
theorem VA : A m c = X3 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's second weight is the argument. -/
theorem VB : B m c = X2 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's pre-activations are the reference's. -/
theorem VU : U m c = Cert.Reference3Ideal.Read.val_main_v0 (F := Ideal) (X0 m c) (X1 m c) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The reference's gradient of the pre-activation, entry by entry. -/
theorem ref_apply (x0 x2 x3 : (⟨S4096x1024, .f32⟩ : BufTy).Contents (Elt Ideal)) (x1 : (⟨S1024x4096, .f32⟩ : BufTy).Contents (Elt Ideal)) :
    (Cert.Reference3Ideal.Read.val_main_v13 (F := Ideal) x0 x1 x2 x3 : S4096x4096.Idx → EReal)
      = G x3 x2 (Cert.Reference3Ideal.Read.val_main_v0 (F := Ideal) x0 x1) := by
  funext y
  have e : G x3 x2 (Cert.Reference3Ideal.Read.val_main_v0 (F := Ideal) x0 x1) y
      = gate (Cert.Reference3Ideal.Read.val_main_v9 (F := Ideal) x2 x3 y) (Cert.Reference3Ideal.Read.val_main_v0 (F := Ideal) x0 x1 y) :=
    congrArg (gate · _) (Eq.trans (Finset.sum_congr rfl fun k _ =>
      congrArg₂ (fun p q : EReal => p * q) (congrArg x3 (ext2 (ix2 (y 0) k) (Cert.Reference3Ideal.Read.lidx_main_v9 y k) rfl rfl))
        (congrArg x2 (ext2 (ix2 (y 1) k) (Cert.Reference3Ideal.Read.ridx_main_v9 y k) rfl rfl)))
      (Cert.Reference3Ideal.Read.val_main_v9_apply x2 x3 y).symm)
  rw [e]
  exact select_gate _ _

/-! ## The claims -/

/-- The reference runs and leaves its arguments and the counters as they were. -/
theorem reference : Cert.quiescent_Reference3Ideal := fun m g _ =>
  (θ_run (Cert.Reference3Ideal.defs (F := Ideal)) _ _).mono
    (fun r h => ⟨fun c => (h c).2, sem_eq_zero_of_no_sems (by decide) r.2⟩) (Cert.Reference3Ideal.Value.run (F := Ideal) m g)

/-- The kernel's gradient of the pre-activation is the reference's. -/
theorem algebraic : Cert.algebraic_Kernel3Ideal_Reference3Ideal := by
  intro m g m' g' _ hagree
  refine ⟨fun c => (dats m 0 c).arrAt 3 cfg0.N, Cert.Kernel3Ideal.Value.run_blocks (F := Ideal) m g, ?_⟩
  refine (θ_run (Cert.Reference3Ideal.defs (F := Ideal)) _ _).mono (fun r h c => ?_) (Cert.Reference3Ideal.Value.run (F := Ideal) m' g')
  obtain ⟨e0, e1, e2, e3⟩ := hagree c
  obtain ⟨k0, kept⟩ := h c
  refine ⟨?_, kept⟩
  refine k0.trans ((Cert.Reference3Ideal.Read.val_main_v13_eq (F := Ideal) (m' (c.tc.loc Cert.Reference3Ideal.main_arg0)) (m' (c.tc.loc Cert.Reference3Ideal.main_arg1))
    (m' (c.tc.loc Cert.Reference3Ideal.main_arg2)) (m' (c.tc.loc Cert.Reference3Ideal.main_arg3))).trans ?_)
  refine Eq.trans (b := Cert.Reference3Ideal.Read.val_main_v13 (F := Ideal) (X0 m c) (X1 m c) (X2 m c) (X3 m c)) ?_ ?_
  · exact congr (congr (congr (congrArg _ e0) e1) e2) e3
  · refine (ref_apply (X0 m c) (X2 m c) (X3 m c) (X1 m c)).trans ?_
    exact ((arr m c).trans (congr (congr (congrArg G (VA m c)) (VB m c)) (VU m c))).symm

end Cert.Mlp3
end
-- ==== Proof.Mlp4.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Ref
public import Idealize.ShloMosaic.Lib.StableHlo.RunRead
import Idealize.ShloMosaic.Lib.Pipeline.ValueKit

@[expose] public section

set_option maxRecDepth 16384

noncomputable section

namespace Cert.Mlp4

open Idealize.ShloMosaic hiding ix2 ix3
open Idealize.ShloMosaic.TcCoe Idealize.SL.Sem Idealize.ShloMosaic.ValueIdx
open Cert.Kernel4Ideal Cert.Kernel4Ideal.Gen
open Cert.Attn (ext2)

/-! ## One block of the first weight's gradient -/

/-- The product of one step: both operands contracted over their rows. -/
theorem mm (A : FVec Ideal S4096x512 .bf16) (B : FVec Ideal S4096x512 .bf16) (x : S512x512.Idx) :
    matmul dot_S4096x512_S4096x512_S512x512_0_0_1_1_n_n none A B (constant S512x512 .f32 0x00000000#32) x
      = ∑ k : Fin 4096, A (ix2 k (x 0)) * B (ix2 k (x 1)) := by
  refine (Ideal.matmul_constant_zero_apply dot_S4096x512_S4096x512_S512x512_0_0_1_1_n_n none A B x).trans ?_
  rw [← Equiv.sum_comp (contrEquiv1 dot_S4096x512_S4096x512_S512x512_0_0_1_1_n_n 4096 rfl rfl).symm]
  refine Finset.sum_congr rfl fun k _ => ?_
  have hc := contrEquiv1_symm_val dot_S4096x512_S4096x512_S512x512_0_0_1_1_n_n 4096 rfl rfl k
  exact congrArg₂ (· * ·) (congrArg A (ext2 _ _ ((DotDims.lhsIdx_val_of_single _ rfl _ _).trans hc) rfl))
    (congrArg B (ext2 _ _ ((DotDims.rhsIdx_val_of_single _ rfl _ _).trans hc) rfl))

/-- A block given a leading axis of length one. -/
theorem lead (v : S512x512.Idx → EReal) (x : S1x512x512.Idx) :
    shapeCast S1x512x512 v shapeCasts_S512x512_S1x512x512 x = v (ix2 (x 1) (x 2)) :=
  shapeCast_apply v shapeCasts_S512x512_S1x512x512 x (ix2 (x 1) (x 2)) (by
    rewrite [Shape.rowMajor_val_two, Shape.rowMajor_val_three]
    have h0 : (x 0).val < 1 := (x 0).isLt
    show (x 1).val * 512 + (x 2).val = ((x 0).val * 512 + (x 1).val) * 512 + (x 2).val
    omega)

/-- One half of the rows; all have this payload. -/
theorem pay1 (A : Vec Ideal S4096x512 .bf16) (B : Vec Ideal S4096x512 .bf16) (x : S1x512x512.Idx) :
    k0_pay1 (F := Ideal) A B x = ∑ k : Fin 4096, A (ix2 k (x 1)) * B (ix2 k (x 2)) := by
  unfold k0_pay1
  rw [shapeCast_self, shapeCast_self]
  exact (lead _ x).trans (mm A B (ix2 (x 1) (x 2)))

/-- What one step leaves in the block of the result. -/
theorem out_apply (x0 : Vec Ideal S4096x1024 .bf16) (x1 : Vec Ideal S4096x512 .bf16) (y : S1x1024x512.Idx) :
    out0_2 (F := Ideal) x0 x1 y = ∑ k : Fin 4096, x0 (ix2 k (y 1)) * x1 (ix2 k (y 2)) := by
  unfold out0_2
  refine View.canon_eq_of_allAt _ y _ (cover0_2 _ _ y) ?_
  refine View.allAt_cons_unit _ _ _ _ _ (fun x hx => ?_) (View.allAt_cons_unit _ _ _ _ _ (fun x hx => ?_) (View.allAt_nil _ _))
  all_goals
    refine (pay1 _ _ x).trans ?_
    refine Finset.sum_congr rfl fun k _ => congrArg₂ (· * ·) (congrArg x0 (ext2 _ _ ?_ ?_)) (congrArg x1 (ext2 _ _ ?_ ?_))
    all_goals have h1 := hx 1; have h2 := hx 2; simp at h1 h2; simp [Cert.Attn.ix2_0, Cert.Attn.ix2_1]; try omega

/-! ## The whole array -/

/-- The input's block index. -/
theorem idx0 : ∀ t : Fin cfg0.N, win0_0.index t = ![0, 0] := by decide +kernel
/-- The pre-activation gradient's block index. -/
theorem idx1 : ∀ t : Fin cfg0.N, win0_1.index t = ![0, t.val] := by decide +kernel
/-- The result's block index. -/
theorem idx2 : ∀ t : Fin cfg0.N, win0_2.index t = ![t.val, 0, 0] := by decide +kernel

variable (m : (ℓ : Loc nD τ sig) → Buf (Elt Ideal) ℓ) (c : Dev nD)

/-- The kernel's first operand, the input. -/
abbrev A : S4096x1024.Idx → EReal := V m c main_v14
/-- The kernel's second operand, the pre-activations' gradient. -/
abbrev B : S4096x4096.Idx → EReal := V m c main_v13
/-- The column of the first weight that a slot and a place in the slot stand for. -/
def col (s : Fin 8) (d : Fin 512) : Fin 4096 := ⟨s.val * 512 + d.val, by have := s.isLt; have := d.isLt; omega⟩
/-- Input times gradient, contracted over the rows, the columns in slots. -/
def G (a : S4096x1024.Idx → EReal) (b : S4096x4096.Idx → EReal) : S8x1024x512.Idx → EReal :=
  fun y => ∑ k : Fin 4096, a (ix2 k (y 1)) * b (ix2 k (col (y 0) (y 2)))

/-- The array after the run. -/
theorem arr : (dats m 0 c).arrAt 2 cfg0.N = G (A m c) (B m c) := by
  refine (dats m 0 c).arrAt_eq_of_covers 2 _ (by decide +kernel) fun t hf y => ?_
  blk_simp
  rw [after0_2]
  refine (out_apply _ _ y).trans ?_
  unfold G
  have hy : (y 0).val < 1 := (y 0).isLt
  refine Finset.sum_congr rfl fun k _ => congrArg₂ (fun p q : EReal => p * q) ?_ ?_
  · show A m c (((cfg0.win 0).blk t).view.emb (ix2 k (y 1))) = _
    refine congrArg _ (ext2 _ _ ?_ ?_)
    · blk_simp [idx0]
    · blk_simp [idx0]; simp [Cert.Attn.ix2_1]; exact congrFun (idx2 t) 1
  · show B m c (((cfg0.win 1).blk t).view.emb (ix2 k (y 2))) = _
    refine congrArg _ (ext2 _ _ ?_ ?_)
    · blk_simp [idx1]
    · have e0 : ((((cfg0.win 2).blk t).view.emb y) 0).val = t.val := by
        blk_simp [idx2]; try omega
      have e2 : ((((cfg0.win 2).blk t).view.emb y) 2).val = (y 2).val := by
        blk_simp [idx2]
      blk_simp [idx1]
      show t.val * 512 + (y 2).val = ((((cfg0.win 2).blk t).view.emb y) 0).val * 512 + ((((cfg0.win 2).blk t).view.emb y) 2).val
      rw [e0, e2]

/-! ## The operands and the reference -/

/-- The MLP's input. -/
abbrev X0 : (⟨S4096x1024, .f32⟩ : BufTy).Contents (Elt Ideal) := m (c.tc.loc main_arg0)
/-- The first weight. -/
abbrev X1 : (⟨S1024x4096, .f32⟩ : BufTy).Contents (Elt Ideal) := m (c.tc.loc main_arg1)
/-- The second weight. -/
abbrev X2 : (⟨S4096x1024, .f32⟩ : BufTy).Contents (Elt Ideal) := m (c.tc.loc main_arg2)
/-- The output's gradient. -/
abbrev X3 : (⟨S4096x1024, .f32⟩ : BufTy).Contents (Elt Ideal) := m (c.tc.loc main_arg3)

/-- The kernel's input is the argument. -/
theorem VA : A m c = X0 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's gradient of the pre-activations is the reference's. -/
theorem VB : B m c = Cert.Reference4Ideal.Read.val_main_v12 (F := Ideal) (X0 m c) (X1 m c) (X2 m c) (X3 m c) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The reference's gradient of the first weight, entry by entry. -/
theorem ref_apply (x0 x2 x3 : (⟨S4096x1024, .f32⟩ : BufTy).Contents (Elt Ideal)) (x1 : (⟨S1024x4096, .f32⟩ : BufTy).Contents (Elt Ideal)) :
    (Cert.Reference4Ideal.Read.val_main_v17 (F := Ideal) x0 x1 x2 x3 : S8x1024x512.Idx → EReal) = G x0 (Cert.Reference4Ideal.Read.val_main_v12 (F := Ideal) x0 x1 x2 x3) := by
  funext y
  have b0 : (y 0).val < 8 := (y 0).isLt
  have b1 : (y 1).val < 1024 := (y 1).isLt
  have b2 : (y 2).val < 512 := (y 2).isLt
  refine (Cert.Reference4Ideal.Read.val_main_v16_apply (F := Ideal) x0 x1 x2 x3 y).trans ?_
  refine (Cert.Reference4Ideal.Read.val_main_v15_apply (F := Ideal) x0 x1 x2 x3 _).trans ?_
  refine (Cert.Reference4Ideal.Read.val_main_v14_apply (F := Ideal) x0 x1 x2 x3 _).trans ?_
  refine (Cert.Reference4Ideal.Read.val_main_v13_apply x0 x1 x2 x3 _).trans (Finset.sum_congr rfl fun k _ => ?_)
  refine (mul_comm (_ : EReal) _).trans (congrArg₂ (fun p q : EReal => p * q) (congrArg x0 (ext2 _ _ rfl ?_)) (congrArg _ (ext2 _ _ rfl ?_)))
  · show (((y 1).val * 8 + (y 0).val) * 512 + (y 2).val) / 4096 = (y 1).val
    omega
  · show (((y 1).val * 8 + (y 0).val) * 512 + (y 2).val) % 4096 = (y 0).val * 512 + (y 2).val
    omega

/-! ## The claims -/

/-- The reference runs and leaves its arguments and the counters as they were. -/
theorem reference : Cert.quiescent_Reference4Ideal := fun m g _ =>
  (θ_run (Cert.Reference4Ideal.defs (F := Ideal)) _ _).mono
    (fun r h => ⟨fun c => (h c).2, sem_eq_zero_of_no_sems (by decide) r.2⟩) (Cert.Reference4Ideal.Value.run (F := Ideal) m g)

/-- The kernel's gradient of the first weight is the reference's. -/
theorem algebraic : Cert.algebraic_Kernel4Ideal_Reference4Ideal := by
  intro m g m' g' _ hagree
  refine ⟨fun c => (dats m 0 c).arrAt 2 cfg0.N, Cert.Kernel4Ideal.Value.run_blocks (F := Ideal) m g, ?_⟩
  refine (θ_run (Cert.Reference4Ideal.defs (F := Ideal)) _ _).mono (fun r h c => ?_) (Cert.Reference4Ideal.Value.run (F := Ideal) m' g')
  obtain ⟨e0, e1, e2, e3⟩ := hagree c
  obtain ⟨k0, kept⟩ := h c
  refine ⟨?_, kept⟩
  refine k0.trans ((Cert.Reference4Ideal.Read.val_main_v17_eq (F := Ideal) (m' (c.tc.loc Cert.Reference4Ideal.main_arg0)) (m' (c.tc.loc Cert.Reference4Ideal.main_arg1))
    (m' (c.tc.loc Cert.Reference4Ideal.main_arg2)) (m' (c.tc.loc Cert.Reference4Ideal.main_arg3))).trans ?_)
  refine Eq.trans (b := Cert.Reference4Ideal.Read.val_main_v17 (F := Ideal) (X0 m c) (X1 m c) (X2 m c) (X3 m c)) ?_ ?_
  · exact congr (congr (congr (congrArg _ e0) e1) e2) e3
  · refine (ref_apply (X0 m c) (X2 m c) (X3 m c) (X1 m c)).trans ?_
    exact ((arr m c).trans (congrArg₂ G (VA m c) (VB m c))).symm

end Cert.Mlp4
end
-- ==== Proof.Mlp5.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Ref
public import Idealize.ShloMosaic.Lib.StableHlo.RunRead
import Idealize.ShloMosaic.Lib.Pipeline.ValueKit

@[expose] public section

set_option maxRecDepth 16384

noncomputable section

namespace Cert.Mlp5

open Idealize.ShloMosaic hiding ix2 ix3
open Idealize.ShloMosaic.TcCoe Idealize.SL.Sem Idealize.ShloMosaic.ValueIdx
open Cert.Kernel5Ideal Cert.Kernel5Ideal.Gen
open Cert.Attn (ext2 ext3)

/-! ## One block of the pre-activations and activations -/

/-- The activation of a pre-activation. -/
def sq (u : EReal) : EReal := max u (Ideal.ofBits .f32 0x00000000#32) * max u (Ideal.ofBits .f32 0x00000000#32)

/-- A slot of the weight without its leading axis of length one. -/
theorem slot (v : S1x1024x512.Idx → EReal) (x : S1024x512.Idx) :
    shapeCast S1024x512 v shapeCasts_S1x1024x512_S1024x512 x = v (ix3 0 (x 0) (x 1)) :=
  shapeCast_apply v shapeCasts_S1x1024x512_S1024x512 x (ix3 0 (x 0) (x 1)) (by
    rewrite [Shape.rowMajor_val_two, Shape.rowMajor_val_three]
    show (0 * 1024 + (x 0).val) * 512 + (x 1).val = (x 0).val * 512 + (x 1).val
    omega)

/-- The product of one step: a chunk of rows times one slot of columns. -/
theorem mm (A : FVec Ideal S512x1024 .bf16) (B : Vec Ideal S1x1024x512 .bf16) (x : S512x512.Idx) :
    matmul dot_S512x1024_S1024x512_S512x512_1_0_0_1_n_n none A (shapeCast S1024x512 B shapeCasts_S1x1024x512_S1024x512 : FVec Ideal S1024x512 .bf16) (constant S512x512 .f32 0x00000000#32) x
      = ∑ k : Fin 1024, A (ix2 (x 0) k) * B (ix3 0 k (x 1)) := by
  refine (Ideal.matmul_constant_zero_apply dot_S512x1024_S1024x512_S512x512_1_0_0_1_n_n none A _ x).trans ?_
  rw [← Equiv.sum_comp (contrEquiv1 dot_S512x1024_S1024x512_S512x512_1_0_0_1_n_n 1024 rfl rfl).symm]
  refine Finset.sum_congr rfl fun k _ => ?_
  have hc := contrEquiv1_symm_val dot_S512x1024_S1024x512_S512x512_1_0_0_1_n_n 1024 rfl rfl k
  refine congrArg₂ (fun p q : EReal => p * q) (congrArg A (ext2 _ _ rfl ((DotDims.lhsIdx_val_of_single _ rfl _ _).trans hc))) ?_
  exact (slot B _).trans (congrArg B (ext3 _ _ rfl ((DotDims.rhsIdx_val_of_single _ rfl _ _).trans hc) rfl))

/-- The product of one chunk of rows. -/
theorem pay_mm (A : Vec Ideal S512x1024 .bf16) (B : Vec Ideal S1x1024x512 .bf16) (x : S512x512.Idx) :
    k0_pay4 (F := Ideal) A B x = ∑ k : Fin 1024, A (ix2 (x 0) k) * B (ix3 0 k (x 1)) := by
  unfold k0_pay4
  rw [shapeCast_self]
  exact mm A B x

/-- The pre-activations of one chunk; all eight chunks have this payload. -/
theorem pay_u (A : Vec Ideal S512x1024 .bf16) (B : Vec Ideal S1x1024x512 .bf16) (x : S512x512.Idx) :
    k0_pay5 (F := Ideal) A B x = ∑ k : Fin 1024, A (ix2 (x 0) k) * B (ix3 0 k (x 1)) := pay_mm A B x

/-- The activations of one chunk; all eight chunks have this payload. -/
theorem pay_act (A : Vec Ideal S512x1024 .bf16) (B : Vec Ideal S1x1024x512 .bf16) (x : S512x512.Idx) :
    k0_pay6 (F := Ideal) A B x = sq (∑ k : Fin 1024, A (ix2 (x 0) k) * B (ix3 0 k (x 1))) := congrArg sq (pay_mm A B x)

/-! The eight chunks' payloads are the same two functions. -/

theorem same8 (A : Vec Ideal S512x1024 .bf16) (B : Vec Ideal S1x1024x512 .bf16) : k0_pay8 (F := Ideal) A B = k0_pay5 A B := rfl
theorem same15 (A : Vec Ideal S512x1024 .bf16) (B : Vec Ideal S1x1024x512 .bf16) : k0_pay15 (F := Ideal) A B = k0_pay5 A B := rfl
theorem same18 (A : Vec Ideal S512x1024 .bf16) (B : Vec Ideal S1x1024x512 .bf16) : k0_pay18 (F := Ideal) A B = k0_pay5 A B := rfl
theorem same21 (A : Vec Ideal S512x1024 .bf16) (B : Vec Ideal S1x1024x512 .bf16) : k0_pay21 (F := Ideal) A B = k0_pay5 A B := rfl
theorem same24 (A : Vec Ideal S512x1024 .bf16) (B : Vec Ideal S1x1024x512 .bf16) : k0_pay24 (F := Ideal) A B = k0_pay5 A B := rfl
theorem same2 (A : Vec Ideal S512x1024 .bf16) (B : Vec Ideal S1x1024x512 .bf16) : k0_pay2 (F := Ideal) A B = k0_pay5 A B := rfl
theorem same12 (A : Vec Ideal S512x1024 .bf16) (B : Vec Ideal S1x1024x512 .bf16) : k0_pay12 (F := Ideal) (k0_pay10 A) B = k0_pay5 A B := rfl
theorem same9 (A : Vec Ideal S512x1024 .bf16) (B : Vec Ideal S1x1024x512 .bf16) : k0_pay9 (F := Ideal) A B = k0_pay6 A B := rfl
theorem same16 (A : Vec Ideal S512x1024 .bf16) (B : Vec Ideal S1x1024x512 .bf16) : k0_pay16 (F := Ideal) A B = k0_pay6 A B := rfl
theorem same22 (A : Vec Ideal S512x1024 .bf16) (B : Vec Ideal S1x1024x512 .bf16) : k0_pay22 (F := Ideal) A B = k0_pay6 A B := rfl
theorem same25 (A : Vec Ideal S512x1024 .bf16) (B : Vec Ideal S1x1024x512 .bf16) : k0_pay25 (F := Ideal) A B = k0_pay6 A B := rfl
theorem same3 (A : Vec Ideal S512x1024 .bf16) (B : Vec Ideal S1x1024x512 .bf16) : k0_pay3 (F := Ideal) A B = k0_pay6 A B := rfl
theorem same13 (A : Vec Ideal S512x1024 .bf16) (B : Vec Ideal S1x1024x512 .bf16) : k0_pay13 (F := Ideal) (k0_pay10 A) B = k0_pay6 A B := rfl
theorem same19 (A : Vec Ideal S512x1024 .bf16) (B : Vec Ideal S1x1024x512 .bf16) : k0_pay19 (F := Ideal) (k0_pay17 A B) (Scalar.ofBits .f32 0x00000000#32) = k0_pay6 A B := rfl

/-- The pre-activations one step leaves in its block. -/
theorem out2_apply (x0 : Vec Ideal S4096x1024 .bf16) (x1 : Vec Ideal S1x1024x512 .bf16) (y : S4096x512.Idx) :
    out0_2 (F := Ideal) x0 x1 y = ∑ k : Fin 1024, x0 (ix2 (y 0) k) * x1 (ix3 0 k (y 1)) := by
  unfold out0_2 k0_pay26
  rw [same2, same24, same21, same18, same15, same12, same8]
  refine View.canon_eq_of_allAt _ y _ (cover0_2 _ _ _ _ _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))))))
  all_goals
    refine (pay_u _ _ x).trans ?_
    refine (Finset.sum_congr rfl fun k _ => congrArg₂ (fun p q : EReal => p * q) (congrArg x0 (ext2 _ _ ?_ ?_)) (congrArg x1 (ext3 _ _ ?_ ?_ ?_)))
    all_goals have h0 := hx 0; have h1 := hx 1; simp at h0 h1; simp [Cert.Attn.ix2_0, Cert.Attn.ix2_1, Cert.Attn.ix3_0, Cert.Attn.ix3_1, Cert.Attn.ix3_2]; try omega

/-- The activations one step leaves in its block. -/
theorem out3_apply (x0 : Vec Ideal S4096x1024 .bf16) (x1 : Vec Ideal S1x1024x512 .bf16) (y : S4096x512.Idx) :
    out0_3 (F := Ideal) x0 x1 y = sq (∑ k : Fin 1024, x0 (ix2 (y 0) k) * x1 (ix3 0 k (y 1))) := by
  unfold out0_3 k0_pay26
  rw [same3, same25, same22, same19, same16, same13, same9]
  refine View.canon_eq_of_allAt _ y _ (cover0_3 _ _ _ _ _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))))))
  all_goals
    refine (pay_act _ _ x).trans ?_
    refine congrArg sq (Finset.sum_congr rfl fun k _ => congrArg₂ (fun p q : EReal => p * q) (congrArg x0 (ext2 _ _ ?_ ?_)) (congrArg x1 (ext3 _ _ ?_ ?_ ?_)))
    all_goals have h0 := hx 0; have h1 := hx 1; simp at h0 h1; simp [Cert.Attn.ix2_0, Cert.Attn.ix2_1, Cert.Attn.ix3_0, Cert.Attn.ix3_1, Cert.Attn.ix3_2]; try omega

/-! ## The whole arrays -/

/-- The input's block index. -/
theorem idx0 : ∀ t : Fin cfg0.N, win0_0.index t = ![0, 0] := by decide +kernel
/-- The weight's block index. -/
theorem idx1 : ∀ t : Fin cfg0.N, win0_1.index t = ![t.val, 0, 0] := by decide +kernel
/-- The pre-activations' block index. -/
theorem idx2 : ∀ t : Fin cfg0.N, win0_2.index t = ![0, t.val] := by decide +kernel
/-- The activations' block index. -/
theorem idx3 : ∀ t : Fin cfg0.N, win0_3.index t = ![0, t.val] := by decide +kernel

variable (m : (ℓ : Loc nD τ sig) → Buf (Elt Ideal) ℓ) (c : Dev nD)

/-- The kernel's first operand, the input. -/
abbrev A : S4096x1024.Idx → EReal := V m c main_v0
/-- The kernel's second operand, the weight in slots. -/
abbrev B : S8x1024x512.Idx → EReal := V m c main_v3
/-- The slot of a column. -/
def hi (j : Fin 4096) : Fin 8 := ⟨j.val / 512, by have := j.isLt; omega⟩
/-- A column's place in its slot. -/
def lo (j : Fin 4096) : Fin 512 := ⟨j.val % 512, by omega⟩
/-- Input times weight, the weight's columns in slots. -/
def G (a : S4096x1024.Idx → EReal) (b : S8x1024x512.Idx → EReal) : S4096x4096.Idx → EReal :=
  fun y => ∑ k : Fin 1024, a (ix2 (y 0) k) * b (ix3 (hi (y 1)) k (lo (y 1)))

/-- The pre-activations after the run. -/
theorem arr2 : (dats m 0 c).arrAt 2 cfg0.N = G (A m c) (B m c) := by
  refine (dats m 0 c).arrAt_eq_of_covers 2 _ (by decide +kernel) fun t hf y => ?_
  blk_simp
  rw [after0_2]
  refine (out2_apply _ _ y).trans ?_
  unfold G
  have e0 : ((((cfg0.win 2).blk t).view.emb y) 0).val = (y 0).val := by
    blk_simp [idx2]
  have e1 : ((((cfg0.win 2).blk t).view.emb y) 1).val = t.val * 512 + (y 1).val := by
    blk_simp [idx2]
  have b1 : (y 1).val < 512 := (y 1).isLt
  refine (Finset.sum_congr rfl fun k _ => congrArg₂ (fun p q : EReal => p * q) ?_ ?_)
  · show A m c (((cfg0.win 0).blk t).view.emb (ix2 (y 0) k)) = _
    refine congrArg _ (ext2 _ _ ?_ ?_)
    · blk_simp [idx0]; exact e0.symm
    · blk_simp [idx0]
  · show B m c (((cfg0.win 1).blk t).view.emb (ix3 0 k (y 1))) = _
    refine congrArg _ (ext3 _ _ ?_ ?_ ?_)
    · blk_simp [idx1]
      show t.val + 0 = ((((cfg0.win 2).blk t).view.emb y) 1).val / 512
      omega
    · blk_simp [idx1]
    · blk_simp [idx1]
      show (y 1).val = ((((cfg0.win 2).blk t).view.emb y) 1).val % 512
      omega

/-- The same through the activation. -/
def H (a : S4096x1024.Idx → EReal) (b : S8x1024x512.Idx → EReal) : S4096x4096.Idx → EReal := fun y => sq (G a b y)

/-- The activations after the run. -/
theorem arr3 : (dats m 0 c).arrAt 3 cfg0.N = H (A m c) (B m c) := by
  refine (dats m 0 c).arrAt_eq_of_covers 3 _ (by decide +kernel) fun t hf y => ?_
  blk_simp
  rw [after0_3]
  refine (out3_apply _ _ y).trans ?_
  unfold H G
  have e0 : ((((cfg0.win 3).blk t).view.emb y) 0).val = (y 0).val := by
    blk_simp [idx3]
  have e1 : ((((cfg0.win 3).blk t).view.emb y) 1).val = t.val * 512 + (y 1).val := by
    blk_simp [idx3]
  have b1 : (y 1).val < 512 := (y 1).isLt
  refine congrArg sq (Finset.sum_congr rfl fun k _ => congrArg₂ (fun p q : EReal => p * q) ?_ ?_)
  · show A m c (((cfg0.win 0).blk t).view.emb (ix2 (y 0) k)) = _
    refine congrArg _ (ext2 _ _ ?_ ?_)
    · blk_simp [idx0]; exact e0.symm
    · blk_simp [idx0]
  · show B m c (((cfg0.win 1).blk t).view.emb (ix3 0 k (y 1))) = _
    refine congrArg _ (ext3 _ _ ?_ ?_ ?_)
    · blk_simp [idx1]
      show t.val + 0 = ((((cfg0.win 3).blk t).view.emb y) 1).val / 512
      omega
    · blk_simp [idx1]
    · blk_simp [idx1]
      show (y 1).val = ((((cfg0.win 3).blk t).view.emb y) 1).val % 512
      omega

/-! ## The operands and the reference -/

/-- The MLP's input. -/
abbrev X0 : (⟨S4096x1024, .f32⟩ : BufTy).Contents (Elt Ideal) := m (c.tc.loc main_arg0)
/-- The first weight. -/
abbrev X1 : (⟨S1024x4096, .f32⟩ : BufTy).Contents (Elt Ideal) := m (c.tc.loc main_arg1)

/-- The kernel's input is the argument. -/
theorem VA : A m c = X0 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The weight in slots: its columns split in eight, the slots in front. -/
def slots (w : S1024x4096.Idx → EReal) : S8x1024x512.Idx → EReal :=
  transpose S8x1024x512 [1, 0, 2] (shapeCast S1024x8x512 w shapeCasts_S1024x4096_S1024x8x512) transposes_S1024x8x512_S8x1024x512_1_0_2

/-- The kernel's weight is the argument, in slots. -/
theorem VB : B m c = slots (X1 m c) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- An entry of the weight, found in its slot. -/
theorem slots_apply (w : S1024x4096.Idx → EReal) (k : Fin 1024) (j : Fin 4096) : slots w (ix3 (hi j) k (lo j)) = w (ix2 k j) := by
  unfold slots
  refine (transpose_apply [1, 0, 2] _ transposes_S1024x8x512_S8x1024x512_1_0_2 (ix3 (hi j) k (lo j)) (ix3 k (hi j) (lo j)) (fun b => match b with
    | ⟨0, _⟩ => rfl
    | ⟨1, _⟩ => rfl
    | ⟨2, _⟩ => rfl)).trans ?_
  refine shapeCast_apply w shapeCasts_S1024x4096_S1024x8x512 (ix3 k (hi j) (lo j)) (ix2 k j) ?_
  rewrite [Shape.rowMajor_val_two, Shape.rowMajor_val_three]
  show k.val * 4096 + j.val = (k.val * 8 + j.val / 512) * 512 + j.val % 512
  omega

/-- The reference's pre-activations are the kernel's product. -/
theorem ref_apply (x0 : (⟨S4096x1024, .f32⟩ : BufTy).Contents (Elt Ideal)) (x1 : (⟨S1024x4096, .f32⟩ : BufTy).Contents (Elt Ideal)) :
    (Cert.Reference5Ideal.Read.val_main_v0 (F := Ideal) x0 x1 : S4096x4096.Idx → EReal) = G x0 (slots x1) := by
  funext y
  refine (Cert.Reference5Ideal.Read.val_main_v0_apply x0 x1 y).trans (Finset.sum_congr rfl fun k _ => ?_)
  refine congrArg₂ (fun p q : EReal => p * q) (congrArg x0 (ext2 (Cert.Reference5Ideal.Read.lidx_main_v0 y k) (ix2 (y 0) k) rfl rfl)) ?_
  exact (congrArg x1 (ext2 (Cert.Reference5Ideal.Read.ridx_main_v0 y k) (ix2 k (y 1)) rfl rfl)).trans (slots_apply x1 k (y 1)).symm

/-! ## The claims -/

/-- The reference runs and leaves its arguments and the counters as they were. -/
theorem reference : Cert.quiescent_Reference5Ideal := fun m g _ =>
  (θ_run (Cert.Reference5Ideal.defs (F := Ideal)) _ _).mono
    (fun r h => ⟨fun c => (h c).2.2, sem_eq_zero_of_no_sems (by decide) r.2⟩) (Cert.Reference5Ideal.Value.run (F := Ideal) m g)

/-- The kernel's pre-activations and activations are the reference's. -/
theorem algebraic : Cert.algebraic_Kernel5Ideal_Reference5Ideal := by
  intro m g m' g' _ hagree
  refine ⟨fun c => (dats m 0 c).arrAt 2 cfg0.N, fun c => (dats m 0 c).arrAt 3 cfg0.N, Cert.Kernel5Ideal.Value.run_blocks (F := Ideal) m g, ?_⟩
  refine (θ_run (Cert.Reference5Ideal.defs (F := Ideal)) _ _).mono (fun r h c => ?_) (Cert.Reference5Ideal.Value.run (F := Ideal) m' g')
  obtain ⟨e0, e1⟩ := hagree c
  obtain ⟨k0, k1, kept⟩ := h c
  refine ⟨?_, ?_, kept⟩
  · refine k0.trans ((Cert.Reference5Ideal.Read.val_main_v1_eq (F := Ideal) (m' (c.tc.loc Cert.Reference5Ideal.main_arg0)) (m' (c.tc.loc Cert.Reference5Ideal.main_arg1))).trans ?_)
    refine Eq.trans (b := Cert.Reference5Ideal.Read.val_main_v1 (F := Ideal) (X0 m c) (X1 m c)) ?_ ?_
    · exact congr (congrArg _ e0) e1
    · refine (ref_apply (X0 m c) (X1 m c)).trans ?_
      exact ((arr2 m c).trans (congrArg₂ G (VA m c) (VB m c))).symm
  · refine k1.trans ((Cert.Reference5Ideal.Read.val_main_v4_eq (F := Ideal) (m' (c.tc.loc Cert.Reference5Ideal.main_arg0)) (m' (c.tc.loc Cert.Reference5Ideal.main_arg1))).trans ?_)
    refine Eq.trans (b := Cert.Reference5Ideal.Read.val_main_v4 (F := Ideal) (X0 m c) (X1 m c)) ?_ ?_
    · exact congr (congrArg _ e0) e1
    · refine Eq.trans (b := fun y : S4096x4096.Idx => sq (Cert.Reference5Ideal.Read.val_main_v0 (F := Ideal) (X0 m c) (X1 m c) y)) rfl ?_
      refine (congrArg (fun (f : S4096x4096.Idx → EReal) (y : S4096x4096.Idx) => sq (f y)) (ref_apply (X0 m c) (X1 m c))).trans ?_
      exact ((arr3 m c).trans (congrArg₂ H (VA m c) (VB m c))).symm

end Cert.Mlp5
end
-- ==== Proof.Proj6.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Ref
public import Idealize.ShloMosaic.Lib.StableHlo.RunRead
public import Idealize.ShloMosaic.Lib.Tactic
public import Idealize.ShloMosaic.Lib.WritesUnit
public import Idealize.ShloMosaic.Lib.Pipeline.ReadBack
import Idealize.ShloMosaic.Lib.Pipeline.ValueKit

@[expose] public section

set_option maxRecDepth 16384

noncomputable section

namespace Cert.Proj6

open Idealize.ShloMosaic hiding ix2 ix3 ix4
open Idealize.ShloMosaic.TcCoe Idealize.SL.Sem Idealize.ShloMosaic.ValueIdx
open Cert.Kernel6Ideal Cert.Kernel6Ideal.Gen
open Cert.Attn (ext2)

/-! ## One block of the convolution's input projection -/

/-- The product of one chunk: both operands contracted over their columns. -/
theorem mm (A : FVec Ideal S512x1024 .bf16) (B : FVec Ideal S1536x1024 .bf16) (x : S512x1536.Idx) :
    matmul dot_S512x1024_S1536x1024_S512x1536_1_1_0_0_n_n none A B (constant S512x1536 .f32 0x00000000#32) x
      = ∑ k : Fin 1024, A (ix2 (x 0) k) * B (ix2 (x 1) k) := by
  refine (Ideal.matmul_constant_zero_apply dot_S512x1024_S1536x1024_S512x1536_1_1_0_0_n_n none A B x).trans ?_
  rw [← Equiv.sum_comp (contrEquiv1 dot_S512x1024_S1536x1024_S512x1536_1_1_0_0_n_n 1024 rfl rfl).symm]
  refine Finset.sum_congr rfl fun k _ => ?_
  have hc := contrEquiv1_symm_val dot_S512x1024_S1536x1024_S512x1536_1_1_0_0_n_n 1024 rfl rfl k
  exact congrArg₂ (fun p q : EReal => p * q) (congrArg A (ext2 _ _ rfl ((DotDims.lhsIdx_val_of_single _ rfl _ _).trans hc)))
    (congrArg B (ext2 _ _ rfl ((DotDims.rhsIdx_val_of_single _ rfl _ _).trans hc)))

/-- One half of the rows. -/
theorem pay1 (A : Vec Ideal S512x1024 .bf16) (B : Vec Ideal S1536x1024 .bf16) (x : S512x1536.Idx) :
    k0_pay1 (F := Ideal) A B x = ∑ k : Fin 1024, A (ix2 (x 0) k) * B (ix2 (x 1) k) := by
  unfold k0_pay1
  rw [shapeCast_self, shapeCast_self]
  exact mm A B x

/-- The other half has the same payload. -/
theorem same2 (A : Vec Ideal S512x1024 .bf16) (B : Vec Ideal S1536x1024 .bf16) : k0_pay2 (F := Ideal) A B = k0_pay1 A B := rfl

/-- What one step leaves in the block of the result. -/
theorem out_apply (c : Dev nD) (i : grid0.Coords) (arg3 : Memref sig .tc .vmem S1024x1024 .bf16) (harg3 : arg3.IsWhole) (arg4 : Memref sig .tc .vmem S1536x1024 .bf16) (harg4 : arg4.IsWhole) (arg5 : Memref sig .tc .vmem S1024x1536 .f32) (harg5 : arg5.IsWhole)
    (x0 : Vec Ideal S1024x1024 .bf16) (x1 : Vec Ideal S1536x1024 .bf16) (y : S1024x1536.Idx) :
    out0_A_2 (F := Ideal) c i arg3 harg3 arg4 harg4 arg5 harg5 x0 x1 y = ∑ k : Fin 1024, x0 (ix2 (y 0) k) * x1 (ix2 (y 1) k) := by
  have cov := cover0_A_2 (F := Ideal) c i arg3 harg3 arg4 harg4 arg5 harg5 x0 x1 y
  unfold out0_A_2
  rw [View.read_writes_junk_eq_canon]
  revert cov
  unfold kernelRun0_A
  dsimp only
  sl_unfold_words
  simp (disch := decide) only [View.readAt_eq_ld, harg3.read_unread, harg4.read_unread]
  intro cov
  rw [same2]
  refine View.canon_eq_of_allAt _ y _ cov ?_
  refine View.allAt_cons_unit _ _ _ _ _ (fun x hx => ?_) (View.allAt_cons_unit _ _ _ _ _ (fun x hx => ?_) (View.allAt_nil _ _))
  all_goals
    refine (pay1 _ _ x).trans ?_
    refine Finset.sum_congr rfl fun k _ => congrArg₂ (fun p q : EReal => p * q) (congrArg x0 (ext2 _ _ ?_ ?_)) (congrArg x1 (ext2 _ _ ?_ ?_))
    all_goals have h0 := hx 0; have h1 := hx 1; simp at h0 h1; simp [Cert.Attn.ix2_0, Cert.Attn.ix2_1]; try omega

/-! ## The whole array -/

/-- The input's block index. -/
theorem idx0 : ∀ t : Fin cfg0.N, win0_0.index t = ![t.val, 0] := by decide +kernel
/-- The weight's block index. -/
theorem idx1 : ∀ t : Fin cfg0.N, win0_1.index t = ![0, 0] := by decide +kernel
/-- The result's block index. -/
theorem idx2 : ∀ t : Fin cfg0.N, win0_2.index t = ![t.val, 0] := by decide +kernel

variable (m : (ℓ : Loc nD τ sig) → Buf (Elt Ideal) ℓ) (c : Dev nD)

/-- The kernel's first operand, the input with its leading rows. -/
abbrev A : S4352x1024.Idx → EReal := V m c main_v5
/-- The kernel's second operand, the weight with its columns as rows, in order. -/
abbrev B : S1536x1024.Idx → EReal := V m c main_v6
/-- A result's row among the input's. -/
def row (i : Fin 4096) : Fin 4352 := ⟨i.val, by have := i.isLt; omega⟩
/-- Input times weight, both contracted over their columns. -/
def G (a : S4352x1024.Idx → EReal) (b : S1536x1024.Idx → EReal) : S4096x1536.Idx → EReal :=
  fun y => ∑ k : Fin 1024, a (ix2 (row (y 0)) k) * b (ix2 (y 1) k)

/-- The array after the run. -/
theorem arr : (dats m 0 c).arrAt 2 cfg0.N = G (A m c) (B m c) := by
  refine (dats m 0 c).arrAt_eq_of_covers 2 _ (by decide +kernel) fun t hf y => ?_
  blk_simp
  rw [after0_2]
  unfold outsAt0
  refine (out_apply _ _ _ _ _ _ _ _ _ _ y).trans ?_
  unfold G
  refine Finset.sum_congr rfl fun k _ => congrArg₂ (fun p q : EReal => p * q) ?_ ?_
  · refine (dif_pos (moved0_0 t (ix2 (y 0) k))).trans ?_
    show A m c (((cfg0.win 0).blk t).view.emb (fun a => ⟨((ix2 (y 0) k : S1024x1024.Idx) a).val, _⟩)) = _
    refine congrArg _ (ext2 _ _ ?_ ?_)
    · have e0 : ((((cfg0.win 2).blk t).view.emb y) 0).val = t.val * 1024 + (y 0).val := by
        blk_simp [idx2]
      refine Eq.trans ?_ e0.symm
      blk_simp [idx0]
    · blk_simp [idx0]
  · show B m c (((cfg0.win 1).blk t).view.emb (ix2 (y 1) k)) = _
    refine congrArg _ (ext2 _ _ ?_ ?_)
    · have e1 : ((((cfg0.win 2).blk t).view.emb y) 1).val = (y 1).val := by
        blk_simp [idx2]
      refine Eq.trans ?_ e1.symm
      blk_simp [idx1]
    · blk_simp [idx1]

/-! ## The operands and the reference -/

/-- The input. -/
abbrev X0 : (⟨S4352x1024, .f32⟩ : BufTy).Contents (Elt Ideal) := m (c.tc.loc main_arg0)
/-- The projection's weight. -/
abbrev X1 : (⟨S1024x1952, .f32⟩ : BufTy).Contents (Elt Ideal) := m (c.tc.loc main_arg1)

/-- The kernel's input is the argument. -/
theorem VA : A m c = X0 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The weight's last columns as rows, those of the same lanes side by side. -/
def ordered (w : S1024x1952.Idx → EReal) : S1536x1024.Idx → EReal :=
  shapeCast S1536x1024 (transpose S4x3x128x1024 [1, 0, 2, 3] (shapeCast S3x4x128x1024 (transpose S1536x1024 [1, 0]
    (extractStridedSlice S1024x1536 ![0, 416] w slices_S1024x1952_S1024x1536_0_416) transposes_S1024x1536_S1536x1024_1_0)
    shapeCasts_S1536x1024_S3x4x128x1024) transposes_S3x4x128x1024_S4x3x128x1024_1_0_2_3) shapeCasts_S4x3x128x1024_S1536x1024

/-- The kernel's weight is the argument, in that order. -/
theorem VB : B m c = ordered (X1 m c) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- Where a column of the result was before the reordering. -/
def perm (j : Fin 1536) : Fin 1536 := ⟨j.val / 128 % 3 * 512 + j.val / 384 * 128 + j.val % 128, by have := j.isLt; omega⟩
/-- The weight's column of a column of the convolution's part. -/
def col (j : Fin 1536) : Fin 1952 := ⟨416 + j.val, by have := j.isLt; omega⟩

/-- An entry of the ordered weight. -/
theorem ordered_apply (w : S1024x1952.Idx → EReal) (j : Fin 1536) (k : Fin 1024) : ordered w (ix2 j k) = w (ix2 k (col (perm j))) := by
  have hj := j.isLt
  have hk := k.isLt
  unfold ordered
  refine (shapeCast_apply _ shapeCasts_S4x3x128x1024_S1536x1024 (ix2 j k)
    (ix4 (⟨j.val / 384, by omega⟩ : Fin 4) (⟨j.val / 128 % 3, by omega⟩ : Fin 3) (⟨j.val % 128, by omega⟩ : Fin 128) k) ?_).trans ?_
  · rewrite [Shape.rowMajor_val_two, Shape.rowMajor_val_four]
    show (((j.val / 384) * 3 + j.val / 128 % 3) * 128 + j.val % 128) * 1024 + k.val = j.val * 1024 + k.val
    omega
  refine (transpose_apply [1, 0, 2, 3] _ transposes_S3x4x128x1024_S4x3x128x1024_1_0_2_3 _
    (ix4 (⟨j.val / 128 % 3, by omega⟩ : Fin 3) (⟨j.val / 384, by omega⟩ : Fin 4) (⟨j.val % 128, by omega⟩ : Fin 128) k) (fun b => match b with
    | ⟨0, _⟩ => rfl
    | ⟨1, _⟩ => rfl
    | ⟨2, _⟩ => rfl
    | ⟨3, _⟩ => rfl)).trans ?_
  refine (shapeCast_apply _ shapeCasts_S1536x1024_S3x4x128x1024 _ (ix2 (perm j) k) ?_).trans ?_
  · rewrite [Shape.rowMajor_val_two, Shape.rowMajor_val_four]
    show (j.val / 128 % 3 * 512 + j.val / 384 * 128 + j.val % 128) * 1024 + k.val = (((j.val / 128 % 3) * 4 + j.val / 384) * 128 + j.val % 128) * 1024 + k.val
    omega
  refine (transpose_apply [1, 0] _ transposes_S1024x1536_S1536x1024_1_0 _ (ix2 k (perm j)) (fun b => match b with
    | ⟨0, _⟩ => rfl
    | ⟨1, _⟩ => rfl)).trans ?_
  exact extractStridedSlice_apply ![0, 416] w slices_S1024x1952_S1024x1536_0_416 _ (ix2 k (col (perm j))) (fun a => match a with
    | ⟨0, _⟩ => (Nat.zero_add _).symm
    | ⟨1, _⟩ => rfl)

/-- The reference's product, its columns reordered, is the kernel's. -/
theorem ref_apply (x0 : (⟨S4352x1024, .f32⟩ : BufTy).Contents (Elt Ideal)) (x1 : (⟨S1024x1952, .f32⟩ : BufTy).Contents (Elt Ideal)) :
    (Cert.Reference6Ideal.Read.val_main_v5 (F := Ideal) x0 x1 : S4096x1536.Idx → EReal) = G x0 (ordered x1) := by
  funext y
  have h0 : (y 0).val < 4096 := (y 0).isLt
  have h1 : (y 1).val < 1536 := (y 1).isLt
  have a0 : ((y 0).val * 1536 + (y 1).val) / 1536 = (y 0).val := by omega
  have a1 : ((y 0).val * 1536 + (y 1).val) / 384 % 4 = (y 1).val / 384 := by omega
  have a2 : ((y 0).val * 1536 + (y 1).val) / 128 % 3 = (y 1).val / 128 % 3 := by omega
  have a3 : ((y 0).val * 1536 + (y 1).val) % 128 = (y 1).val % 128 := by omega
  refine (Cert.Reference6Ideal.Read.val_main_v5_apply (F := Ideal) x0 x1 y).trans ?_
  refine (Cert.Reference6Ideal.Read.val_main_v4_apply (F := Ideal) x0 x1 _).trans ?_
  refine (Cert.Reference6Ideal.Read.val_main_v3_apply (F := Ideal) x0 x1 _).trans ?_
  refine (congrArg (Cert.Reference6Ideal.Read.val_main_v2 (F := Ideal) x0 x1) (ext2 _ (ix2 (y 0) (perm (y 1))) ?_ ?_)).trans ?_
  · show (((((y 0).val * 1536 + (y 1).val) / 1536 * 3 + ((y 0).val * 1536 + (y 1).val) / 128 % 3) * 4 + ((y 0).val * 1536 + (y 1).val) / 384 % 4) * 128
      + ((y 0).val * 1536 + (y 1).val) % 128) / 1536 = (y 0).val
    rw [a0, a1, a2, a3]
    omega
  · show (((((y 0).val * 1536 + (y 1).val) / 1536 * 3 + ((y 0).val * 1536 + (y 1).val) / 128 % 3) * 4 + ((y 0).val * 1536 + (y 1).val) / 384 % 4) * 128
      + ((y 0).val * 1536 + (y 1).val) % 128) % 1536 = (y 1).val / 128 % 3 * 512 + (y 1).val / 384 * 128 + (y 1).val % 128
    rw [a0, a1, a2, a3]
    omega
  refine (Cert.Reference6Ideal.Read.val_main_v2_apply x0 x1 _).trans (Finset.sum_congr rfl fun k _ => ?_)
  refine congrArg₂ (fun p q : EReal => p * q) ?_ ?_
  · exact (Cert.Reference6Ideal.Read.val_main_v0_apply (F := Ideal) x0 _).trans (congrArg x0 (ext2 _ (ix2 (row (y 0)) k) rfl rfl))
  · refine (Cert.Reference6Ideal.Read.val_main_v1_apply (F := Ideal) x1 _).trans ?_
    exact (congrArg x1 (ext2 (Cert.Reference6Ideal.Read.idx_main_v1 (Cert.Reference6Ideal.Read.ridx_main_v2 (ix2 (y 0) (perm (y 1))) k))
      (ix2 k (col (perm (y 1)))) rfl rfl)).trans (ordered_apply x1 (y 1) k).symm

/-! ## The claims -/

/-- The reference runs and leaves its arguments and the counters as they were. -/
theorem reference : Cert.quiescent_Reference6Ideal := fun m g _ =>
  (θ_run (Cert.Reference6Ideal.defs (F := Ideal)) _ _).mono
    (fun r h => ⟨fun c => (h c).2, sem_eq_zero_of_no_sems (by decide) r.2⟩) (Cert.Reference6Ideal.Value.run (F := Ideal) m g)

/-- The kernel's projection is the reference's. -/
theorem algebraic : Cert.algebraic_Kernel6Ideal_Reference6Ideal := by
  intro m g m' g' _ hagree
  refine ⟨fun c => (dats m 0 c).arrAt 2 cfg0.N, Cert.Kernel6Ideal.Value.run_blocks (F := Ideal) m g, ?_⟩
  refine (θ_run (Cert.Reference6Ideal.defs (F := Ideal)) _ _).mono (fun r h c => ?_) (Cert.Reference6Ideal.Value.run (F := Ideal) m' g')
  obtain ⟨e0, e1⟩ := hagree c
  obtain ⟨k0, kept⟩ := h c
  refine ⟨?_, kept⟩
  refine k0.trans ((Cert.Reference6Ideal.Read.val_main_v5_eq (F := Ideal) (m' (c.tc.loc Cert.Reference6Ideal.main_arg0)) (m' (c.tc.loc Cert.Reference6Ideal.main_arg1))).trans ?_)
  refine Eq.trans (b := Cert.Reference6Ideal.Read.val_main_v5 (F := Ideal) (X0 m c) (X1 m c)) ?_ ?_
  · exact congr (congrArg _ e0) e1
  · refine (ref_apply (X0 m c) (X1 m c)).trans ?_
    exact ((arr m c).trans (congrArg₂ G (VA m c) (VB m c))).symm

end Cert.Proj6
end
-- ==== Proof.Proj7.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Ref
public import Idealize.ShloMosaic.Lib.StableHlo.RunRead
public import Idealize.ShloMosaic.Lib.Tactic
public import Idealize.ShloMosaic.Lib.WritesUnit
public import Idealize.ShloMosaic.Lib.Pipeline.ReadBack
import Idealize.ShloMosaic.Lib.Pipeline.ValueKit

@[expose] public section

set_option maxRecDepth 16384

noncomputable section

namespace Cert.Proj7

open Idealize.ShloMosaic hiding ix2 ix3
open Idealize.ShloMosaic.TcCoe Idealize.SL.Sem Idealize.ShloMosaic.ValueIdx
open Cert.Kernel7Ideal Cert.Kernel7Ideal.Gen
open Cert.Attn (ext2)

/-! ## The two products of one step -/

/-- Both operands contracted over their columns. -/
theorem mmNT (A B : FVec Ideal S1024x1024 .bf16) (x : S1024x1024.Idx) :
    matmul dot_S1024x1024_S1024x1024_S1024x1024_1_1_0_0_n_n none A B (constant S1024x1024 .f32 0x00000000#32) x
      = ∑ k : Fin 1024, A (ix2 (x 0) k) * B (ix2 (x 1) k) := by
  refine (Ideal.matmul_constant_zero_apply dot_S1024x1024_S1024x1024_S1024x1024_1_1_0_0_n_n none A B x).trans ?_
  rw [← Equiv.sum_comp (contrEquiv1 dot_S1024x1024_S1024x1024_S1024x1024_1_1_0_0_n_n 1024 rfl rfl).symm]
  refine Finset.sum_congr rfl fun k _ => ?_
  have hc := contrEquiv1_symm_val dot_S1024x1024_S1024x1024_S1024x1024_1_1_0_0_n_n 1024 rfl rfl k
  exact congrArg₂ (fun p q : EReal => p * q) (congrArg A (ext2 _ _ rfl ((DotDims.lhsIdx_val_of_single _ rfl _ _).trans hc)))
    (congrArg B (ext2 _ _ rfl ((DotDims.rhsIdx_val_of_single _ rfl _ _).trans hc)))

/-- Both operands contracted over their rows. -/
theorem mmTN (A B : FVec Ideal S1024x1024 .bf16) (x : S1024x1024.Idx) :
    matmul dot_S1024x1024_S1024x1024_S1024x1024_0_0_1_1_n_n none A B (constant S1024x1024 .f32 0x00000000#32) x
      = ∑ k : Fin 1024, A (ix2 k (x 0)) * B (ix2 k (x 1)) := by
  refine (Ideal.matmul_constant_zero_apply dot_S1024x1024_S1024x1024_S1024x1024_0_0_1_1_n_n none A B x).trans ?_
  rw [← Equiv.sum_comp (contrEquiv1 dot_S1024x1024_S1024x1024_S1024x1024_0_0_1_1_n_n 1024 rfl rfl).symm]
  refine Finset.sum_congr rfl fun k _ => ?_
  have hc := contrEquiv1_symm_val dot_S1024x1024_S1024x1024_S1024x1024_0_0_1_1_n_n 1024 rfl rfl k
  exact congrArg₂ (fun p q : EReal => p * q) (congrArg A (ext2 _ _ ((DotDims.lhsIdx_val_of_single _ rfl _ _).trans hc) rfl))
    (congrArg B (ext2 _ _ ((DotDims.rhsIdx_val_of_single _ rfl _ _).trans hc) rfl))

/-- The input's gradient of one step. -/
theorem pay1 (A B : Vec Ideal S1024x1024 .bf16) (x : S1024x1024.Idx) :
    k0_pay1 (F := Ideal) A B x = ∑ k : Fin 1024, A (ix2 (x 0) k) * B (ix2 (x 1) k) := by
  unfold k0_pay1
  rw [shapeCast_self, shapeCast_self]
  exact mmNT A B x

/-- The weight's gradient of one step. -/
theorem pay2 (A B : Vec Ideal S1024x1024 .bf16) (x : S1024x1024.Idx) :
    k0_pay2 (F := Ideal) A B x = ∑ k : Fin 1024, A (ix2 k (x 0)) * B (ix2 k (x 1)) := by
  unfold k0_pay2
  rw [shapeCast_self, shapeCast_self]
  exact mmTN A B x

/-- The first step writes its part to the sum. -/
theorem pay3 (A B : Vec Ideal S1024x1024 .bf16) : k0_pay3 (F := Ideal) A B = k0_pay2 A B := by
  unfold k0_pay3
  exact shapeCast_self _ _

/-- A later step adds its part to the sum. -/
theorem pay4 (A B : Vec Ideal S1024x1024 .bf16) (s : Vec Ideal S1024x1024 .f32) (x : S1024x1024.Idx) :
    (k0_pay4 (F := Ideal) A B s x : EReal) = (s x : EReal) + k0_pay2 A B x := by
  unfold k0_pay4
  rw [shapeCast_self]
  rfl

section Cases

variable (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole)
  (x0 x1 x2 : Vec Ideal S1024x1024 .bf16) (xs0 : Vec Ideal S1024x1024 .f32)

/-- A whole square block read back. -/
theorem ld_all {n k : ℕ} {e : EltTy} (x : Vec Ideal ⟨2, ![n, k]⟩ e) (inb : ∀ a, (![0, 0] : Fin 2 → ℕ) a + (![n, k] : Fin 2 → ℕ) a ≤ (![n, k] : Fin 2 → ℕ) a) :
    View.ld x (Rect.unit (s := ⟨2, ![n, k]⟩) ![0, 0] ![n, k] inb) = x :=
  funext fun y => congrArg x (ext2 _ _ ((Nat.zero_add _).trans (Nat.one_mul _)) ((Nat.zero_add _).trans (Nat.one_mul _)))

section A
variable (hc0 : cond0_0 i) (hc1 : ¬cond0_1 i) (hc2 : ¬cond0_2 i)

/-- The input's gradient after the first step. -/
theorem o3_A : out0_A_3 c i arg1 harg1 arg2 harg2 arg3 harg3 arg4 harg4 arg5 harg5 arg6 harg6 hc0 hc1 hc2 x0 x1 x2 = k0_pay1 (F := Ideal) x1 x2 := by
  unfold out0_A_3 kernelRun0_A
  dsimp only
  sl_unfold_words
  rw [View.read_writes_junk_eq_canon]
  simp (disch := decide) only [View.canon_cons_unit_lit, View.readAt_eq_ld, harg1.read_unread, harg2.read_unread, harg3.read_unread, ld_all]

/-- The sum after the first step. -/
theorem s_A : sout0_A_0 c i arg1 harg1 arg2 harg2 arg3 harg3 arg4 harg4 arg5 harg5 arg6 harg6 hc0 hc1 hc2 x0 x1 x2 = k0_pay3 (F := Ideal) x0 x1 := by
  unfold sout0_A_0 kernelRun0_A
  dsimp only
  sl_unfold_words
  rw [View.read_writes_junk_eq_canon]
  simp (disch := decide) only [View.canon_cons_unit_lit, View.readAt_eq_ld, harg1.read_unread, harg2.read_unread, harg3.read_unread, ld_all]

end A

section B
variable (hc0 : ¬cond0_0 i) (hc1 : cond0_1 i) (hc2 : ¬cond0_2 i)

/-- The input's gradient after a middle step. -/
theorem o3_B : out0_B_3 c i arg1 harg1 arg2 harg2 arg3 harg3 arg4 harg4 arg5 harg5 arg6 harg6 hc0 hc1 hc2 x0 x1 x2 xs0 = k0_pay1 (F := Ideal) x1 x2 := by
  unfold out0_B_3 kernelRun0_B
  dsimp only
  sl_unfold_words
  rw [View.read_writes_junk_eq_canon]
  simp (disch := decide) only [View.canon_cons_unit_lit, View.readAt_eq_ld, harg1.read_unread, harg2.read_unread, harg3.read_unread, ld_all]

/-- The sum after a middle step. -/
theorem s_B : sout0_B_0 c i arg1 harg1 arg2 harg2 arg3 harg3 arg4 harg4 arg5 harg5 arg6 harg6 hc0 hc1 hc2 x0 x1 x2 xs0 = k0_pay4 (F := Ideal) x0 x1 xs0 := by
  unfold sout0_B_0 kernelRun0_B
  dsimp only
  sl_unfold_words
  rw [View.read_writes_junk_eq_canon]
  simp (disch := decide) only [View.canon_cons_unit_lit, View.readAt_eq_ld, harg1.read_unread, harg2.read_unread, harg3.read_unread, harg6.read_unread, ld_all]

end B

section C
variable (hc0 : ¬cond0_0 i) (hc1 : cond0_1 i) (hc2 : cond0_2 i)

/-- The input's gradient after the last step. -/
theorem o3_C : out0_C_3 c i arg1 harg1 arg2 harg2 arg3 harg3 arg4 harg4 arg5 harg5 arg6 harg6 hc0 hc1 hc2 x0 x1 x2 xs0 = k0_pay1 (F := Ideal) x1 x2 := by
  unfold out0_C_3 kernelRun0_C
  dsimp only
  sl_unfold_words
  rw [View.read_writes_junk_eq_canon]
  simp (disch := decide) only [View.canon_cons_unit_lit, View.readAt_eq_ld, harg1.read_unread, harg2.read_unread, harg3.read_unread, ld_all]

/-- The weight's gradient after the last step. -/
theorem o4_C : out0_C_4 c i arg1 harg1 arg2 harg2 arg3 harg3 arg4 harg4 arg5 harg5 arg6 harg6 hc0 hc1 hc2 x0 x1 x2 xs0 = k0_pay5 (F := Ideal) (k0_pay4 (F := Ideal) x0 x1 xs0) := by
  unfold out0_C_4 kernelRun0_C
  dsimp only
  sl_unfold_words
  rw [View.read_writes_junk_eq_canon]
  simp (disch := decide) only [View.canon_cons_unit_lit, View.readCov_unit_lit, View.readAt_eq_ld, harg1.read_unread, harg2.read_unread, harg3.read_unread, harg6.read_unread, ld_all]

end C
end Cases

/-! ## The whole arrays -/

/-- The input's block index. -/
theorem idx0 : ∀ t : Fin cfg0.N, win0_0.index t = ![t.val, 0] := by decide +kernel
/-- The output gradient's block index. -/
theorem idx1 : ∀ t : Fin cfg0.N, win0_1.index t = ![t.val, 0] := by decide +kernel
/-- The weight's block index. -/
theorem idx2 : ∀ t : Fin cfg0.N, win0_2.index t = ![0, 0] := by decide +kernel
/-- The input gradient's block index. -/
theorem idx3 : ∀ t : Fin cfg0.N, win0_3.index t = ![t.val, 0] := by decide +kernel
/-- The weight gradient's block index. -/
theorem idx4 : ∀ t : Fin cfg0.N, win0_4.index t = ![0, 0] := by decide +kernel

variable (m : (ℓ : Loc nD τ sig) → Buf (Elt Ideal) ℓ) (c : Dev nD)

/-- The kernel's first operand, the input. -/
abbrev A : S4096x1024.Idx → EReal := V m c main_v0
/-- The kernel's second operand, the output's gradient. -/
abbrev D : S4096x1024.Idx → EReal := V m c main_v1
/-- The kernel's third operand, the weight. -/
abbrev W : S1024x1024.Idx → EReal := V m c main_v2
/-- The input's gradient: output gradient times the weight's transpose. -/
def GA (d : S4096x1024.Idx → EReal) (w : S1024x1024.Idx → EReal) : S4096x1024.Idx → EReal :=
  fun y => ∑ k : Fin 1024, d (ix2 (y 0) k) * w (ix2 (y 1) k)
/-- The weight's gradient: input times output gradient, contracted over the rows. -/
def GW (a d : S4096x1024.Idx → EReal) : S1024x1024.Idx → EReal :=
  fun y => ∑ k : Fin 4096, a (ix2 k (y 0)) * d (ix2 k (y 1))

/-- The input's gradient of a step, whichever it is. -/
theorem step3 (t : Fin cfg0.N) : (outsAt0 m c t.val t.isLt).1 = k0_pay1 (F := Ideal) (iblk m c 1 t) (iblk m c 2 t) := by
  have ht : t.val < 4 := lt_of_lt_of_eq t.isLt N_0
  by_cases h0 : t.val % 4 = 0
  · rw [outsAt0_A m c t h0 (by omega) (by omega)]
    dsimp only
    rw [o3_A]
  · by_cases h2 : t.val % 4 = 3
    · rw [outsAt0_C m c t h0 (by omega) h2]
      dsimp only
      rw [o3_C]
    · rw [outsAt0_B m c t h0 (by omega) h2]
      dsimp only
      rw [o3_B]

/-- The input's gradient after the run. -/
theorem arr3 : (dats m 0 c).arrAt 3 cfg0.N = GA (D m c) (W m c) := by
  refine (dats m 0 c).arrAt_eq_of_covers 3 _ (by decide +kernel) fun t hf y => ?_
  blk_simp
  rw [after0_3, step3]
  refine (pay1 _ _ y).trans ?_
  unfold GA
  have e0 : ((((cfg0.win 3).blk t).view.emb y) 0).val = t.val * 1024 + (y 0).val := by
    blk_simp [idx3]
  have e1 : ((((cfg0.win 3).blk t).view.emb y) 1).val = (y 1).val := by
    blk_simp [idx3]
  refine Finset.sum_congr rfl fun k _ => congrArg₂ (fun p q : EReal => p * q) ?_ ?_
  · show D m c (((cfg0.win 1).blk t).view.emb (ix2 (y 0) k)) = _
    refine congrArg _ (ext2 _ _ ?_ ?_)
    · refine Eq.trans ?_ e0.symm
      blk_simp [idx1]
    · blk_simp [idx1]
  · show W m c (((cfg0.win 2).blk t).view.emb (ix2 (y 1) k)) = _
    refine congrArg _ (ext2 _ _ ?_ ?_)
    · refine Eq.trans ?_ e1.symm
      blk_simp [idx2]
    · blk_simp [idx2]

/-- Row `r` of the rows of step `t`. -/
def row (t : Fin 4) (r : Fin 1024) : Fin 4096 := ⟨1024 * t.val + r.val, by have := t.isLt; have := r.isLt; omega⟩

/-- A sum over all rows, step by step. -/
theorem sum_rows (f : Fin 4096 → EReal) : ∑ t : Fin 4, ∑ r : Fin 1024, f (row t r) = ∑ a, f a := by
  rw [← Fintype.sum_prod_type' (fun (t : Fin 4) (r : Fin 1024) => f (row t r))]
  exact Fintype.sum_equiv (finProdFinEquiv (m := 4) (n := 1024)) _ f fun x => congrArg f (Fin.ext (Nat.add_comm _ _))

/-- The weight's gradient of one step's rows. -/
def part (a d : S4096x1024.Idx → EReal) (t : Fin 4) (y : S1024x1024.Idx) : EReal :=
  ∑ r : Fin 1024, a (ix2 (row t r) (y 0)) * d (ix2 (row t r) (y 1))

/-- One step's product of its blocks is that. -/
theorem part_eq (t : Fin cfg0.N) (s : Fin 4) (hs : t.val = s.val) (y : S1024x1024.Idx) :
    (k0_pay2 (F := Ideal) (iblk m c 0 t) (iblk m c 1 t) y : EReal) = part (A m c) (D m c) s y := by
  refine (pay2 _ _ y).trans (Finset.sum_congr rfl fun k _ => congrArg₂ (fun p q : EReal => p * q) ?_ ?_)
  · show A m c (((cfg0.win 0).blk t).view.emb (ix2 k (y 0))) = _
    refine congrArg _ (ext2 _ _ ?_ ?_)
    · blk_simp [idx0]
      show t.val * 1024 + k.val = 1024 * s.val + k.val
      omega
    · blk_simp [idx0]
  · show D m c (((cfg0.win 1).blk t).view.emb (ix2 k (y 1))) = _
    refine congrArg _ (ext2 _ _ ?_ ?_)
    · blk_simp [idx1]
      show t.val * 1024 + k.val = 1024 * s.val + k.val
      omega
    · blk_simp [idx1]

/-- The sum after the first step. -/
theorem acc0 (t : Fin cfg0.N) (h : t.val = 0) (y : S1024x1024.Idx) :
    ((outsAt0 m c t.val t.isLt).2.2 y : EReal) = part (A m c) (D m c) 0 y := by
  rw [outsAt0_A m c t (by omega) (by omega) (by omega)]
  dsimp only
  rw [s_A, pay3]
  exact part_eq m c t 0 h y

/-- The sum after a middle step. -/
theorem accB (t : Fin cfg0.N) (s : Fin 4) (hs : t.val = s.val) (h0 : 1 ≤ s.val) (h3 : s.val < 3) (y : S1024x1024.Idx) :
    ((outsAt0 m c t.val t.isLt).2.2 y : EReal)
      = ((outsAt0 m c (t.val - 1) (Nat.lt_of_le_of_lt (Nat.sub_le _ _) t.isLt)).2.2 y : EReal) + part (A m c) (D m c) s y := by
  rw [outsAt0_B m c t (by omega) (by omega) (by omega)]
  dsimp only
  rw [s_B]
  refine (pay4 _ _ _ y).trans ?_
  exact congrArg (fun q : EReal => _ + q) (part_eq m c t s hs y)

/-- The parts of the steps up to `n`. -/
def upto (a d : S4096x1024.Idx → EReal) (y : S1024x1024.Idx) : (n : ℕ) → n < 4 → EReal
  | 0, _ => part a d 0 y
  | n + 1, h => upto a d y n (Nat.lt_of_succ_lt h) + part a d ⟨n + 1, h⟩ y

/-- The sum after each step but the last. -/
theorem acc (y : S1024x1024.Idx) : ∀ (n : ℕ) (hn : n < cfg0.N) (h : n < 4) (_ : n < 3),
    ((outsAt0 m c n hn).2.2 y : EReal) = upto (A m c) (D m c) y n h
  | 0, hn, _, _ => acc0 m c ⟨0, hn⟩ rfl y
  | n + 1, hn, h, h3 => by
    refine (accB m c ⟨n + 1, hn⟩ ⟨n + 1, h⟩ rfl (Nat.succ_pos n) h3 y).trans ?_
    exact congrArg (fun p : EReal => p + part (A m c) (D m c) ⟨n + 1, h⟩ y) (acc y n (Nat.lt_of_succ_lt hn) (Nat.lt_of_succ_lt h) (Nat.lt_of_succ_lt h3))

/-- All four parts are the whole product. -/
theorem all_parts (a d : S4096x1024.Idx → EReal) (y : S1024x1024.Idx) (h : 2 < 4) : upto a d y 2 h + part a d 3 y = GW a d y := by
  unfold GW
  refine Eq.trans ?_ (sum_rows fun k => a (ix2 k (y 0)) * d (ix2 k (y 1)))
  exact (Fin.sum_univ_four (fun t => part a d t y)).symm

/-- The weight's gradient after the last step. -/
theorem last4 (t : Fin cfg0.N) (h : t.val = 3) (y : S1024x1024.Idx) :
    ((outsAt0 m c t.val t.isLt).2.1 y : EReal) = GW (A m c) (D m c) y := by
  have key : ∀ (n : ℕ) (hn : n < cfg0.N), n = 2 → ((outsAt0 m c n hn).2.2 y : EReal) = upto (A m c) (D m c) y 2 (by decide) := by
    rintro n hn rfl
    exact acc m c y _ hn _ (by decide)
  rw [outsAt0_C m c t (by omega) (by omega) (by omega)]
  dsimp only
  rw [o4_C]
  refine (pay4 _ _ _ y).trans ?_
  rw [key _ _ (by omega), part_eq m c t 3 h y]
  exact all_parts _ _ y _

/-- The weight's gradient after the run. -/
theorem arr4 : (dats m 0 c).arrAt 4 cfg0.N = GW (A m c) (D m c) := by
  refine (dats m 0 c).arrAt_eq_of_covers 4 _ (by decide +kernel) fun t hf y => ?_
  have h3 : t.val = 3 := (by decide +kernel : ∀ t : Fin cfg0.N, (cfg0.win 4).flush t = true → t.val = 3) t hf
  blk_simp
  rw [after0_4]
  refine (last4 m c t h3 y).trans (congrArg (GW (A m c) (D m c)) (ext2 _ _ ?_ ?_))
  · blk_simp [idx4]
  · blk_simp [idx4]

/-! ## The operands and the reference -/

/-- The input. -/
abbrev X0 : (⟨S4096x1024, .f32⟩ : BufTy).Contents (Elt Ideal) := m (c.tc.loc main_arg0)
/-- The weight. -/
abbrev X1 : (⟨S1024x1024, .f32⟩ : BufTy).Contents (Elt Ideal) := m (c.tc.loc main_arg1)
/-- The output's gradient. -/
abbrev X2 : (⟨S4096x1024, .f32⟩ : BufTy).Contents (Elt Ideal) := m (c.tc.loc main_arg2)

/-- The kernel's input is the argument. -/
theorem VA : A m c = X0 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's output gradient is the argument. -/
theorem VD : D m c = X2 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's weight is the argument. -/
theorem VW : W m c = X1 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The reference's gradient of the input. -/
theorem refA (x1 : (⟨S1024x1024, .f32⟩ : BufTy).Contents (Elt Ideal)) (x2 : (⟨S4096x1024, .f32⟩ : BufTy).Contents (Elt Ideal)) :
    (Cert.Reference7Ideal.Read.val_main_v3 (F := Ideal) x1 x2 : S4096x1024.Idx → EReal) = GA x2 x1 := by
  funext y
  refine (Cert.Reference7Ideal.Read.val_main_v3_apply x1 x2 y).trans (Finset.sum_congr rfl fun k _ => ?_)
  exact congrArg₂ (fun p q : EReal => p * q) (congrArg x2 (ext2 _ (ix2 (y 0) k) rfl rfl)) (congrArg x1 (ext2 _ (ix2 (y 1) k) rfl rfl))

/-- The reference's gradient of the weight. -/
theorem refW (x0 x2 : (⟨S4096x1024, .f32⟩ : BufTy).Contents (Elt Ideal)) :
    (Cert.Reference7Ideal.Read.val_main_v4 (F := Ideal) x0 x2 : S1024x1024.Idx → EReal) = GW x0 x2 := by
  funext y
  refine (Cert.Reference7Ideal.Read.val_main_v4_apply (F := Ideal) x0 x2 y).trans ?_
  refine (Cert.Reference7Ideal.Read.val_main_v2_apply (F := Ideal) x0 x2 y).trans ?_
  refine (Cert.Reference7Ideal.Read.val_main_v1_apply x0 x2 _).trans (Finset.sum_congr rfl fun k _ => ?_)
  exact (mul_comm (_ : EReal) _).trans (congrArg₂ (fun p q : EReal => p * q) (congrArg x0 (ext2 _ (ix2 k (y 0)) rfl rfl)) (congrArg x2 (ext2 _ (ix2 k (y 1)) rfl rfl)))

/-! ## The claims -/

/-- The reference runs and leaves its arguments and the counters as they were. -/
theorem reference : Cert.quiescent_Reference7Ideal := fun m g _ =>
  (θ_run (Cert.Reference7Ideal.defs (F := Ideal)) _ _).mono
    (fun r h => ⟨fun c => (h c).2.2, sem_eq_zero_of_no_sems (by decide) r.2⟩) (Cert.Reference7Ideal.Value.run (F := Ideal) m g)

/-- The kernel's gradients of the input and the weight are the reference's. -/
theorem algebraic : Cert.algebraic_Kernel7Ideal_Reference7Ideal := by
  intro m g m' g' _ hagree
  refine ⟨fun c => (dats m 0 c).arrAt 3 cfg0.N, fun c => (dats m 0 c).arrAt 4 cfg0.N, Cert.Kernel7Ideal.Value.run_blocks (F := Ideal) m g, ?_⟩
  refine (θ_run (Cert.Reference7Ideal.defs (F := Ideal)) _ _).mono (fun r h c => ?_) (Cert.Reference7Ideal.Value.run (F := Ideal) m' g')
  obtain ⟨e0, e1, e2⟩ := hagree c
  obtain ⟨k0, k1, kept⟩ := h c
  refine ⟨?_, ?_, kept⟩
  · refine k0.trans ((Cert.Reference7Ideal.Read.val_main_v3_eq (F := Ideal) (m' (c.tc.loc Cert.Reference7Ideal.main_arg1)) (m' (c.tc.loc Cert.Reference7Ideal.main_arg2))).trans ?_)
    refine Eq.trans (b := Cert.Reference7Ideal.Read.val_main_v3 (F := Ideal) (X1 m c) (X2 m c)) ?_ ?_
    · exact congr (congrArg _ e1) e2
    · refine (refA (X1 m c) (X2 m c)).trans ?_
      exact ((arr3 m c).trans (congrArg₂ GA (VD m c) (VW m c))).symm
  · refine k1.trans ((Cert.Reference7Ideal.Read.val_main_v4_eq (F := Ideal) (m' (c.tc.loc Cert.Reference7Ideal.main_arg0)) (m' (c.tc.loc Cert.Reference7Ideal.main_arg2))).trans ?_)
    refine Eq.trans (b := Cert.Reference7Ideal.Read.val_main_v4 (F := Ideal) (X0 m c) (X2 m c)) ?_ ?_
    · exact congr (congrArg _ e0) e2
    · refine (refW (X0 m c) (X2 m c)).trans ?_
      exact ((arr4 m c).trans (congrArg₂ GW (VA m c) (VD m c))).symm

end Cert.Proj7
end
-- ==== Proof.ConvRef8.lean ====
module

public import proofs.«01_k».proof.Defs
public import proofs.«01_k».proof.Proof.Gen.Reference8Ideal.Read
public import proofs.«01_k».proof.Proof.Ref
public import Idealize.ShloMosaic.Lib.KernelVsHost
import Idealize.ShloMosaic.Lib.Pipeline.ValueKit

@[expose] public section

set_option maxRecDepth 16384

noncomputable section

namespace Cert.Conv8

open Idealize.ShloMosaic hiding ix2 ix3 ix4
open Idealize.ShloMosaic.TcCoe Idealize.SL.Sem Idealize.ShloMosaic.ValueIdx
open Cert.Reference8Ideal Cert.Reference8Ideal.Gen Cert.Reference8Ideal.Read
open Cert.Attn (ext2)

/-! ## One column of the convolution and its gradient -/

/-- The row before, zero before the first. -/
def prev (f : Fin 4096 → EReal) (i : Fin 4096) : EReal :=
  if i.val = 0 then 0 else f ⟨(i.val + 4095) % 4096, Nat.mod_lt _ (by decide)⟩

/-- The row after, zero after the last. -/
def next (f : Fin 4096 → EReal) (i : Fin 4096) : EReal :=
  if i.val = 4095 then 0 else f ⟨(i.val + 1) % 4096, Nat.mod_lt _ (by decide)⟩

/-- The gradient of the first gate: output gradient times the convolution of the gated column. -/
def dGate (w0 w1 w2 : EReal) (e c x : Fin 4096 → EReal) (i : Fin 4096) : EReal :=
  e i * (w0 * prev (fun i => c i * x i) i + w1 * (c i * x i) + w2 * next (fun i => c i * x i) i)

/-- The gradient of the convolution's input, its taps reversed. -/
def dIn (w0 w1 w2 : EReal) (e g : Fin 4096 → EReal) (i : Fin 4096) : EReal :=
  w0 * next (fun i => e i * g i) i + w1 * (e i * g i) + w2 * prev (fun i => e i * g i) i

/-- The three parts of the projection's gradient: first gate, second gate, value. -/
def dz (p : ℕ) (w0 w1 w2 : EReal) (e g c x : Fin 4096 → EReal) (i : Fin 4096) : EReal :=
  if p = 0 then dGate w0 w1 w2 e c x i else if p = 1 then dIn w0 w1 w2 e g i * x i else dIn w0 w1 w2 e g i * c i

/-- The gradients of the three taps. -/
def dTap (k : ℕ) (e g c x : Fin 4096 → EReal) : EReal :=
  if k = 0 then ∑ i, e i * g i * prev (fun i => c i * x i) i
  else if k = 1 then ∑ i, e i * g i * (c i * x i) else ∑ i, e i * g i * next (fun i => c i * x i) i

/-! ## The results, entry by entry -/

/-- A column of the projection: its part and its number there. -/
def part (z : S4096x1536.Idx → EReal) (p : Fin 3) (j : Fin 512) : Fin 4096 → EReal :=
  fun i => z (ix2 i ⟨p.val * 512 + j.val, by have := p.isLt; have := j.isLt; omega⟩)

/-- A column of the convolution's output gradient. -/
def outc (a : S4096x1024.Idx → EReal) (j : Fin 512) : Fin 4096 → EReal := fun i => a (ix2 i ⟨512 + j.val, by have := j.isLt; omega⟩)

/-- The projection's gradient, from its part and its column there. -/
def dzAt (z : S4096x1536.Idx → EReal) (w : S3x512.Idx → EReal) (a : S4096x1024.Idx → EReal) (p : ℕ) (j : Fin 512) (i : Fin 4096) : EReal :=
  dz p (w (ix2 0 j)) (w (ix2 1 j)) (w (ix2 2 j)) (outc a j) (part z 0 j) (part z 1 j) (part z 2 j) i

/-- A reordered column's number within its part. -/
def nat (q : ℕ) (h : q < 1536) : Fin 512 := ⟨q / 384 * 128 + q % 128, by omega⟩

/-- The gradient of the projection as it is returned. -/
def G4 (z : S4096x1536.Idx → EReal) (w : S3x512.Idx → EReal) (a : S4096x1024.Idx → EReal) : S4096x1536.Idx → EReal :=
  fun y => dzAt z w a ((y 1).val / 128 % 3) (nat (y 1).val (y 1).isLt) (y 0)

/-- The gradient of the taps. -/
def G5 (z : S4096x1536.Idx → EReal) (a : S4096x1024.Idx → EReal) : S3x512.Idx → EReal :=
  fun y => dTap (y 0).val (outc a (y 1)) (part z 0 (y 1)) (part z 1 (y 1)) (part z 2 (y 1))

/-- A row of the normed input among those given. -/
def row (i : Fin 4096) : Fin 4352 := ⟨i.val, by have := i.isLt; omega⟩

/-- The gradient of the projection's weight as it is returned. -/
def G6 (z : S4096x1536.Idx → EReal) (w : S3x512.Idx → EReal) (a : S4096x1024.Idx → EReal) (h : S4352x1024.Idx → EReal) : S1536x1024.Idx → EReal :=
  fun y => ∑ k : Fin 4096, G4 z w a (ix2 k (y 0)) * h (ix2 (row k) (y 1))

/-- Where a reordered column comes from. -/
def perm (q : ℕ) (h : q < 1536) : Fin 1536 := ⟨q / 128 % 3 * 512 + q / 384 * 128 + q % 128, by omega⟩

/-- Shifting a multiple. -/
theorem prev_mul (w : EReal) (f : Fin 4096 → EReal) (i : Fin 4096) : prev (fun i => w * f i) i = w * prev f i := by
  unfold prev
  by_cases h : i.val = 0
  · rw [if_pos h, if_pos h, mul_zero]
  · rw [if_neg h, if_neg h]

/-- Shifting a multiple. -/
theorem next_mul (w : EReal) (f : Fin 4096 → EReal) (i : Fin 4096) : next (fun i => w * f i) i = w * next f i := by
  unfold next
  by_cases h : i.val = 4095
  · rw [if_pos h, if_pos h, mul_zero]
  · rw [if_neg h, if_neg h]

/-- Shifted down by one row: the row before. -/
theorem prev_pos (f : Fin 4096 → EReal) (i : Fin 4096) (k : Fin 4096) (h : k.val + 1 = i.val) : prev f i = f k := by
  have hi := i.isLt
  unfold prev
  rw [if_neg (by omega)]
  exact congrArg f (Fin.ext (by show (i.val + 4095) % 4096 = k.val; omega))

/-- Shifted up by one row: the row after. -/
theorem next_pos (f : Fin 4096 → EReal) (i : Fin 4096) (k : Fin 4096) (h : k.val = i.val + 1) : next f i = f k := by
  have hk := k.isLt
  unfold next
  rw [if_neg (by omega)]
  exact congrArg f (Fin.ext (by show (i.val + 1) % 4096 = k.val; omega))

/-! ## The reference -/

section Reference

variable (x0 : (⟨S4096x1536, .f32⟩ : BufTy).Contents (Elt Ideal)) (x1 : (⟨S3x512, .f32⟩ : BufTy).Contents (Elt Ideal))
  (x2 : (⟨S4096x1024, .f32⟩ : BufTy).Contents (Elt Ideal)) (x3 : (⟨S4352x1024, .f32⟩ : BufTy).Contents (Elt Ideal))

/-- The first part. -/
theorem v0 (i : Fin 4096) (j : Fin 512) : (val_main_v0 (F := Ideal) x0 (ix2 i j) : EReal) = part x0 0 j i :=
  (val_main_v0_apply x0 _).trans (congrArg x0 (ext2 _ _ rfl (by show j.val = 0 * 512 + j.val; omega)))
/-- The second part. -/
theorem v1 (i : Fin 4096) (j : Fin 512) : (val_main_v1 (F := Ideal) x0 (ix2 i j) : EReal) = part x0 1 j i :=
  (val_main_v1_apply x0 _).trans (congrArg x0 (ext2 _ _ rfl (by show 512 + j.val = 1 * 512 + j.val; omega)))
/-- The third part. -/
theorem v2 (i : Fin 4096) (j : Fin 512) : (val_main_v2 (F := Ideal) x0 (ix2 i j) : EReal) = part x0 2 j i :=
  (val_main_v2_apply x0 _).trans (congrArg x0 (ext2 _ _ rfl (by show 1024 + j.val = 2 * 512 + j.val; omega)))
/-- The output gradient. -/
theorem v29 (i : Fin 4096) (j : Fin 512) : (val_main_v29 (F := Ideal) x2 (ix2 i j) : EReal) = outc x2 j i :=
  (val_main_v29_apply x2 _).trans (congrArg x2 (ext2 _ _ rfl rfl))
/-- The gated column. -/
theorem v3 (i : Fin 4096) (j : Fin 512) : (val_main_v3 (F := Ideal) x0 (ix2 i j) : EReal) = part x0 1 j i * part x0 2 j i :=
  congrArg₂ (fun p q : EReal => p * q) (v1 x0 i j) (v2 x0 i j)

/-- A row of zeros. -/
theorem v4 (i : S1x512.Idx) : (val_main_v4 (F := Ideal) i : EReal) = 0 := (val_main_v4_apply i).trans Ideal.ofBits_zero_f32

/-- The padded column's first row. -/
theorem v5_first (r : Fin 4098) (j : Fin 512) (h : r.val = 0) : (val_main_v5 (F := Ideal) x0 (ix2 r j) : EReal) = 0 := by
  unfold val_main_v5
  refine (concatenate_apply_piece (t := S4098x512) 0 _ _ _ 0 (by show 0 < 3; norm_num) S1x512 (val_main_v4 (F := Ideal)) rfl rfl 0 rfl (ix2 0 j : S1x512.Idx) (fun b hb => ?_) ?_).trans (v4 _)
  · match b with
    | ⟨0, _⟩ => exact absurd rfl hb
    | ⟨1, _⟩ => rfl
  · show 0 + 0 = r.val; omega
/-- The padded column's last row. -/
theorem v5_last (r : Fin 4098) (j : Fin 512) (h : r.val = 4097) : (val_main_v5 (F := Ideal) x0 (ix2 r j) : EReal) = 0 := by
  unfold val_main_v5
  refine (concatenate_apply_piece (t := S4098x512) 0 _ _ _ 2 (by show 2 < 3; norm_num) S1x512 (val_main_v4 (F := Ideal)) rfl rfl 4097 rfl (ix2 0 j : S1x512.Idx) (fun b hb => ?_) ?_).trans (v4 _)
  · match b with
    | ⟨0, _⟩ => exact absurd rfl hb
    | ⟨1, _⟩ => rfl
  · show 4097 + 0 = r.val; omega
/-- The padded column's other rows. -/
theorem v5_mid (r : Fin 4098) (i : Fin 4096) (j : Fin 512) (h : r.val = i.val + 1) :
    (val_main_v5 (F := Ideal) x0 (ix2 r j) : EReal) = part x0 1 j i * part x0 2 j i := by
  unfold val_main_v5
  refine (concatenate_apply_piece (t := S4098x512) 0 _ _ _ 1 (by show 1 < 3; norm_num) S4096x512 (val_main_v3 (F := Ideal) x0) rfl rfl 1 rfl (ix2 i j : S4096x512.Idx) (fun b hb => ?_) ?_).trans (v3 x0 i j)
  · match b with
    | ⟨0, _⟩ => exact absurd rfl hb
    | ⟨1, _⟩ => rfl
  · show 1 + i.val = r.val; omega

/-- The gated column shifted down. -/
theorem v10 (i : Fin 4096) (j : Fin 512) :
    (val_main_v10 (F := Ideal) x0 (ix2 i j) : EReal) = prev (fun i => part x0 1 j i * part x0 2 j i) i := by
  have hi := i.isLt
  refine (val_main_v10_apply x0 _).trans ?_
  refine (congrArg (val_main_v5 (F := Ideal) x0) (ext2 (idx_main_v10 (ix2 i j)) (ix2 (⟨i.val, by omega⟩ : Fin 4098) j) rfl rfl)).trans ?_
  by_cases h : i.val = 0
  · refine (v5_first x0 _ j h).trans ?_
    unfold prev
    rw [if_pos h]
  · refine (v5_mid x0 _ ⟨i.val - 1, by omega⟩ j (by show i.val = i.val - 1 + 1; omega)).trans ?_
    exact (prev_pos (fun i => part x0 1 j i * part x0 2 j i) i ⟨i.val - 1, by omega⟩ (by show i.val - 1 + 1 = i.val; omega)).symm
/-- The gated column in place. -/
theorem v16 (i : Fin 4096) (j : Fin 512) : (val_main_v16 (F := Ideal) x0 (ix2 i j) : EReal) = part x0 1 j i * part x0 2 j i := by
  have hi := i.isLt
  refine (val_main_v16_apply x0 _).trans ?_
  refine (congrArg (val_main_v5 (F := Ideal) x0) (ext2 (idx_main_v16 (ix2 i j)) (ix2 (⟨1 + i.val, by omega⟩ : Fin 4098) j) rfl rfl)).trans ?_
  exact v5_mid x0 _ i j (by show 1 + i.val = i.val + 1; omega)
/-- The gated column shifted up. -/
theorem v23 (i : Fin 4096) (j : Fin 512) :
    (val_main_v23 (F := Ideal) x0 (ix2 i j) : EReal) = next (fun i => part x0 1 j i * part x0 2 j i) i := by
  have hi := i.isLt
  refine (val_main_v23_apply x0 _).trans ?_
  refine (congrArg (val_main_v5 (F := Ideal) x0) (ext2 (idx_main_v23 (ix2 i j)) (ix2 (⟨2 + i.val, by omega⟩ : Fin 4098) j) rfl rfl)).trans ?_
  by_cases h : i.val = 4095
  · refine (v5_last x0 _ j (by show 2 + i.val = 4097; omega)).trans ?_
    unfold next
    rw [if_pos h]
  · refine (v5_mid x0 _ ⟨i.val + 1, by omega⟩ j (by show 2 + i.val = i.val + 1 + 1; omega)).trans ?_
    exact (next_pos (fun i => part x0 1 j i * part x0 2 j i) i ⟨i.val + 1, by omega⟩ rfl).symm

/-- The first tap, spread over the rows. -/
theorem v12 (i : Fin 4096) (j : Fin 512) : (val_main_v12 (F := Ideal) x1 (ix2 i j) : EReal) = x1 (ix2 0 j) := by
  refine (val_main_v12_apply x1 _).trans ((val_main_v11_apply x1 _).trans ((val_main_v9_apply x1 _).trans ((val_main_v8_apply x1 _).trans ?_)))
  exact congrArg x1 (ext2 _ _ rfl (Nat.mod_eq_of_lt j.isLt))
/-- The first tap, spread over the rows. -/
theorem v52 (i : Fin 4096) (j : Fin 512) : (val_main_v52 (F := Ideal) x1 (ix2 i j) : EReal) = x1 (ix2 0 j) := by
  refine (val_main_v52_apply x1 _).trans ((val_main_v11_apply x1 _).trans ((val_main_v9_apply x1 _).trans ((val_main_v8_apply x1 _).trans ?_)))
  exact congrArg x1 (ext2 _ _ rfl (Nat.mod_eq_of_lt j.isLt))
/-- The second tap, spread over the rows. -/
theorem v18 (i : Fin 4096) (j : Fin 512) : (val_main_v18 (F := Ideal) x1 (ix2 i j) : EReal) = x1 (ix2 1 j) := by
  refine (val_main_v18_apply x1 _).trans ((val_main_v17_apply x1 _).trans ((val_main_v15_apply x1 _).trans ((val_main_v14_apply x1 _).trans ?_)))
  exact congrArg x1 (ext2 _ _ rfl (Nat.mod_eq_of_lt j.isLt))
/-- The second tap, spread over the rows. -/
theorem v41 (i : Fin 4096) (j : Fin 512) : (val_main_v41 (F := Ideal) x1 (ix2 i j) : EReal) = x1 (ix2 1 j) := by
  refine (val_main_v41_apply x1 _).trans ((val_main_v17_apply x1 _).trans ((val_main_v15_apply x1 _).trans ((val_main_v14_apply x1 _).trans ?_)))
  exact congrArg x1 (ext2 _ _ rfl (Nat.mod_eq_of_lt j.isLt))
/-- The third tap, spread over the rows. -/
theorem v25 (i : Fin 4096) (j : Fin 512) : (val_main_v25 (F := Ideal) x1 (ix2 i j) : EReal) = x1 (ix2 2 j) := by
  refine (val_main_v25_apply x1 _).trans ((val_main_v24_apply x1 _).trans ((val_main_v22_apply x1 _).trans ((val_main_v21_apply x1 _).trans ?_)))
  exact congrArg x1 (ext2 _ _ rfl (Nat.mod_eq_of_lt j.isLt))
/-- The third tap, spread over the rows. -/
theorem v32 (i : Fin 4096) (j : Fin 512) : (val_main_v32 (F := Ideal) x1 (ix2 i j) : EReal) = x1 (ix2 2 j) := by
  refine (val_main_v32_apply x1 _).trans ((val_main_v24_apply x1 _).trans ((val_main_v22_apply x1 _).trans ((val_main_v21_apply x1 _).trans ?_)))
  exact congrArg x1 (ext2 _ _ rfl (Nat.mod_eq_of_lt j.isLt))

/-- The convolution. -/
theorem v27 (i : Fin 4096) (j : Fin 512) : (val_main_v27 (F := Ideal) x0 x1 (ix2 i j) : EReal)
    = x1 (ix2 0 j) * prev (fun i => part x0 1 j i * part x0 2 j i) i + x1 (ix2 1 j) * (part x0 1 j i * part x0 2 j i)
      + x1 (ix2 2 j) * next (fun i => part x0 1 j i * part x0 2 j i) i :=
  congrArg₂ (fun p q : EReal => p + q) (congrArg₂ (fun p q : EReal => p + q) (congrArg₂ (fun p q : EReal => p * q) (v12 x1 i j) (v10 x0 i j))
    (congrArg₂ (fun p q : EReal => p * q) (v18 x1 i j) (v16 x0 i j))) (congrArg₂ (fun p q : EReal => p * q) (v25 x1 i j) (v23 x0 i j))

/-- The gradient of the convolution's result. -/
theorem v30 (i : Fin 4096) (j : Fin 512) : (val_main_v30 (F := Ideal) x0 x2 (ix2 i j) : EReal) = outc x2 j i * part x0 0 j i :=
  (congrArg₂ (fun p q : EReal => p * q) (v0 x0 i j) (v29 x2 i j)).trans (mul_comm _ _)

/-- The gradient of the first gate. -/
theorem v31 (i : Fin 4096) (j : Fin 512) : (val_main_v31 (F := Ideal) x0 x1 x2 (ix2 i j) : EReal) = dzAt x0 x1 x2 0 j i :=
  congrArg₂ (fun p q : EReal => p * q) (v29 x2 i j) (v27 x0 x1 i j)

section Pads

variable (x : S4096x512.Idx → EReal) (v : S_.Idx → EReal) (hv : v (Shape.Idx.first h_S_) = 0)
include hv

/-- Two rows of zeros before: at the next row, the row before. -/
theorem padDown (r : Fin 4098) (i : Fin 4096) (j : Fin 512) (h : r.val = 1 + i.val) :
    pad S4098x512 ![2, 0] ![0, 0] ![0, 0] x v pads_S4096x512_S4098x512_200_000 h_S_ (ix2 r j) = prev (fun i => x (ix2 i j)) i := by
  have hi := i.isLt
  by_cases h0 : i.val = 0
  · refine (pad_apply_of_not_inside (a := 0) (ha := fun hh => ?_) ..).trans (hv.trans ?_)
    · have := hh.1
      change 2 ≤ r.val at this
      omega
    · unfold prev
      rw [if_pos h0]
  · refine (pad_apply_of_inside (s := S4096x512) (k := (ix2 ⟨i.val - 1, by omega⟩ j : S4096x512.Idx)) (hk := fun b => ?_) ..).trans ?_
    · match b with
      | ⟨0, _⟩ => show r.val = 2 + (i.val - 1) * (0 + 1); omega
      | ⟨1, _⟩ => show j.val = 0 + j.val * (0 + 1); omega
    · exact (prev_pos (fun i => x (ix2 i j)) i ⟨i.val - 1, by omega⟩ (by show i.val - 1 + 1 = i.val; omega)).symm

/-- One row of zeros before and one after: at the next row, the row itself. -/
theorem padSame (r : Fin 4098) (i : Fin 4096) (j : Fin 512) (h : r.val = 1 + i.val) :
    pad S4098x512 ![1, 0] ![1, 0] ![0, 0] x v pads_S4096x512_S4098x512_110_000 h_S_ (ix2 r j) = x (ix2 i j) := by
  refine pad_apply_of_inside (s := S4096x512) (k := (ix2 i j : S4096x512.Idx)) (hk := fun b => ?_) ..
  match b with
  | ⟨0, _⟩ => show r.val = 1 + i.val * (0 + 1); omega
  | ⟨1, _⟩ => show j.val = 0 + j.val * (0 + 1); omega

/-- Two rows of zeros after: at the next row, the row after. -/
theorem padUp (r : Fin 4098) (i : Fin 4096) (j : Fin 512) (h : r.val = 1 + i.val) :
    pad S4098x512 ![0, 0] ![2, 0] ![0, 0] x v pads_S4096x512_S4098x512_020_000 h_S_ (ix2 r j) = next (fun i => x (ix2 i j)) i := by
  have hi := i.isLt
  by_cases h0 : i.val = 4095
  · refine (pad_apply_of_not_inside (a := 0) (ha := fun hh => ?_) ..).trans (hv.trans ?_)
    · have := hh.2.2
      change (r.val - 0) / (0 + 1) < 4096 at this
      omega
    · unfold next
      rw [if_pos h0]
  · refine (pad_apply_of_inside (s := S4096x512) (k := (ix2 ⟨i.val + 1, by omega⟩ j : S4096x512.Idx)) (hk := fun b => ?_) ..).trans ?_
    · match b with
      | ⟨0, _⟩ => show r.val = 0 + (i.val + 1) * (0 + 1); omega
      | ⟨1, _⟩ => show j.val = 0 + j.val * (0 + 1); omega
    · exact (next_pos (fun i => x (ix2 i j)) i ⟨i.val + 1, by omega⟩ rfl).symm

end Pads

/-- The gradient of the convolution's input. -/
theorem v64 (i : Fin 4096) (j : Fin 512) : (val_main_v64 (F := Ideal) x0 x1 x2 (ix2 i j) : EReal)
    = dIn (x1 (ix2 0 j)) (x1 (ix2 1 j)) (x1 (ix2 2 j)) (outc x2 j) (part x0 0 j) i := by
  have hi := i.isLt
  refine (val_main_v64_apply x0 x1 x2 _).trans ?_
  refine (congrArg (val_main_v59 (F := Ideal) x0 x1 x2) (ext2 (idx_main_v64 (ix2 i j)) (ix2 (⟨1 + i.val, by omega⟩ : Fin 4098) j) rfl rfl)).trans ?_
  have a : (val_main_v38 (F := Ideal) x0 x1 x2 (ix2 (⟨1 + i.val, by omega⟩ : Fin 4098) j) : EReal)
      = x1 (ix2 2 j) * prev (fun i => outc x2 j i * part x0 0 j i) i := by
    unfold val_main_v38
    refine (padDown _ _ Ideal.ofBits_zero_f32 _ i j rfl).trans (Eq.trans ?_ (prev_mul _ _ i))
    exact congrArg (fun f => prev f i) (funext fun i => congrArg₂ (fun p q : EReal => p * q) (v32 x1 i j) (v30 x0 x2 i j))
  have b : (val_main_v47 (F := Ideal) x0 x1 x2 (ix2 (⟨1 + i.val, by omega⟩ : Fin 4098) j) : EReal)
      = x1 (ix2 1 j) * (outc x2 j i * part x0 0 j i) := by
    unfold val_main_v47
    refine (padSame _ _ Ideal.ofBits_zero_f32 _ i j rfl).trans ?_
    exact congrArg₂ (fun p q : EReal => p * q) (v41 x1 i j) (v30 x0 x2 i j)
  have d : (val_main_v58 (F := Ideal) x0 x1 x2 (ix2 (⟨1 + i.val, by omega⟩ : Fin 4098) j) : EReal)
      = x1 (ix2 0 j) * next (fun i => outc x2 j i * part x0 0 j i) i := by
    unfold val_main_v58
    refine (padUp _ _ Ideal.ofBits_zero_f32 _ i j rfl).trans (Eq.trans ?_ (next_mul _ _ i))
    exact congrArg (fun f => next f i) (funext fun i => congrArg₂ (fun p q : EReal => p * q) (v52 x1 i j) (v30 x0 x2 i j))
  refine (congrArg₂ (fun p q : EReal => p + q) (congrArg₂ (fun p q : EReal => p + q) a b) d).trans ?_
  unfold dIn
  exact (add_comm _ _).trans ((congrArg _ (add_comm _ _)).trans (add_assoc _ _ _).symm)

/-- The gradient of the second gate. -/
theorem v67 (i : Fin 4096) (j : Fin 512) : (val_main_v67 (F := Ideal) x0 x1 x2 (ix2 i j) : EReal) = dzAt x0 x1 x2 1 j i :=
  congrArg₂ (fun p q : EReal => p * q) (v64 x0 x1 x2 i j) (v2 x0 i j)
/-- The gradient of the value. -/
theorem v66 (i : Fin 4096) (j : Fin 512) : (val_main_v66 (F := Ideal) x0 x1 x2 (ix2 i j) : EReal) = dzAt x0 x1 x2 2 j i :=
  (congrArg₂ (fun p q : EReal => p * q) (v1 x0 i j) (v64 x0 x1 x2 i j)).trans (mul_comm _ _)

/-- Three arrays side by side: the first. -/
theorem cat0 (A B C : S4096x512.Idx → EReal) (i : Fin 4096) (q : Fin 1536) (j : Fin 512) (h : q.val = 0 + j.val) :
    concatenate S4096x1536 1 [⟨S4096x512, A⟩, ⟨S4096x512, B⟩, ⟨S4096x512, C⟩] concatenates_S4096x512_S4096x512_S4096x512_S4096x1536_d1 (ix2 i q) = A (ix2 i j) := by
  refine concatenate_apply_piece (t := S4096x1536) 1 _ _ _ 0 (by show 0 < 3; norm_num) S4096x512 A rfl rfl 0 rfl (ix2 i j : S4096x512.Idx) (fun b hb => ?_) ?_
  · match b with
    | ⟨0, _⟩ => rfl
    | ⟨1, _⟩ => exact absurd rfl hb
  · show 0 + j.val = q.val
    omega

/-- Three arrays side by side: the second. -/
theorem cat1 (A B C : S4096x512.Idx → EReal) (i : Fin 4096) (q : Fin 1536) (j : Fin 512) (h : q.val = 512 + j.val) :
    concatenate S4096x1536 1 [⟨S4096x512, A⟩, ⟨S4096x512, B⟩, ⟨S4096x512, C⟩] concatenates_S4096x512_S4096x512_S4096x512_S4096x1536_d1 (ix2 i q) = B (ix2 i j) := by
  refine concatenate_apply_piece (t := S4096x1536) 1 _ _ _ 1 (by show 1 < 3; norm_num) S4096x512 B rfl rfl 512 rfl (ix2 i j : S4096x512.Idx) (fun b hb => ?_) ?_
  · match b with
    | ⟨0, _⟩ => rfl
    | ⟨1, _⟩ => exact absurd rfl hb
  · show 512 + j.val = q.val
    omega

/-- Three arrays side by side: the third. -/
theorem cat2 (A B C : S4096x512.Idx → EReal) (i : Fin 4096) (q : Fin 1536) (j : Fin 512) (h : q.val = 1024 + j.val) :
    concatenate S4096x1536 1 [⟨S4096x512, A⟩, ⟨S4096x512, B⟩, ⟨S4096x512, C⟩] concatenates_S4096x512_S4096x512_S4096x512_S4096x1536_d1 (ix2 i q) = C (ix2 i j) := by
  refine concatenate_apply_piece (t := S4096x1536) 1 _ _ _ 2 (by show 2 < 3; norm_num) S4096x512 C rfl rfl 1024 rfl (ix2 i j : S4096x512.Idx) (fun b hb => ?_) ?_
  · match b with
    | ⟨0, _⟩ => rfl
    | ⟨1, _⟩ => exact absurd rfl hb
  · show 1024 + j.val = q.val
    omega

/-- The projection's gradient at a reordered column. -/
theorem v68_perm (i : Fin 4096) (q : ℕ) (h : q < 1536) :
    (val_main_v68 (F := Ideal) x0 x1 x2 (ix2 i (perm q h)) : EReal) = dzAt x0 x1 x2 (q / 128 % 3) (nat q h) i := by
  have hp : q / 128 % 3 = 0 ∨ q / 128 % 3 = 1 ∨ q / 128 % 3 = 2 := by omega
  have hq : (perm q h).val = q / 128 % 3 * 512 + (nat q h).val := Nat.add_assoc _ _ _
  unfold val_main_v68
  rcases hp with hp | hp | hp
  · rw [hp] at hq ⊢
    exact (cat0 _ _ _ i _ (nat q h) hq).trans (v31 x0 x1 x2 i _)
  · rw [hp] at hq ⊢
    exact (cat1 _ _ _ i _ (nat q h) hq).trans (v67 x0 x1 x2 i _)
  · rw [hp] at hq ⊢
    exact (cat2 _ _ _ i _ (nat q h) hq).trans (v66 x0 x1 x2 i _)

/-- The first result. -/
theorem ref4 : (val_main_v79 (F := Ideal) x0 x1 x2 : S4096x1536.Idx → EReal) = G4 x0 x1 x2 := by
  funext y
  have h0 : (y 0).val < 4096 := (y 0).isLt
  have h1 : (y 1).val < 1536 := (y 1).isLt
  have a0 : ((y 0).val * 1536 + (y 1).val) / 1536 = (y 0).val := by omega
  have a1 : ((y 0).val * 1536 + (y 1).val) / 384 % 4 = (y 1).val / 384 := by omega
  have a2 : ((y 0).val * 1536 + (y 1).val) / 128 % 3 = (y 1).val / 128 % 3 := by omega
  have a3 : ((y 0).val * 1536 + (y 1).val) % 128 = (y 1).val % 128 := by omega
  refine (val_main_v74_apply (F := Ideal) x0 x1 x2 y).trans ?_
  refine (val_main_v73_apply (F := Ideal) x0 x1 x2 _).trans ?_
  refine (val_main_v72_apply (F := Ideal) x0 x1 x2 _).trans ?_
  refine (congrArg (val_main_v68 (F := Ideal) x0 x1 x2) (ext2 _ (ix2 (y 0) (perm (y 1).val h1)) ?_ ?_)).trans ?_
  · show (((((y 0).val * 1536 + (y 1).val) / 1536 * 3 + ((y 0).val * 1536 + (y 1).val) / 128 % 3) * 4 + ((y 0).val * 1536 + (y 1).val) / 384 % 4) * 128
      + ((y 0).val * 1536 + (y 1).val) % 128) / 1536 = (y 0).val
    rw [a0, a1, a2, a3]
    omega
  · show (((((y 0).val * 1536 + (y 1).val) / 1536 * 3 + ((y 0).val * 1536 + (y 1).val) / 128 % 3) * 4 + ((y 0).val * 1536 + (y 1).val) / 384 % 4) * 128
      + ((y 0).val * 1536 + (y 1).val) % 128) % 1536 = (y 1).val / 128 % 3 * 512 + (y 1).val / 384 * 128 + (y 1).val % 128
    rw [a0, a1, a2, a3]
    omega
  exact v68_perm x0 x1 x2 (y 0) (y 1).val h1

/-- The third result. -/
theorem ref6 : (val_main_v78 (F := Ideal) x0 x1 x2 x3 : S1536x1024.Idx → EReal) = G6 x0 x1 x2 x3 := by
  funext y
  have h0 : (y 0).val < 1536 := (y 0).isLt
  have h1 : (y 1).val < 1024 := (y 1).isLt
  have b0 : ((y 0).val * 1024 + (y 1).val) / 393216 = (y 0).val / 384 := by omega
  have b1 : ((y 0).val * 1024 + (y 1).val) / 131072 % 3 = (y 0).val / 128 % 3 := by omega
  have b2 : ((y 0).val * 1024 + (y 1).val) / 1024 % 128 = (y 0).val % 128 := by omega
  have b3 : ((y 0).val * 1024 + (y 1).val) % 1024 = (y 1).val := by omega
  refine (val_main_v78_apply (F := Ideal) x0 x1 x2 x3 y).trans ?_
  refine (val_main_v77_apply (F := Ideal) x0 x1 x2 x3 _).trans ?_
  refine (val_main_v76_apply (F := Ideal) x0 x1 x2 x3 _).trans ?_
  refine (congrArg (val_main_v75 (F := Ideal) x0 x1 x2 x3) (ext2 _ (ix2 (perm (y 0).val h0) (y 1)) ?_ ?_)).trans ?_
  · show (((((y 0).val * 1024 + (y 1).val) / 131072 % 3 * 4 + ((y 0).val * 1024 + (y 1).val) / 393216) * 128 + ((y 0).val * 1024 + (y 1).val) / 1024 % 128) * 1024
      + ((y 0).val * 1024 + (y 1).val) % 1024) / 1024 = (y 0).val / 128 % 3 * 512 + (y 0).val / 384 * 128 + (y 0).val % 128
    rw [b0, b1, b2, b3]
    omega
  · show (((((y 0).val * 1024 + (y 1).val) / 131072 % 3 * 4 + ((y 0).val * 1024 + (y 1).val) / 393216) * 128 + ((y 0).val * 1024 + (y 1).val) / 1024 % 128) * 1024
      + ((y 0).val * 1024 + (y 1).val) % 1024) % 1024 = (y 1).val
    rw [b0, b1, b2, b3]
    omega
  refine (val_main_v75_apply (F := Ideal) x0 x1 x2 x3 _).trans ((val_main_v71_apply x0 x1 x2 x3 _).trans (Finset.sum_congr rfl fun k _ => ?_))
  refine Eq.trans (mul_comm _ _) (congrArg₂ (fun p q : EReal => p * q) ?_ ?_)
  · refine (congrArg (val_main_v68 (F := Ideal) x0 x1 x2) (ext2 (ridx_main_v71 (idx_main_v75 (ix2 (perm (y 0).val h0) (y 1))) k) (ix2 k (perm (y 0).val h0)) rfl rfl)).trans ?_
    exact v68_perm x0 x1 x2 k (y 0).val h0
  · refine (val_main_v70_apply (F := Ideal) x3 _).trans ((val_main_v69_apply (F := Ideal) x3 _).trans ?_)
    exact congrArg x3 (ext2 _ _ rfl rfl)

/-- The sum of tap 2, as one row. -/
theorem v39 (a : Fin 1) (j : Fin 512) : (val_main_v39 (F := Ideal) x0 x2 (ix2 a j) : EReal)
    = dTap 2 (outc x2 j) (part x0 0 j) (part x0 1 j) (part x0 2 j) := by
  unfold dTap
  rw [if_neg (by decide), if_neg (by decide)]
  refine (val_main_v39_apply (F := Ideal) x0 x2 _).trans ((val_main_v37_apply x0 x2 _).trans ?_)
  rw [Fin.sum_univ_one]
  refine (congrArg₂ (fun p q : EReal => p + q) Ideal.ofBits_zero_f32 ?_).trans (zero_add _)
  refine (val_main_v36_apply (F := Ideal) x0 x2 _).trans ((val_main_v35_apply x0 x2 _).trans ?_)
  refine (congrArg₂ (fun p q : EReal => p + q) Ideal.ofBits_zero_f32 (Finset.sum_congr rfl fun i _ => ?_)).trans (zero_add _)
  refine (congrArg (val_main_v34 (F := Ideal) x0 x2) (ext2 (idx_main_v35 (idx_main_v36 (idx_main_v37 (idx_main_v39 (ix2 a j)) 0)) i) (ix2 i j) rfl ?_)).trans ?_
  · show 0 * 512 + j.val = j.val
    omega
  · exact congrArg₂ (fun p q : EReal => p * q) (v30 x0 x2 i j) (v23 x0 i j)

/-- The sum of tap 1, as one row. -/
theorem v49 (a : Fin 1) (j : Fin 512) : (val_main_v49 (F := Ideal) x0 x2 (ix2 a j) : EReal)
    = dTap 1 (outc x2 j) (part x0 0 j) (part x0 1 j) (part x0 2 j) := by
  unfold dTap
  rw [if_neg (by decide), if_pos rfl]
  refine (val_main_v49_apply (F := Ideal) x0 x2 _).trans ((val_main_v46_apply x0 x2 _).trans ?_)
  rw [Fin.sum_univ_one]
  refine (congrArg₂ (fun p q : EReal => p + q) Ideal.ofBits_zero_f32 ?_).trans (zero_add _)
  refine (val_main_v45_apply (F := Ideal) x0 x2 _).trans ((val_main_v44_apply x0 x2 _).trans ?_)
  refine (congrArg₂ (fun p q : EReal => p + q) Ideal.ofBits_zero_f32 (Finset.sum_congr rfl fun i _ => ?_)).trans (zero_add _)
  refine (congrArg (val_main_v43 (F := Ideal) x0 x2) (ext2 (idx_main_v44 (idx_main_v45 (idx_main_v46 (idx_main_v49 (ix2 a j)) 0)) i) (ix2 i j) rfl ?_)).trans ?_
  · show 0 * 512 + j.val = j.val
    omega
  · exact congrArg₂ (fun p q : EReal => p * q) (v30 x0 x2 i j) (v16 x0 i j)

/-- The sum of tap 0, as one row. -/
theorem v60 (a : Fin 1) (j : Fin 512) : (val_main_v60 (F := Ideal) x0 x2 (ix2 a j) : EReal)
    = dTap 0 (outc x2 j) (part x0 0 j) (part x0 1 j) (part x0 2 j) := by
  unfold dTap
  rw [if_pos rfl]
  refine (val_main_v60_apply (F := Ideal) x0 x2 _).trans ((val_main_v57_apply x0 x2 _).trans ?_)
  rw [Fin.sum_univ_one]
  refine (congrArg₂ (fun p q : EReal => p + q) Ideal.ofBits_zero_f32 ?_).trans (zero_add _)
  refine (val_main_v56_apply (F := Ideal) x0 x2 _).trans ((val_main_v55_apply x0 x2 _).trans ?_)
  refine (congrArg₂ (fun p q : EReal => p + q) Ideal.ofBits_zero_f32 (Finset.sum_congr rfl fun i _ => ?_)).trans (zero_add _)
  refine (congrArg (val_main_v54 (F := Ideal) x0 x2) (ext2 (idx_main_v55 (idx_main_v56 (idx_main_v57 (idx_main_v60 (ix2 a j)) 0)) i) (ix2 i j) rfl ?_)).trans ?_
  · show 0 * 512 + j.val = j.val
    omega
  · exact congrArg₂ (fun p q : EReal => p * q) (v30 x0 x2 i j) (v10 x0 i j)

/-- Tap 2's sum in its row of three. -/
theorem v40 (k : Fin 3) (j : Fin 512) : (val_main_v40 (F := Ideal) x0 x2 (ix2 k j) : EReal)
    = if k.val = 2 then dTap 2 (outc x2 j) (part x0 0 j) (part x0 1 j) (part x0 2 j) else 0 := by
  have hk := k.isLt
  unfold val_main_v40
  by_cases h : k.val = 2
  · rw [if_pos h]
    refine (pad_apply_of_inside (s := S1x512) (k := (ix2 0 j : S1x512.Idx)) (hk := fun b => ?_) ..).trans (v39 x0 x2 0 j)
    match b with
    | ⟨0, _⟩ => show k.val = 2 + 0 * (0 + 1); omega
    | ⟨1, _⟩ => show j.val = 0 + j.val * (0 + 1); omega
  · rw [if_neg h]
    refine (pad_apply_of_not_inside (a := 0) (ha := fun hh => ?_) ..).trans Ideal.ofBits_zero_f32
    have e1 := hh.1
    have e2 := hh.2.2
    change 2 ≤ k.val at e1
    change (k.val - 2) / (0 + 1) < 1 at e2
    omega

/-- Tap 1's sum in its row of three. -/
theorem v50 (k : Fin 3) (j : Fin 512) : (val_main_v50 (F := Ideal) x0 x2 (ix2 k j) : EReal)
    = if k.val = 1 then dTap 1 (outc x2 j) (part x0 0 j) (part x0 1 j) (part x0 2 j) else 0 := by
  have hk := k.isLt
  unfold val_main_v50
  by_cases h : k.val = 1
  · rw [if_pos h]
    refine (pad_apply_of_inside (s := S1x512) (k := (ix2 0 j : S1x512.Idx)) (hk := fun b => ?_) ..).trans (v49 x0 x2 0 j)
    match b with
    | ⟨0, _⟩ => show k.val = 1 + 0 * (0 + 1); omega
    | ⟨1, _⟩ => show j.val = 0 + j.val * (0 + 1); omega
  · rw [if_neg h]
    refine (pad_apply_of_not_inside (a := 0) (ha := fun hh => ?_) ..).trans Ideal.ofBits_zero_f32
    have e1 := hh.1
    have e2 := hh.2.2
    change 1 ≤ k.val at e1
    change (k.val - 1) / (0 + 1) < 1 at e2
    omega

/-- Tap 0's sum in its row of three. -/
theorem v61 (k : Fin 3) (j : Fin 512) : (val_main_v61 (F := Ideal) x0 x2 (ix2 k j) : EReal)
    = if k.val = 0 then dTap 0 (outc x2 j) (part x0 0 j) (part x0 1 j) (part x0 2 j) else 0 := by
  have hk := k.isLt
  unfold val_main_v61
  by_cases h : k.val = 0
  · rw [if_pos h]
    refine (pad_apply_of_inside (s := S1x512) (k := (ix2 0 j : S1x512.Idx)) (hk := fun b => ?_) ..).trans (v60 x0 x2 0 j)
    match b with
    | ⟨0, _⟩ => show k.val = 0 + 0 * (0 + 1); omega
    | ⟨1, _⟩ => show j.val = 0 + j.val * (0 + 1); omega
  · rw [if_neg h]
    refine (pad_apply_of_not_inside (a := 0) (ha := fun hh => ?_) ..).trans Ideal.ofBits_zero_f32
    have e1 := hh.1
    have e2 := hh.2.2
    change 0 ≤ k.val at e1
    change (k.val - 0) / (0 + 1) < 1 at e2
    omega

/-- The second result. -/
theorem ref5 : (val_main_v62 (F := Ideal) x0 x2 : S3x512.Idx → EReal) = G5 x0 x2 := by
  funext y
  obtain ⟨k, j, rfl⟩ : ∃ (k : Fin 3) (j : Fin 512), y = ix2 k j := ⟨y 0, y 1, ext2 _ _ rfl rfl⟩
  refine (congrArg₂ (fun p q : EReal => p + q) (congrArg₂ (fun p q : EReal => p + q) (v40 x0 x2 k j) (v50 x0 x2 k j)) (v61 x0 x2 k j)).trans ?_
  show _ = dTap k.val (outc x2 j) (part x0 0 j) (part x0 1 j) (part x0 2 j)
  have hk := k.isLt
  have hc : k.val = 0 ∨ k.val = 1 ∨ k.val = 2 := by omega
  beta_reduce
  rcases hc with h | h | h
  · rw [if_neg (by omega), if_neg (by omega), if_pos h, zero_add, zero_add, h]
  · rw [if_neg (by omega), if_pos h, if_neg (by omega), zero_add, add_zero, h]
  · rw [if_pos h, if_neg (by omega), if_neg (by omega), add_zero, add_zero, h]

end Reference

end Cert.Conv8
end
-- ==== Proof.Conv8.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.ConvRef8
public import Idealize.ShloMosaic.Lib.StableHlo.RunRead
public import Idealize.ShloMosaic.Lib.Tactic
public import Idealize.ShloMosaic.Lib.WritesUnit
public import Idealize.ShloMosaic.Lib.Pipeline.ReadBack
public import Idealize.ShloMosaic.Lib.KernelVsHost
import Idealize.ShloMosaic.Lib.Pipeline.ValueKit

@[expose] public section

set_option maxRecDepth 16384

noncomputable section

namespace Cert.Conv8

open Idealize.ShloMosaic hiding ix2 ix3 ix4
open Idealize.ShloMosaic.TcCoe Idealize.SL.Sem Idealize.ShloMosaic.ValueIdx
open Cert.Kernel8Ideal Cert.Kernel8Ideal.Gen
open Cert.Attn (ext2)

/-! ## One step: 128 columns -/

/-- A column of a block of 128 lanes. -/
abbrev cl (v : Vec Ideal S4096x128 .f32) (l : Fin 128) : Fin 4096 → EReal := fun i => v (ix2 i l)

/-- The printed shift by one row down. -/
theorem prev_apply (v : FVec Ideal S4096x128 .f32) (y : S4096x128.Idx) :
    select (cmpi .eq (iota .tc S4096x128 32 [0] iota_S4096x128_d0_w32) (broadcast S4096x128 0#32))
      (broadcast S4096x128 (Scalar.ofBits (F := Ideal) .f32 0x00000000#32)) (dynamicRotate 0 1#32 none v rotates_S4096x128_d0) y
      = prev (cl v (y 1)) (y 0) := by
  have hm : ∀ d : Fin 4096, IntOp.cmpi .eq (BitVec.ofNat 32 (0 * 4096 + d.val)) 0#32 = if d.val = 0 then 1#1 else 0#1 := by decide +kernel
  unfold prev
  rw [select_apply]
  refine (congrArg (fun b => Scalar.select b _ _) (hm (y 0))).trans ?_
  by_cases hd : (y 0).val = 0
  · rw [if_pos hd, if_pos hd]
    exact Ideal.ofBits_zero_f32
  · rw [if_neg hd, if_neg hd]
    exact dynamicRotate_apply _ _ _ rotates_S4096x128_d0 y (ix2 ⟨((y 0).val + 4095) % 4096, Nat.mod_lt _ (by decide)⟩ (y 1)) (fun b => match b with
      | ⟨0, _⟩ => rfl
      | ⟨1, _⟩ => rfl)

/-- The printed shift by one row up. -/
theorem next_apply (v : FVec Ideal S4096x128 .f32) (y : S4096x128.Idx) :
    select (cmpi .eq (iota .tc S4096x128 32 [0] iota_S4096x128_d0_w32) (broadcast S4096x128 4095#32))
      (broadcast S4096x128 (Scalar.ofBits (F := Ideal) .f32 0x00000000#32)) (dynamicRotate 0 4095#32 none v rotates_S4096x128_d0) y
      = next (cl v (y 1)) (y 0) := by
  have hm : ∀ d : Fin 4096, IntOp.cmpi .eq (BitVec.ofNat 32 (0 * 4096 + d.val)) 4095#32 = if d.val = 4095 then 1#1 else 0#1 := by decide +kernel
  unfold next
  rw [select_apply]
  refine (congrArg (fun b => Scalar.select b _ _) (hm (y 0))).trans ?_
  by_cases hd : (y 0).val = 4095
  · rw [if_pos hd, if_pos hd]
    exact Ideal.ofBits_zero_f32
  · rw [if_neg hd, if_neg hd]
    exact dynamicRotate_apply _ _ _ rotates_S4096x128_d0 y (ix2 ⟨((y 0).val + 1) % 4096, Nat.mod_lt _ (by decide)⟩ (y 1)) (fun b => match b with
      | ⟨0, _⟩ => by
        refine (?_ : ((y 0).val + 1) % 4096 = ((y 0).val + 4096 - 4095) % 4096)
        omega
      | ⟨1, _⟩ => rfl)

section Pays

variable (g c x e : Vec Ideal S4096x128 .f32) (w0 w1 w2 : Vec Ideal S1x128 .f32)

/-- The stored gradient of the first gate. -/
theorem pay8 (y : S4096x128.Idx) :
    k0_pay8 (F := Ideal) c x e w0 w1 w2 y
      = dGate (w0 (ix2 0 (y 1))) (w1 (ix2 0 (y 1))) (w2 (ix2 0 (y 1))) (cl e (y 1)) (cl c (y 1)) (cl x (y 1)) (y 0) := by
  have hy : ix2 (y 0) (y 1) = y := ext2 _ _ rfl rfl
  unfold k0_pay8 k0_pay7 k0_pay6 k0_pay5 k0_pay4 k0_pay3
  simp only [shapeCast_self]
  unfold dGate
  rw [show cl e (y 1) (y 0) = e y from congrArg e hy]
  refine congrArg (e y * ·) (congrArg₂ (· + ·) (congrArg₂ (· + ·) (congrArg₂ (· * ·) ?_ (prev_apply _ y)) (congrArg₂ (· * ·) ?_ ?_)) (congrArg₂ (· * ·) ?_ (next_apply _ y)))
  · exact congrArg w0 (ext2 _ _ rfl rfl)
  · exact congrArg w1 (ext2 _ _ rfl rfl)
  · exact congrArg (fun z => c z * x z) hy.symm
  · exact congrArg w2 (ext2 _ _ rfl rfl)

/-- The gradient of the convolution's input. -/
theorem pay14 (y : S4096x128.Idx) :
    k0_pay14 (F := Ideal) (k0_pay9 g e) w0 w1 w2 y
      = dIn (w0 (ix2 0 (y 1))) (w1 (ix2 0 (y 1))) (w2 (ix2 0 (y 1))) (cl e (y 1)) (cl g (y 1)) (y 0) := by
  have hy : ix2 (y 0) (y 1) = y := ext2 _ _ rfl rfl
  unfold k0_pay14 k0_pay9
  simp only [shapeCast_self]
  unfold dIn
  refine congrArg₂ (· + ·) (congrArg₂ (· + ·) (congrArg₂ (· * ·) ?_ (next_apply _ y)) (congrArg₂ (· * ·) ?_ ?_)) (congrArg₂ (· * ·) ?_ (prev_apply _ y))
  · exact congrArg w0 (ext2 _ _ rfl rfl)
  · exact congrArg w1 (ext2 _ _ rfl rfl)
  · exact congrArg (fun z => e z * g z) hy.symm
  · exact congrArg w2 (ext2 _ _ rfl rfl)

/-- The index of a row without its leading axis. -/
def at1 (y : S1x128.Idx) : S128.Idx := fun a => match a with | ⟨0, _⟩ => ⟨(y 1).val, (y 1).isLt⟩

/-- A column summed, as it is stored in one row. -/
theorem colsum (v : FVec Ideal S4096x128 .f32) (y : S1x128.Idx) : k0_pay11 (F := Ideal) v y = ∑ i : Fin 4096, v (ix2 i (y 1)) := by
  unfold k0_pay11
  refine (shapeCast_apply _ shapeCasts_S128_S1x128 y (at1 y) ?_).trans ?_
  · have h0 : (y 0).val < 1 := (y 0).isLt
    rewrite [Shape.rowMajor_val_two, Shape.rowMajor_val_one]
    show (y 1).val = (y 0).val * 128 + (y 1).val
    omega
  refine (Ideal.multiReduction_add_single v 0x00000000#32 reduces_S4096x128_S128 (.inl rfl) rfl (at1 y)).trans ?_
  exact Finset.sum_congr rfl fun i _ => congrArg v (ext2 _ _ rfl rfl)

end Pays

section Reads

variable (x0 : Vec Ideal S4096x384 .f32) (x1 : Vec Ideal S3x128 .f32)

/-- A column of a step's block: its part and its lane. -/
def col (p : Fin 3) (l : Fin 128) : Fin 4096 → EReal :=
  fun i => x0 (ix2 i ⟨p.val * 128 + l.val, by have := p.isLt; have := l.isLt; omega⟩)

/-- A part of a step's block as it is loaded. -/
theorem cl_ld (p : Fin 3) (o : ℕ) (ho : o = p.val * 128) (inb : ∀ a, (![0, o] : Fin 2 → Nat) a + S4096x128.size a ≤ S4096x384.size a) (l : Fin 128) :
    cl (View.ld x0 (Rect.unit (s := S4096x384) ![0, o] S4096x128.size inb)) l = col x0 p l := by
  funext i
  refine congrArg x0 (ext2 _ _ ?_ ?_)
  · show 0 + 1 * i.val = i.val
    omega
  · show o + 1 * l.val = p.val * 128 + l.val
    omega

/-- A tap's row as it is loaded. -/
theorem tap_ld (k : Fin 3) (o : ℕ) (ho : o = k.val) (inb : ∀ a, (![o, 0] : Fin 2 → Nat) a + S1x128.size a ≤ S3x128.size a) (l : Fin 128) :
    View.ld x1 (Rect.unit (s := S3x128) ![o, 0] S1x128.size inb) (ix2 0 l) = x1 (ix2 k l) := by
  refine congrArg x1 (ext2 _ _ ?_ ?_)
  · show o + 1 * 0 = k.val
    omega
  · show 0 + 1 * l.val = l.val
    omega

end Reads

/-- Output gradient times gated column, at one entry. -/
theorem pay9 (g e : Vec Ideal S4096x128 .f32) (i : Fin 4096) (l : Fin 128) : k0_pay9 (F := Ideal) g e (ix2 i l) = cl e l i * cl g l i := by
  unfold k0_pay9
  simp only [shapeCast_self]
  rfl

/-- The middle tap's column. -/
theorem pay5 (c x : Vec Ideal S4096x128 .f32) (i : Fin 4096) (l : Fin 128) : k0_pay5 (F := Ideal) c x (ix2 i l) = cl c l i * cl x l i := by
  unfold k0_pay5 k0_pay4 k0_pay3
  simp only [shapeCast_self]
  rfl

/-- The first tap's column. -/
theorem pay6 (c x : Vec Ideal S4096x128 .f32) (i : Fin 4096) (l : Fin 128) :
    k0_pay6 (F := Ideal) c x (ix2 i l) = prev (fun i => cl c l i * cl x l i) i := by
  unfold k0_pay6
  refine (prev_apply _ (ix2 i l)).trans ?_
  exact congrArg (fun f => prev f i) (funext fun i => pay5 c x i l)

/-- The last tap's column. -/
theorem pay7 (c x : Vec Ideal S4096x128 .f32) (i : Fin 4096) (l : Fin 128) :
    k0_pay7 (F := Ideal) c x (ix2 i l) = next (fun i => cl c l i * cl x l i) i := by
  unfold k0_pay7
  refine (next_apply _ (ix2 i l)).trans ?_
  exact congrArg (fun f => next f i) (funext fun i => pay5 c x i l)

/-- The lane of a column. -/
def lane (q : ℕ) : Fin 128 := ⟨q % 128, Nat.mod_lt _ (by decide)⟩

section Step

variable (c : Dev nD) (i : grid0.Coords) (arg1 : Memref sig .tc .vmem S4096x384 .f32) (harg1 : arg1.IsWhole) (arg2 : Memref sig .tc .vmem S3x128 .f32) (harg2 : arg2.IsWhole) (arg3 : Memref sig .tc .vmem S4096x128 .f32) (harg3 : arg3.IsWhole) (arg4 : Memref sig .tc .vmem S4096x1024 .bf16) (harg4 : arg4.IsWhole) (arg5 : Memref sig .tc .vmem S4096x384 .bf16) (harg5 : arg5.IsWhole) (arg6 : Memref sig .tc .vmem S3x128 .f32) (harg6 : arg6.IsWhole) (arg7 : Memref sig .tc .vmem S384x1024 .f32) (harg7 : arg7.IsWhole)
    (x0 : Vec Ideal S4096x384 .f32) (x1 : Vec Ideal S3x128 .f32) (x2 : Vec Ideal S4096x128 .f32) (x3 : Vec Ideal S4096x1024 .bf16)

/-- What one step leaves of the projection's gradient. -/
theorem out4 (y : S4096x384.Idx) : out0_A_4 (F := Ideal) c i arg1 harg1 arg2 harg2 arg3 harg3 arg4 harg4 arg5 harg5 arg6 harg6 arg7 harg7 x0 x1 x2 x3 y
    = dz ((y 1).val / 128) (x1 (ix2 0 (lane (y 1).val))) (x1 (ix2 1 (lane (y 1).val))) (x1 (ix2 2 (lane (y 1).val))) (cl x2 (lane (y 1).val))
        (col x0 0 (lane (y 1).val)) (col x0 1 (lane (y 1).val)) (col x0 2 (lane (y 1).val)) (y 0) := by
  obtain ⟨a, b, rfl⟩ : ∃ (a : Fin 4096) (b : Fin 384), y = ix2 a b := ⟨y 0, y 1, ext2 _ _ rfl rfl⟩
  have cov := cover0_A_4 (F := Ideal) c i arg1 harg1 arg2 harg2 arg3 harg3 arg4 harg4 arg5 harg5 arg6 harg6 arg7 harg7 x0 x1 x2 x3 (ix2 a b)
  unfold out0_A_4
  rw [View.read_writes_junk_eq_canon]
  revert cov
  unfold kernelRun0_A
  dsimp only
  sl_unfold_words
  simp (disch := decide) only [View.readAt_eq_ld, harg1.read_unread, harg2.read_unread, harg3.read_unread, harg4.read_unread]
  intro cov
  refine View.canon_eq_of_allAt _ _ _ cov ?_
  refine View.allAt_cons_unit _ _ _ _ _ (fun x hx => ?_) (View.allAt_cons_unit _ _ _ _ _ (fun x hx => ?_)
    (View.allAt_cons_unit _ _ _ _ _ (fun x hx => ?_) (View.allAt_nil _ _)))
  all_goals
    obtain ⟨r, l, rfl⟩ : ∃ (r : Fin 4096) (l : Fin 128), x = ix2 r l := ⟨x 0, x 1, ext2 (n0 := 4096) (n1 := 128) _ _ rfl rfl⟩
    have h0 := hx 0
    have h1 := hx 1
    simp [Cert.Attn.ix2_0, Cert.Attn.ix2_1] at h0 h1
    simp only [Cert.Attn.ix2_0, Cert.Attn.ix2_1]
    have hb : l.val < 128 := l.isLt
    have hl : lane b.val = l := Fin.ext (by show b.val % 128 = l.val; omega)
    have hr : a = r := Fin.ext (by omega)
    rw [hl, hr]
  · rw [show b.val / 128 = 2 by omega]
    unfold k0_pay1 k0_pay3
    simp (disch := decide) only [View.ld_unit_lit, shapeCast_self]
    refine congrArg₂ (fun p q : EReal => p * q) ((pay14 _ _ _ _ _ (ix2 r l)).trans ?_) ?_
    · simp only [Cert.Attn.ix2_0, Cert.Attn.ix2_1]
      rw [tap_ld x1 0 0 rfl, tap_ld x1 1 1 rfl, tap_ld x1 2 2 rfl, cl_ld x0 0 0 rfl]
    · exact congrFun (cl_ld x0 1 128 rfl _ l) r
  · rw [show b.val / 128 = 1 by omega]
    unfold k0_pay15 k0_pay4
    simp (disch := decide) only [View.ld_unit_lit, shapeCast_self]
    refine congrArg₂ (fun p q : EReal => p * q) ((pay14 _ _ _ _ _ (ix2 r l)).trans ?_) ?_
    · simp only [Cert.Attn.ix2_0, Cert.Attn.ix2_1]
      rw [tap_ld x1 0 0 rfl, tap_ld x1 1 1 rfl, tap_ld x1 2 2 rfl, cl_ld x0 0 0 rfl]
    · exact congrFun (cl_ld x0 2 256 rfl _ l) r
  · rw [show b.val / 128 = 0 by omega]
    simp (disch := decide) only [View.ld_unit_lit]
    refine (pay8 _ _ _ _ _ _ (ix2 r l)).trans ?_
    simp only [Cert.Attn.ix2_0, Cert.Attn.ix2_1]
    rw [tap_ld x1 0 0 rfl, tap_ld x1 1 1 rfl, tap_ld x1 2 2 rfl, cl_ld x0 1 128 rfl, cl_ld x0 2 256 rfl]
    rfl

/-- What one step leaves of the taps' gradient. -/
theorem out5 (y : S3x128.Idx) : out0_A_5 (F := Ideal) c i arg1 harg1 arg2 harg2 arg3 harg3 arg4 harg4 arg5 harg5 arg6 harg6 arg7 harg7 x0 x1 x2 x3 y
    = dTap (y 0).val (cl x2 (y 1)) (col x0 0 (y 1)) (col x0 1 (y 1)) (col x0 2 (y 1)) := by
  obtain ⟨a, b, rfl⟩ : ∃ (a : Fin 3) (b : Fin 128), y = ix2 a b := ⟨y 0, y 1, ext2 _ _ rfl rfl⟩
  have cov := cover0_A_5 (F := Ideal) c i arg1 harg1 arg2 harg2 arg3 harg3 arg4 harg4 arg5 harg5 arg6 harg6 arg7 harg7 x0 x1 x2 x3 (ix2 a b)
  unfold out0_A_5
  rw [View.read_writes_junk_eq_canon]
  revert cov
  unfold kernelRun0_A
  dsimp only
  sl_unfold_words
  simp (disch := decide) only [View.readAt_eq_ld, harg1.read_unread, harg2.read_unread, harg3.read_unread, harg4.read_unread]
  intro cov
  refine View.canon_eq_of_allAt _ _ _ cov ?_
  refine View.allAt_cons_unit _ _ _ _ _ (fun x hx => ?_) (View.allAt_cons_unit _ _ _ _ _ (fun x hx => ?_)
    (View.allAt_cons_unit _ _ _ _ _ (fun x hx => ?_) (View.allAt_nil _ _)))
  all_goals
    obtain ⟨r, l, rfl⟩ : ∃ (r : Fin 1) (l : Fin 128), x = ix2 r l := ⟨x 0, x 1, ext2 (n0 := 1) (n1 := 128) _ _ rfl rfl⟩
    have h0 := hx 0
    have h1 := hx 1
    simp [Cert.Attn.ix2_0, Cert.Attn.ix2_1] at h0 h1
    simp only [Cert.Attn.ix2_0, Cert.Attn.ix2_1]
    have hb : r.val < 1 := r.isLt
    have hl : b = l := Fin.ext (by omega)
    rw [hl]
    simp (disch := decide) only [View.ld_unit_lit]
  · rw [show a.val = 2 by omega]
    unfold dTap
    rw [if_neg (by decide), if_neg (by decide)]
    refine (colsum _ (ix2 r l)).trans (Finset.sum_congr rfl fun i _ => ?_)
    refine congrArg₂ (fun p q : EReal => p * q) ((pay9 _ _ i l).trans ?_) ((pay7 _ _ i l).trans ?_)
    · rw [cl_ld x0 0 0 rfl]
    · rw [cl_ld x0 1 128 rfl, cl_ld x0 2 256 rfl]
  · rw [show a.val = 1 by omega]
    unfold dTap
    rw [if_neg (by decide), if_pos rfl]
    refine (colsum _ (ix2 r l)).trans (Finset.sum_congr rfl fun i _ => ?_)
    refine congrArg₂ (fun p q : EReal => p * q) ((pay9 _ _ i l).trans ?_) ((pay5 _ _ i l).trans ?_)
    · rw [cl_ld x0 0 0 rfl]
    · rw [cl_ld x0 1 128 rfl, cl_ld x0 2 256 rfl]
  · rw [show a.val = 0 by omega]
    unfold dTap
    rw [if_pos rfl]
    refine (colsum _ (ix2 r l)).trans (Finset.sum_congr rfl fun i _ => ?_)
    refine congrArg₂ (fun p q : EReal => p * q) ((pay9 _ _ i l).trans ?_) ((pay6 _ _ i l).trans ?_)
    · rw [cl_ld x0 0 0 rfl]
    · rw [cl_ld x0 1 128 rfl, cl_ld x0 2 256 rfl]

/-- The product with the normed input: both operands contracted over their rows. -/
theorem mm (A : FVec Ideal S4096x384 .bf16) (B : FVec Ideal S4096x1024 .bf16) (y : S384x1024.Idx) :
    k0_pay2 (F := Ideal) A B y = ∑ i : Fin 4096, A (ix2 i (y 0)) * B (ix2 i (y 1)) := by
  unfold k0_pay2
  simp only [shapeCast_self]
  refine (Ideal.matmul_constant_zero_apply dot_S4096x384_S4096x1024_S384x1024_0_0_1_1_n_n none A B y).trans ?_
  rw [← Equiv.sum_comp (contrEquiv1 dot_S4096x384_S4096x1024_S384x1024_0_0_1_1_n_n 4096 rfl rfl).symm]
  refine Finset.sum_congr rfl fun k _ => ?_
  have hc := contrEquiv1_symm_val dot_S4096x384_S4096x1024_S384x1024_0_0_1_1_n_n 4096 rfl rfl k
  exact congrArg₂ (fun p q : EReal => p * q) (congrArg A (ext2 _ _ ((DotDims.lhsIdx_val_of_single _ rfl _ _).trans hc) rfl))
    (congrArg B (ext2 _ _ ((DotDims.rhsIdx_val_of_single _ rfl _ _).trans hc) rfl))

/-- The product of a step reads what the step has stored. -/
theorem out6_eq : out0_A_6 (F := Ideal) c i arg1 harg1 arg2 harg2 arg3 harg3 arg4 harg4 arg5 harg5 arg6 harg6 arg7 harg7 x0 x1 x2 x3
    = k0_pay2 (out0_A_4 (F := Ideal) c i arg1 harg1 arg2 harg2 arg3 harg3 arg4 harg4 arg5 harg5 arg6 harg6 arg7 harg7 x0 x1 x2 x3) x3 := by
  unfold out0_A_6 out0_A_4 kernelRun0_A
  dsimp only
  sl_unfold_words
  rw [View.read_writes_junk_eq_canon, View.read_writes_junk_eq_canon]
  simp (disch := decide) only [View.canon_cons_unit_lit, View.readAt_eq_ld, harg1.read_unread, harg2.read_unread, harg3.read_unread, harg4.read_unread, View.ld_unit_lit]
  refine congrArg (fun A => k0_pay2 (F := Ideal) A x3) ?_
  rw [View.readCov_eq_canon']
  funext j
  refine congrArg _ (ext2 _ _ ?_ ?_)
  · show 0 + 1 * (j 0).val = (j 0).val
    omega
  · show 0 + 1 * (j 1).val = (j 1).val
    omega

/-- What one step leaves of the weight's gradient. -/
theorem out6 (y : S384x1024.Idx) : out0_A_6 (F := Ideal) c i arg1 harg1 arg2 harg2 arg3 harg3 arg4 harg4 arg5 harg5 arg6 harg6 arg7 harg7 x0 x1 x2 x3 y
    = ∑ k : Fin 4096, out0_A_4 (F := Ideal) c i arg1 harg1 arg2 harg2 arg3 harg3 arg4 harg4 arg5 harg5 arg6 harg6 arg7 harg7 x0 x1 x2 x3 (ix2 k (y 0)) * x3 (ix2 k (y 1)) := by
  rw [out6_eq]
  exact mm _ _ y

end Step

/-! ## The whole arrays -/

/-- Block index: the projection. -/
theorem idx0 : ∀ t : Fin cfg0.N, win0_0.index t = ![0, t.val] := by decide +kernel
/-- Block index: the taps. -/
theorem idx1 : ∀ t : Fin cfg0.N, win0_1.index t = ![0, t.val] := by decide +kernel
/-- Block index: the output gradient. -/
theorem idx2 : ∀ t : Fin cfg0.N, win0_2.index t = ![0, 4 + t.val] := by decide +kernel
/-- Block index: the normed input. -/
theorem idx3 : ∀ t : Fin cfg0.N, win0_3.index t = ![0, 0] := by decide +kernel
/-- Block index: the projection's gradient. -/
theorem idx4 : ∀ t : Fin cfg0.N, win0_4.index t = ![0, t.val] := by decide +kernel
/-- Block index: the taps' gradient. -/
theorem idx5 : ∀ t : Fin cfg0.N, win0_5.index t = ![0, t.val] := by decide +kernel
/-- Block index: the weight's gradient. -/
theorem idx6 : ∀ t : Fin cfg0.N, win0_6.index t = ![t.val, 0] := by decide +kernel

variable (m : (ℓ : Loc nD τ sig) → Buf (Elt Ideal) ℓ) (c : Dev nD)

/-- The projection. -/
abbrev X0 : (⟨S4096x1536, .f32⟩ : BufTy).Contents (Elt Ideal) := m (c.tc.loc main_arg0)
/-- The taps. -/
abbrev X1 : (⟨S3x512, .f32⟩ : BufTy).Contents (Elt Ideal) := m (c.tc.loc main_arg1)
/-- The output gradient. -/
abbrev X2 : (⟨S4096x1024, .f32⟩ : BufTy).Contents (Elt Ideal) := m (c.tc.loc main_arg2)
/-- The normed input. -/
abbrev X3 : (⟨S4352x1024, .f32⟩ : BufTy).Contents (Elt Ideal) := m (c.tc.loc main_arg3)

/-- The projection's columns, those of the same lanes side by side. -/
def ordered (z : S4096x1536.Idx → EReal) : S4096x1536.Idx → EReal :=
  shapeCast S4096x1536 (transpose S4096x4x3x128 [0, 2, 1, 3] (shapeCast S4096x3x4x128 z shapeCasts_S4096x1536_S4096x3x4x128)
    transposes_S4096x3x4x128_S4096x4x3x128_0_2_1_3) shapeCasts_S4096x4x3x128_S4096x1536

/-- The kernel's projection is the argument, in that order. -/
theorem VZ : (V m c main_v2 : S4096x1536.Idx → EReal) = ordered (X0 m c) := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The kernel's normed input is the argument. -/
theorem VH : (V m c main_v3 : S4352x1024.Idx → EReal) = X3 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

/-- The reordered projection, entry by entry. -/
theorem ordered_apply (z : S4096x1536.Idx → EReal) (k : Fin 4096) (q : Fin 1536) : ordered z (ix2 k q) = z (ix2 k (perm q.val q.isLt)) := by
  have hk := k.isLt
  have hj := q.isLt
  unfold ordered
  refine (shapeCast_apply _ shapeCasts_S4096x4x3x128_S4096x1536 (ix2 k q)
    (ix4 k (⟨q.val / 384, by omega⟩ : Fin 4) (⟨q.val / 128 % 3, by omega⟩ : Fin 3) (⟨q.val % 128, by omega⟩ : Fin 128)) ?_).trans ?_
  · rewrite [Shape.rowMajor_val_two, Shape.rowMajor_val_four]
    show ((k.val * 4 + q.val / 384) * 3 + q.val / 128 % 3) * 128 + q.val % 128 = k.val * 1536 + q.val
    omega
  refine (transpose_apply [0, 2, 1, 3] _ transposes_S4096x3x4x128_S4096x4x3x128_0_2_1_3 _
    (ix4 k (⟨q.val / 128 % 3, by omega⟩ : Fin 3) (⟨q.val / 384, by omega⟩ : Fin 4) (⟨q.val % 128, by omega⟩ : Fin 128)) (fun b => match b with
    | ⟨0, _⟩ => rfl
    | ⟨1, _⟩ => rfl
    | ⟨2, _⟩ => rfl
    | ⟨3, _⟩ => rfl)).trans ?_
  refine shapeCast_apply _ shapeCasts_S4096x1536_S4096x3x4x128 _ (ix2 k (perm q.val hj)) ?_
  rewrite [Shape.rowMajor_val_two, Shape.rowMajor_val_four]
  show k.val * 1536 + (q.val / 128 % 3 * 512 + q.val / 384 * 128 + q.val % 128) = ((k.val * 3 + q.val / 128 % 3) * 4 + q.val / 384) * 128 + q.val % 128
  omega

/-- A lane's column among the 512. -/
def natt (t : Fin cfg0.N) (l : Fin 128) : Fin 512 := ⟨t.val * 128 + l.val, by have h1 := l.isLt; have h2 : t.val < 4 := t.isLt; omega⟩

/-- A column of a step's block is a column of the projection. -/
theorem at0 (t : Fin cfg0.N) (p : Fin 3) (l : Fin 128) : col (iblk m c 0 t) p l = part (X0 m c) p (natt t l) := by
  funext k
  have hp := p.isLt
  have hl := l.isLt
  have ht : t.val < 4 := t.isLt
  show V m c main_v2 (((cfg0.win 0).blk t).view.emb (ix2 k ⟨p.val * 128 + l.val, _⟩)) = _
  refine (congrFun (VZ m c) _).trans ?_
  refine (congrArg (ordered (X0 m c)) (ext2 (((cfg0.win 0).blk t).view.emb (ix2 k ⟨p.val * 128 + l.val, _⟩))
    (ix2 k (⟨t.val * 384 + (p.val * 128 + l.val), by omega⟩ : Fin 1536)) ?_ ?_)).trans ?_
  · blk_simp [idx0]
  · blk_simp [idx0]
  · refine (ordered_apply _ _ _).trans (congrArg (X0 m c) (ext2 _ _ rfl ?_))
    show (t.val * 384 + (p.val * 128 + l.val)) / 128 % 3 * 512 + (t.val * 384 + (p.val * 128 + l.val)) / 384 * 128
      + (t.val * 384 + (p.val * 128 + l.val)) % 128 = p.val * 512 + (t.val * 128 + l.val)
    omega

/-- The taps of a step. -/
theorem at1' (t : Fin cfg0.N) (k : Fin 3) (l : Fin 128) : (iblk m c 1 t : S3x128.Idx → EReal) (ix2 k l) = X1 m c (ix2 k (natt t l)) := by
  show V m c main_arg1 (((cfg0.win 1).blk t).view.emb (ix2 k l)) = _
  refine (congrFun (V_main_arg1 m c) _).trans (congrArg (X1 m c) (ext2 _ _ ?_ ?_))
  · blk_simp [idx1]
  · blk_simp [idx1]
    rfl

/-- A column of a step's output gradient. -/
theorem at2 (t : Fin cfg0.N) (l : Fin 128) : cl (iblk m c 2 t) l = outc (X2 m c) (natt t l) := by
  funext k
  show V m c main_arg2 (((cfg0.win 2).blk t).view.emb (ix2 k l)) = _
  refine (congrFun (V_main_arg2 m c) _).trans (congrArg (X2 m c) (ext2 _ _ ?_ ?_))
  · blk_simp [idx2]
  · blk_simp [idx2]
    show (4 + t.val) * 128 + l.val = 512 + (t.val * 128 + l.val)
    omega

/-- The normed input of a step: the first rows of those given. -/
theorem at3 (t : Fin cfg0.N) (k : Fin 4096) (n : Fin 1024) : (X0_3 m c t : S4096x1024.Idx → EReal) (ix2 k n) = X3 m c (ix2 (row k) n) := by
  unfold X0_3
  refine (dif_pos (moved0_3 t (ix2 k n))).trans ?_
  show V m c main_v3 (((cfg0.win 3).blk t).view.emb (fun a => ⟨((ix2 k n : S4096x1024.Idx) a).val, _⟩)) = _
  refine (congrFun (VH m c) _).trans (congrArg (X3 m c) (ext2 _ _ ?_ ?_))
  · blk_simp [idx3]
    try rfl
  · blk_simp [idx3]

/-- The projection's gradient of a step. -/
theorem step4 (t : Fin cfg0.N) (k : Fin 4096) (q : Fin 384) (h : t.val * 384 + q.val < 1536) :
    ((outsAt0 m c t).1 (ix2 k q) : EReal) = G4 (X0 m c) (X1 m c) (X2 m c) (ix2 k ⟨t.val * 384 + q.val, h⟩) := by
  have hq := q.isLt
  have ht : t.val < 4 := t.isLt
  unfold outsAt0
  dsimp only
  refine (out4 c (grid0.coords t) (ms0_0 t) _ (ms0_1 t) _ (ms0_2 t) _ (ms0_3 t) _ (ms0_4 t) _ (ms0_5 t) _ (ms0_6 t) _ (iblk m c 0 t) (iblk m c 1 t) (iblk m c 2 t) (X0_3 m c t) (ix2 k q)).trans ?_
  unfold G4
  simp only [Cert.Attn.ix2_0, Cert.Attn.ix2_1]
  have e0 := at0 m c t 0 (lane q.val)
  have e1 := at0 m c t 1 (lane q.val)
  have e2 := at0 m c t 2 (lane q.val)
  have f := at2 m c t (lane q.val)
  have w0 := at1' m c t 0 (lane q.val)
  have w1 := at1' m c t 1 (lane q.val)
  have w2 := at1' m c t 2 (lane q.val)
  have hp : (t.val * 384 + q.val) / 128 % 3 = q.val / 128 := by omega
  have hn : nat (t.val * 384 + q.val) h = natt t (lane q.val) := Fin.ext (by
    show (t.val * 384 + q.val) / 384 * 128 + (t.val * 384 + q.val) % 128 = t.val * 128 + q.val % 128
    omega)
  rw [hp, hn]
  unfold dzAt
  rw [← e0, ← e1, ← e2, ← f, ← w0, ← w1, ← w2]

/-- The projection's gradient after the run. -/
theorem arr4 : (dats m 0 c).arrAt 4 cfg0.N = G4 (X0 m c) (X1 m c) (X2 m c) := by
  refine (dats m 0 c).arrAt_eq_of_covers 4 _ (by decide +kernel) fun t hf y => ?_
  have hq : (y 1).val < 384 := (y 1).isLt
  have ht : t.val < 4 := t.isLt
  have e : (((cfg0.win 4).blk t).view.emb y : S4096x1536.Idx) = ix2 (y 0) (⟨t.val * 384 + (y 1).val, by omega⟩ : Fin 1536) := by
    refine ext2 _ _ ?_ ?_
    · blk_simp [idx4]
    · blk_simp [idx4]
  refine Eq.trans ?_ (congrArg (G4 (X0 m c) (X1 m c) (X2 m c)) e).symm
  blk_simp
  rw [after0_4]
  refine (congrArg (outsAt0 m c t).1 (ext2 y (ix2 (y 0) (y 1)) rfl rfl)).trans ?_
  exact step4 m c t (y 0) (y 1) _

/-- The taps' gradient of a step. -/
theorem step5 (t : Fin cfg0.N) (k : Fin 3) (l : Fin 128) :
    ((outsAt0 m c t).2.1 (ix2 k l) : EReal) = G5 (X0 m c) (X2 m c) (ix2 k (natt t l)) := by
  unfold outsAt0
  dsimp only
  refine (out5 c (grid0.coords t) (ms0_0 t) _ (ms0_1 t) _ (ms0_2 t) _ (ms0_3 t) _ (ms0_4 t) _ (ms0_5 t) _ (ms0_6 t) _ (iblk m c 0 t) (iblk m c 1 t) (iblk m c 2 t) (X0_3 m c t) (ix2 k l)).trans ?_
  exact congrFun (congr (congr (congr (congrArg (fun e g p x (_ : Unit) => dTap k.val e g p x) (at2 m c t l)) (at0 m c t 0 l)) (at0 m c t 1 l)) (at0 m c t 2 l)) ()

/-- The taps' gradient after the run. -/
theorem arr5 : (dats m 0 c).arrAt 5 cfg0.N = G5 (X0 m c) (X2 m c) := by
  refine (dats m 0 c).arrAt_eq_of_covers 5 _ (by decide +kernel) fun t hf y => ?_
  have e : (((cfg0.win 5).blk t).view.emb y : S3x512.Idx) = ix2 (y 0) (natt t (y 1)) := by
    refine ext2 _ _ ?_ ?_
    · blk_simp [idx5]
    · blk_simp [idx5]
      rfl
  refine Eq.trans ?_ (congrArg (G5 (X0 m c) (X2 m c)) e).symm
  blk_simp
  rw [after0_5]
  refine (congrArg (outsAt0 m c t).2.1 (ext2 y (ix2 (y 0) (y 1)) rfl rfl)).trans ?_
  exact step5 m c t (y 0) (y 1)

/-- The weight's gradient of a step. -/
theorem step6 (t : Fin cfg0.N) (q : Fin 384) (n : Fin 1024) (h : t.val * 384 + q.val < 1536) :
    ((outsAt0 m c t).2.2 (ix2 q n) : EReal) = G6 (X0 m c) (X1 m c) (X2 m c) (X3 m c) (ix2 ⟨t.val * 384 + q.val, h⟩ n) := by
  have s := fun k => step4 m c t k q h
  have r := fun k => at3 m c t k n
  unfold outsAt0 at s ⊢
  dsimp only at s ⊢
  refine (out6 c (grid0.coords t) (ms0_0 t) _ (ms0_1 t) _ (ms0_2 t) _ (ms0_3 t) _ (ms0_4 t) _ (ms0_5 t) _ (ms0_6 t) _ (iblk m c 0 t) (iblk m c 1 t) (iblk m c 2 t) (X0_3 m c t) (ix2 q n)).trans ?_
  unfold G6
  simp only [Cert.Attn.ix2_0, Cert.Attn.ix2_1]
  exact Finset.sum_congr rfl fun k _ => congrArg₂ (fun p q : EReal => p * q) (s k) (r k)

/-- The weight's gradient after the run. -/
theorem arr6 : (dats m 0 c).arrAt 6 cfg0.N = G6 (X0 m c) (X1 m c) (X2 m c) (X3 m c) := by
  refine (dats m 0 c).arrAt_eq_of_covers 6 _ (by decide +kernel) fun t hf y => ?_
  have hq : (y 0).val < 384 := (y 0).isLt
  have ht : t.val < 4 := t.isLt
  have e : (((cfg0.win 6).blk t).view.emb y : S1536x1024.Idx) = ix2 (⟨t.val * 384 + (y 0).val, by omega⟩ : Fin 1536) (y 1) := by
    refine ext2 _ _ ?_ ?_
    · blk_simp [idx6]
    · blk_simp [idx6]
  refine Eq.trans ?_ (congrArg (G6 (X0 m c) (X1 m c) (X2 m c) (X3 m c)) e).symm
  blk_simp
  rw [after0_6]
  refine (congrArg (outsAt0 m c t).2.2 (ext2 y (ix2 (y 0) (y 1)) rfl rfl)).trans ?_
  exact step6 m c t (y 0) (y 1) _

/-! ## The claims -/

/-- The reference runs and leaves its arguments and the counters as they were. -/
theorem reference : Cert.quiescent_Reference8Ideal := fun m g _ =>
  (θ_run (Cert.Reference8Ideal.defs (F := Ideal)) _ _).mono
    (fun r h => ⟨fun c => (h c).2.2.2, sem_eq_zero_of_no_sems (by decide) r.2⟩) (Cert.Reference8Ideal.Value.run (F := Ideal) m g)

/-- The kernel's three results are the reference's. -/
theorem algebraic : Cert.algebraic_Kernel8Ideal_Reference8Ideal := by
  intro m g m' g' _ hagree
  refine ⟨fun c => (dats m 0 c).arrAt 4 cfg0.N, fun c => (dats m 0 c).arrAt 5 cfg0.N, fun c => (dats m 0 c).arrAt 6 cfg0.N,
    Cert.Kernel8Ideal.Value.run_blocks (F := Ideal) m g, ?_⟩
  refine (θ_run (Cert.Reference8Ideal.defs (F := Ideal)) _ _).mono (fun r h c => ?_) (Cert.Reference8Ideal.Value.run (F := Ideal) m' g')
  obtain ⟨e0, e1, e2, e3⟩ := hagree c
  obtain ⟨k0, k1, k2, kept⟩ := h c
  refine ⟨?_, ?_, ?_, kept⟩
  · refine k0.trans ((Cert.Reference8Ideal.Read.val_main_v79_eq (F := Ideal) m' c).trans ?_)
    refine Eq.trans (b := Cert.Reference8Ideal.Read.val_main_v79 (F := Ideal) (X0 m c) (X1 m c) (X2 m c)) (congr (congr (congrArg _ e0) e1) e2) ?_
    exact (ref4 (X0 m c) (X1 m c) (X2 m c)).trans (arr4 m c).symm
  · refine k1.trans ((Cert.Reference8Ideal.Read.val_main_v62_eq (F := Ideal) m' c).trans ?_)
    refine Eq.trans (b := Cert.Reference8Ideal.Read.val_main_v62 (F := Ideal) (X0 m c) (X2 m c)) (congr (congrArg _ e0) e2) ?_
    exact (ref5 (X0 m c) (X2 m c)).trans (arr5 m c).symm
  · refine k2.trans ((Cert.Reference8Ideal.Read.val_main_v78_eq (F := Ideal) m' c).trans ?_)
    refine Eq.trans (b := Cert.Reference8Ideal.Read.val_main_v78 (F := Ideal) (X0 m c) (X1 m c) (X2 m c) (X3 m c)) (congr (congr (congr (congrArg _ e0) e1) e2) e3) ?_
    exact (ref6 (X0 m c) (X1 m c) (X2 m c) (X3 m c)).trans (arr6 m c).symm

end Cert.Conv8
end
-- ==== Proof.Opt9.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Ref
public import Idealize.ShloMosaic.Lib.StableHlo.RunRead
public import Idealize.ShloMosaic.Lib.Tactic
public import Idealize.ShloMosaic.Lib.WritesUnit
public import Idealize.ShloMosaic.Lib.Pipeline.ReadBack
import Idealize.ShloMosaic.Lib.Pipeline.ValueKit

@[expose] public section

set_option maxRecDepth 16384

noncomputable section

namespace Cert.Opt9

open Idealize.ShloMosaic hiding ix2 ix3 ix4
open Idealize.ShloMosaic.TcCoe Idealize.SL.Sem Idealize.ShloMosaic.ValueIdx
open Cert.Kernel9Ideal Cert.Kernel9Ideal.Gen
open Cert.Attn (ext2 ext3)

/-! ## The update of one entry -/

/-- The running mean of the gradients, from a gradient and the mean before. -/
def mean (g u : Ideal .f32) : Ideal .f32 :=
  FloatOps.addf (FloatOps.mulf (Scalar.ofBits .f32 0x3F666666#32) u) (FloatOps.mulf (Scalar.ofBits .f32 0x3DCCCCCD#32) g)

/-- The running mean of their squares. -/
def square (g u : Ideal .f32) : Ideal .f32 :=
  FloatOps.addf (FloatOps.mulf (Scalar.ofBits .f32 0x3F7FBE77#32) u) (FloatOps.mulf (Scalar.ofBits .f32 0x3A83126F#32) (FloatOps.mulf g g))

/-- The change of the weight, from the weight, the gradient and the two means before. -/
def change (w g u v : Ideal .f32) : Ideal .f32 :=
  FloatOps.mulf (Scalar.ofBits .f32 0xBA83126F#32)
    (FloatOps.addf
      (FloatOps.divf (FloatOps.divf (mean g u) (Scalar.ofBits .f32 0x3F26BD02#32))
        (FloatOps.addf (FloatOps.sqrt (FloatOps.divf (square g v) (Scalar.ofBits .f32 0x3C231ACC#32))) (Scalar.ofBits .f32 0x322BCC77#32)))
      (FloatOps.mulf (Scalar.ofBits .f32 0x3C23D70A#32) w))

/-! ## One block -/

/-- A block without its leading axis. -/
theorem drop {e : EltTy} (v : Vec Ideal S1x256x1024 e) (r : Fin 256) (l : Fin 1024) :
    shapeCast S256x1024 v shapeCasts_S1x256x1024_S256x1024 (ix2 r l) = v (ix3 0 r l) := by
  refine shapeCast_apply _ _ _ (ix3 0 r l) ?_
  rewrite [Shape.rowMajor_val_two, Shape.rowMajor_val_three]
  show (0 * 256 + r.val) * 1024 + l.val = r.val * 1024 + l.val
  omega

/-- A block with a leading axis put in front. -/
theorem front {e : EltTy} (v : Vec Ideal S256x1024 e) (y : S1x256x1024.Idx) :
    shapeCast S1x256x1024 v shapeCasts_S256x1024_S1x256x1024 y = v (ix2 (y 1) (y 2)) := by
  refine shapeCast_apply _ _ _ (ix2 (y 1) (y 2)) ?_
  rewrite [Shape.rowMajor_val_two, Shape.rowMajor_val_three]
  have h0 : (y 0).val < 1 := (y 0).isLt
  show (y 1).val * 1024 + (y 2).val = ((y 0).val * 256 + (y 1).val) * 1024 + (y 2).val
  omega

/-- One device's slot of the gradients. -/
theorem slot (x1 : Vec Ideal S8x256x1024 .bf16) (k : Fin 8) (inb : ∀ a, (![k.val, 0, 0] : Fin 3 → Nat) a + S1x256x1024.size a ≤ S8x256x1024.size a)
    (r : Fin 256) (l : Fin 1024) :
    shapeCast S256x1024 (View.ld x1 (Rect.unit (s := S8x256x1024) ![k.val, 0, 0] S1x256x1024.size inb)) shapeCasts_S1x256x1024_S256x1024 (ix2 r l)
      = x1 (ix3 k r l) := by
  refine (drop (e := .bf16) _ r l).trans (congrArg x1 (ext3 _ _ ?_ ?_ ?_))
  · show k.val + 1 * 0 = k.val
    omega
  · show 0 + 1 * r.val = r.val
    omega
  · show 0 + 1 * l.val = l.val
    omega

variable (x0 : Vec Ideal S1x256x1024 .f32) (x1 : Vec Ideal S8x256x1024 .bf16) (x2 x3 : Vec Ideal S1x256x1024 .f32)

/-- The gradient: the eight slots added. -/
theorem grad (r : Fin 256) (l : Fin 1024) : k0_pay8 (F := Ideal) x0 x1 x2 x3 (ix2 r l) = ∑ k : Fin 8, x1 (ix3 k r l) := by
  rw [Fin.sum_univ_eight]
  unfold k0_pay8 k0_pay3
  refine congrArg₂ (fun p q : EReal => p + q) ?_ (slot x1 7 _ r l)
  refine congrArg₂ (fun p q : EReal => p + q) ?_ (slot x1 6 _ r l)
  refine congrArg₂ (fun p q : EReal => p + q) ?_ (slot x1 5 _ r l)
  refine congrArg₂ (fun p q : EReal => p + q) ?_ (slot x1 4 _ r l)
  refine congrArg₂ (fun p q : EReal => p + q) ?_ (slot x1 3 _ r l)
  refine congrArg₂ (fun p q : EReal => p + q) ?_ (slot x1 2 _ r l)
  exact congrArg₂ (fun p q : EReal => p + q) (slot x1 0 _ r l) (slot x1 1 _ r l)

/-- The mean's payload. -/
theorem pay5 (g : FVec Ideal S256x1024 .f32) (v : Vec Ideal S1x256x1024 .f32) (r : Fin 256) (l : Fin 1024) :
    k0_pay5 (F := Ideal) g v (ix2 r l) = mean (g (ix2 r l)) (v (ix3 0 r l)) := by
  unfold k0_pay5
  exact congrArg (fun p => mean (g (ix2 r l)) p) (drop v r l)

/-- The squares' payload. -/
theorem pay6 (g : FVec Ideal S256x1024 .f32) (v : Vec Ideal S1x256x1024 .f32) (r : Fin 256) (l : Fin 1024) :
    k0_pay6 (F := Ideal) g v (ix2 r l) = square (g (ix2 r l)) (v (ix3 0 r l)) := by
  unfold k0_pay6
  exact congrArg (fun p => square (g (ix2 r l)) p) (drop v r l)

/-- The change's payload. -/
theorem pay7 (g : FVec Ideal S256x1024 .f32) (w u v : Vec Ideal S1x256x1024 .f32) (y : S1x256x1024.Idx) :
    k0_pay7 (F := Ideal) g w u v y
      = change (w (ix3 0 (y 1) (y 2))) (g (ix2 (y 1) (y 2))) (u (ix3 0 (y 1) (y 2))) (v (ix3 0 (y 1) (y 2))) := by
  unfold k0_pay7
  refine (front (e := .f32) _ y).trans ?_
  have hw := drop w (y 1) (y 2)
  have hu := pay5 g u (y 1) (y 2)
  have hv := pay6 g v (y 1) (y 2)
  unfold change
  rw [← hw, ← hu, ← hv]
  rfl

/-- What one step leaves of the gradient. -/
theorem out4 (y : S1x256x1024.Idx) : out0_4 (F := Ideal) x0 x1 x2 x3 y = ∑ k : Fin 8, x1 (ix3 k (y 1) (y 2)) := by
  unfold out0_4
  simp (disch := decide) only [View.canon_cons_unit_lit]
  exact (front (e := .f32) _ y).trans (grad x0 x1 x2 x3 (y 1) (y 2))

/-- What one step leaves of the change. -/
theorem out5 (y : S1x256x1024.Idx) : out0_5 (F := Ideal) x0 x1 x2 x3 y
    = change (x0 (ix3 0 (y 1) (y 2))) (∑ k : Fin 8, x1 (ix3 k (y 1) (y 2))) (x2 (ix3 0 (y 1) (y 2))) (x3 (ix3 0 (y 1) (y 2))) := by
  unfold out0_5
  simp (disch := decide) only [View.canon_cons_unit_lit, View.ld_unit_lit]
  rw [← grad x0 x1 x2 x3 (y 1) (y 2)]
  exact pay7 _ _ _ _ y

/-- What one step leaves of the mean. -/
theorem out6 (y : S1x256x1024.Idx) : out0_6 (F := Ideal) x0 x1 x2 x3 y
    = mean (∑ k : Fin 8, x1 (ix3 k (y 1) (y 2))) (x2 (ix3 0 (y 1) (y 2))) := by
  unfold out0_6
  simp (disch := decide) only [View.canon_cons_unit_lit, View.ld_unit_lit]
  rw [← grad x0 x1 x2 x3 (y 1) (y 2)]
  exact (front (e := .f32) _ y).trans (pay5 _ _ (y 1) (y 2))

/-- What one step leaves of the squares' mean. -/
theorem out7 (y : S1x256x1024.Idx) : out0_7 (F := Ideal) x0 x1 x2 x3 y
    = square (∑ k : Fin 8, x1 (ix3 k (y 1) (y 2))) (x3 (ix3 0 (y 1) (y 2))) := by
  unfold out0_7
  simp (disch := decide) only [View.canon_cons_unit_lit, View.ld_unit_lit]
  rw [← grad x0 x1 x2 x3 (y 1) (y 2)]
  exact (front (e := .f32) _ y).trans (pay6 _ _ (y 1) (y 2))

/-! ## The whole arrays -/

/-- Block index: the weight. -/
theorem idx0 : ∀ t : Fin cfg0.N, win0_0.index t = ![0, t.val, 0] := by decide +kernel
/-- Block index: the gradients. -/
theorem idx1 : ∀ t : Fin cfg0.N, win0_1.index t = ![0, t.val, 0] := by decide +kernel
/-- Block index: the mean before. -/
theorem idx2 : ∀ t : Fin cfg0.N, win0_2.index t = ![0, t.val, 0] := by decide +kernel
/-- Block index: the squares' mean before. -/
theorem idx3 : ∀ t : Fin cfg0.N, win0_3.index t = ![0, t.val, 0] := by decide +kernel
/-- Block index: the gradient's result. -/
theorem idx4 : ∀ t : Fin cfg0.N, win0_4.index t = ![0, t.val, 0] := by decide +kernel
/-- Block index: the change. -/
theorem idx5 : ∀ t : Fin cfg0.N, win0_5.index t = ![0, t.val, 0] := by decide +kernel
/-- Block index: the mean. -/
theorem idx6 : ∀ t : Fin cfg0.N, win0_6.index t = ![0, t.val, 0] := by decide +kernel
/-- Block index: the squares' mean. -/
theorem idx7 : ∀ t : Fin cfg0.N, win0_7.index t = ![0, t.val, 0] := by decide +kernel

variable (m : (ℓ : Loc nD τ sig) → Buf (Elt Ideal) ℓ) (c : Dev nD)

/-- The kernel's weight. -/
abbrev W : S1x512x1024.Idx → EReal := V m c main_arg0
/-- The kernel's gradients, one slot for each device. -/
abbrev S : S8x512x1024.Idx → EReal := V m c main_v0
/-- The kernel's mean before. -/
abbrev M : S1x512x1024.Idx → EReal := V m c main_arg2
/-- The kernel's squares' mean before. -/
abbrev Q : S1x512x1024.Idx → EReal := V m c main_arg3

/-- A block's row among all. -/
def row (t : Fin cfg0.N) (r : Fin 256) : Fin 512 := ⟨t.val * 256 + r.val, by have h1 := r.isLt; have h2 : t.val < 2 := t.isLt; omega⟩

/-- The weight, one block. -/
theorem at0 (t : Fin cfg0.N) (r : Fin 256) (l : Fin 1024) :
    (iblk m c 0 t : S1x256x1024.Idx → EReal) (ix3 0 r l) = W m c (ix3 0 (row t r) l) := by
  show W m c (((cfg0.win 0).blk t).view.emb (ix3 0 r l)) = _
  refine congrArg _ (ext3 _ _ ?_ ?_ ?_) <;> blk_simp [idx0] <;> rfl

/-- The mean before, one block. -/
theorem at2 (t : Fin cfg0.N) (r : Fin 256) (l : Fin 1024) :
    (iblk m c 2 t : S1x256x1024.Idx → EReal) (ix3 0 r l) = M m c (ix3 0 (row t r) l) := by
  show M m c (((cfg0.win 2).blk t).view.emb (ix3 0 r l)) = _
  refine congrArg _ (ext3 _ _ ?_ ?_ ?_) <;> blk_simp [idx2] <;> rfl

/-- The squares' mean before, one block. -/
theorem at3 (t : Fin cfg0.N) (r : Fin 256) (l : Fin 1024) :
    (iblk m c 3 t : S1x256x1024.Idx → EReal) (ix3 0 r l) = Q m c (ix3 0 (row t r) l) := by
  show Q m c (((cfg0.win 3).blk t).view.emb (ix3 0 r l)) = _
  refine congrArg _ (ext3 _ _ ?_ ?_ ?_) <;> blk_simp [idx3] <;> rfl

/-- The gradients, one block. -/
theorem at1 (t : Fin cfg0.N) (k : Fin 8) (r : Fin 256) (l : Fin 1024) :
    (iblk m c 1 t : S8x256x1024.Idx → EReal) (ix3 k r l) = S m c (ix3 k (row t r) l) := by
  show S m c (((cfg0.win 1).blk t).view.emb (ix3 k r l)) = _
  refine congrArg _ (ext3 _ _ ?_ ?_ ?_) <;> blk_simp [idx1] <;> rfl

/-- The gradient's array, from the slots. -/
def G (s : S8x512x1024.Idx → EReal) : S1x512x1024.Idx → EReal := fun y => ∑ k : Fin 8, s (ix3 k (y 1) (y 2))
/-- The change's array. -/
def GC (w : S1x512x1024.Idx → EReal) (s : S8x512x1024.Idx → EReal) (u v : S1x512x1024.Idx → EReal) : S1x512x1024.Idx → EReal :=
  fun y => change (w (ix3 0 (y 1) (y 2))) (G s y) (u (ix3 0 (y 1) (y 2))) (v (ix3 0 (y 1) (y 2)))
/-- The mean's array. -/
def GM (s : S8x512x1024.Idx → EReal) (u : S1x512x1024.Idx → EReal) : S1x512x1024.Idx → EReal :=
  fun y => mean (G s y) (u (ix3 0 (y 1) (y 2)))
/-- The squares' array. -/
def GQ (s : S8x512x1024.Idx → EReal) (v : S1x512x1024.Idx → EReal) : S1x512x1024.Idx → EReal :=
  fun y => square (G s y) (v (ix3 0 (y 1) (y 2)))

/-- A block's entry among all of result 0. -/
theorem emb4 (t : Fin cfg0.N) (y : S1x256x1024.Idx) :
    (((cfg0.win 4).blk t).view.emb y : S1x512x1024.Idx) = ix3 0 (row t (y 1)) (y 2) := by
  refine ext3 _ _ ?_ ?_ ?_
  · blk_simp [idx4]
  · blk_simp [idx4]
    rfl
  · blk_simp [idx4]

/-- Result 0 after the run. -/
theorem arr4 : (dats m 0 c).arrAt 4 cfg0.N = G (S m c) := by
  refine (dats m 0 c).arrAt_eq_of_covers 4 _ (by decide +kernel) fun t hf y => ?_
  refine Eq.trans ?_ (congrArg (G (S m c)) (emb4 t y)).symm
  blk_simp
  rw [after0_4]
  refine (out4 _ _ _ _ y).trans ?_
  exact Finset.sum_congr rfl fun k _ => at1 m c t k (y 1) (y 2)

/-- A block's entry among all of result 1. -/
theorem emb5 (t : Fin cfg0.N) (y : S1x256x1024.Idx) :
    (((cfg0.win 5).blk t).view.emb y : S1x512x1024.Idx) = ix3 0 (row t (y 1)) (y 2) := by
  refine ext3 _ _ ?_ ?_ ?_
  · blk_simp [idx5]
  · blk_simp [idx5]
    rfl
  · blk_simp [idx5]

/-- Result 1 after the run. -/
theorem arr5 : (dats m 0 c).arrAt 5 cfg0.N = GC (W m c) (S m c) (M m c) (Q m c) := by
  refine (dats m 0 c).arrAt_eq_of_covers 5 _ (by decide +kernel) fun t hf y => ?_
  refine Eq.trans ?_ (congrArg (GC (W m c) (S m c) (M m c) (Q m c)) (emb5 t y)).symm
  blk_simp
  rw [after0_5]
  refine (out5 _ _ _ _ y).trans ?_
  exact congr (congr (congr (congrArg change (at0 m c t (y 1) (y 2))) (Finset.sum_congr rfl fun k _ => at1 m c t k (y 1) (y 2))) (at2 m c t (y 1) (y 2))) (at3 m c t (y 1) (y 2))

/-- A block's entry among all of result 2. -/
theorem emb6 (t : Fin cfg0.N) (y : S1x256x1024.Idx) :
    (((cfg0.win 6).blk t).view.emb y : S1x512x1024.Idx) = ix3 0 (row t (y 1)) (y 2) := by
  refine ext3 _ _ ?_ ?_ ?_
  · blk_simp [idx6]
  · blk_simp [idx6]
    rfl
  · blk_simp [idx6]

/-- Result 2 after the run. -/
theorem arr6 : (dats m 0 c).arrAt 6 cfg0.N = GM (S m c) (M m c) := by
  refine (dats m 0 c).arrAt_eq_of_covers 6 _ (by decide +kernel) fun t hf y => ?_
  refine Eq.trans ?_ (congrArg (GM (S m c) (M m c)) (emb6 t y)).symm
  blk_simp
  rw [after0_6]
  refine (out6 _ _ _ _ y).trans ?_
  exact congrArg₂ mean (Finset.sum_congr rfl fun k _ => at1 m c t k (y 1) (y 2)) (at2 m c t (y 1) (y 2))

/-- A block's entry among all of result 3. -/
theorem emb7 (t : Fin cfg0.N) (y : S1x256x1024.Idx) :
    (((cfg0.win 7).blk t).view.emb y : S1x512x1024.Idx) = ix3 0 (row t (y 1)) (y 2) := by
  refine ext3 _ _ ?_ ?_ ?_
  · blk_simp [idx7]
  · blk_simp [idx7]
    rfl
  · blk_simp [idx7]

/-- Result 3 after the run. -/
theorem arr7 : (dats m 0 c).arrAt 7 cfg0.N = GQ (S m c) (Q m c) := by
  refine (dats m 0 c).arrAt_eq_of_covers 7 _ (by decide +kernel) fun t hf y => ?_
  refine Eq.trans ?_ (congrArg (GQ (S m c) (Q m c)) (emb7 t y)).symm
  blk_simp
  rw [after0_7]
  refine (out7 _ _ _ _ y).trans ?_
  exact congrArg₂ square (Finset.sum_congr rfl fun k _ => at1 m c t k (y 1) (y 2)) (at3 m c t (y 1) (y 2))

/-! ## The operands and the reference -/

/-- The weight. -/
abbrev X0 : (⟨S1x512x1024, .f32⟩ : BufTy).Contents (Elt Ideal) := m (c.tc.loc main_arg0)
/-- The devices' gradients. -/
abbrev X1 : (⟨S8x512x1024, .f32⟩ : BufTy).Contents (Elt Ideal) := m (c.tc.loc main_arg1)
/-- The mean before. -/
abbrev X2 : (⟨S1x512x1024, .f32⟩ : BufTy).Contents (Elt Ideal) := m (c.tc.loc main_arg2)
/-- The squares' mean before. -/
abbrev X3 : (⟨S1x512x1024, .f32⟩ : BufTy).Contents (Elt Ideal) := m (c.tc.loc main_arg3)

/-- The kernel's gradients are the argument. -/
theorem VS : S m c = X1 m c := by
  unfold_abbrev_sides
  after_reads_simp [StableHlo.readPieces, StableHlo.unaryIndexed_result', StableHlo.binaryIndexed_result']
  try simp only [StableHlo.TRef.toBuf, StableHlo.TRef.ofBuf, cast_cast, cast_eq]
  rfl

open Cert.Reference9Ideal.Read in
/-- The reference's gradient. -/
theorem ref1 (x1 : (⟨S8x512x1024, .f32⟩ : BufTy).Contents (Elt Ideal)) : (val_main_v1 (F := Ideal) x1 : S1x512x1024.Idx → EReal) = G x1 := by
  funext y
  refine (val_main_v1_apply (F := Ideal) x1 y).trans ((val_main_v0_apply x1 _).trans ?_)
  refine (congrArg₂ (fun p q : EReal => p + q) Ideal.ofBits_zero_f32 ?_).trans (zero_add _)
  exact Finset.sum_congr rfl fun k _ => congrArg x1 (ext3 _ _ rfl rfl rfl)

/-- An entry of an array of one slice. -/
theorem one (y : S1x512x1024.Idx) : y = ix3 0 (y 1) (y 2) :=
  ext3 _ _ (by have h : (y 0).val < 1 := (y 0).isLt; show (y 0).val = 0; omega) rfl rfl

open Cert.Reference9Ideal.Read in
/-- The reference's mean. -/
theorem ref6 (x1 : (⟨S8x512x1024, .f32⟩ : BufTy).Contents (Elt Ideal)) (x2 : (⟨S1x512x1024, .f32⟩ : BufTy).Contents (Elt Ideal)) :
    (val_main_v6 (F := Ideal) x1 x2 : S1x512x1024.Idx → EReal) = GM x1 x2 := by
  funext y
  refine Eq.trans (b := mean (val_main_v1 (F := Ideal) x1 y) (x2 y)) rfl ?_
  exact congrArg₂ mean (congrFun (ref1 x1) y) (congrArg x2 (one y))

open Cert.Reference9Ideal.Read in
/-- The reference's squares' mean. -/
theorem ref12 (x1 : (⟨S8x512x1024, .f32⟩ : BufTy).Contents (Elt Ideal)) (x3 : (⟨S1x512x1024, .f32⟩ : BufTy).Contents (Elt Ideal)) :
    (val_main_v12 (F := Ideal) x1 x3 : S1x512x1024.Idx → EReal) = GQ x1 x3 := by
  funext y
  refine Eq.trans (b := square (val_main_v1 (F := Ideal) x1 y) (x3 y)) rfl ?_
  exact congrArg₂ square (congrFun (ref1 x1) y) (congrArg x3 (one y))

open Cert.Reference9Ideal.Read in
/-- The reference's change. -/
theorem ref25 (x0 : (⟨S1x512x1024, .f32⟩ : BufTy).Contents (Elt Ideal)) (x1 : (⟨S8x512x1024, .f32⟩ : BufTy).Contents (Elt Ideal)) (x2 x3 : (⟨S1x512x1024, .f32⟩ : BufTy).Contents (Elt Ideal)) :
    (val_main_v25 (F := Ideal) x0 x1 x2 x3 : S1x512x1024.Idx → EReal) = GC x0 x1 x2 x3 := by
  funext y
  refine Eq.trans (b := change (x0 y) (val_main_v1 (F := Ideal) x1 y) (x2 y) (x3 y)) rfl ?_
  exact congr (congr (congr (congrArg change (congrArg x0 (one y))) (congrFun (ref1 x1) y)) (congrArg x2 (one y))) (congrArg x3 (one y))

/-! ## The claims -/

/-- The reference runs and leaves its arguments and the counters as they were. -/
theorem reference : Cert.quiescent_Reference9Ideal := fun m g _ =>
  (θ_run (Cert.Reference9Ideal.defs (F := Ideal)) _ _).mono
    (fun r h => ⟨fun c => (h c).2.2.2.2, sem_eq_zero_of_no_sems (by decide) r.2⟩) (Cert.Reference9Ideal.Value.run (F := Ideal) m g)

/-- The kernel's four results are the reference's. -/
theorem algebraic : Cert.algebraic_Kernel9Ideal_Reference9Ideal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel9Ideal.Value.run_blocks (F := Ideal) m g, ?_⟩
  refine (θ_run (Cert.Reference9Ideal.defs (F := Ideal)) _ _).mono (fun r h c => ?_) (Cert.Reference9Ideal.Value.run (F := Ideal) m' g')
  obtain ⟨e0, e1, e2, e3⟩ := hagree c
  obtain ⟨k0, k1, k2, k3, kept⟩ := h c
  have w0 : W m c = X0 m c := V_main_arg0 m c
  have w2 : M m c = X2 m c := V_main_arg2 m c
  have w3 : Q m c = X3 m c := V_main_arg3 m c
  refine ⟨?_, ?_, ?_, ?_, kept⟩
  · refine k0.trans ((Cert.Reference9Ideal.Read.val_main_v1_eq (F := Ideal) (m' (c.tc.loc Cert.Reference9Ideal.main_arg1))).trans ?_)
    refine Eq.trans (b := Cert.Reference9Ideal.Read.val_main_v1 (F := Ideal) (X1 m c)) (congrArg _ e1) ?_
    refine (ref1 (X1 m c)).trans ?_
    exact ((arr4 m c).trans (congrArg G (VS m c))).symm
  · refine k1.trans ((Cert.Reference9Ideal.Read.val_main_v25_eq (F := Ideal) (m' (c.tc.loc Cert.Reference9Ideal.main_arg0)) (m' (c.tc.loc Cert.Reference9Ideal.main_arg1))
      (m' (c.tc.loc Cert.Reference9Ideal.main_arg2)) (m' (c.tc.loc Cert.Reference9Ideal.main_arg3))).trans ?_)
    refine Eq.trans (b := Cert.Reference9Ideal.Read.val_main_v25 (F := Ideal) (X0 m c) (X1 m c) (X2 m c) (X3 m c)) (congr (congr (congr (congrArg _ e0) e1) e2) e3) ?_
    refine (ref25 (X0 m c) (X1 m c) (X2 m c) (X3 m c)).trans ?_
    exact ((arr5 m c).trans (congr (congr (congr (congrArg GC w0) (VS m c)) w2) w3)).symm
  · refine k2.trans ((Cert.Reference9Ideal.Read.val_main_v6_eq (F := Ideal) (m' (c.tc.loc Cert.Reference9Ideal.main_arg1)) (m' (c.tc.loc Cert.Reference9Ideal.main_arg2))).trans ?_)
    refine Eq.trans (b := Cert.Reference9Ideal.Read.val_main_v6 (F := Ideal) (X1 m c) (X2 m c)) (congr (congrArg _ e1) e2) ?_
    refine (ref6 (X1 m c) (X2 m c)).trans ?_
    exact ((arr6 m c).trans (congrArg₂ GM (VS m c) w2)).symm
  · refine k3.trans ((Cert.Reference9Ideal.Read.val_main_v12_eq (F := Ideal) (m' (c.tc.loc Cert.Reference9Ideal.main_arg1)) (m' (c.tc.loc Cert.Reference9Ideal.main_arg3))).trans ?_)
    refine Eq.trans (b := Cert.Reference9Ideal.Read.val_main_v12 (F := Ideal) (X1 m c) (X3 m c)) (congr (congrArg _ e1) e3) ?_
    refine (ref12 (X1 m c) (X3 m c)).trans ?_
    exact ((arr7 m c).trans (congrArg₂ GQ (VS m c) w3)).symm

end Cert.Opt9
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Claims
public import proofs.«01_k».proof.Proof.Mlp2
public import proofs.«01_k».proof.Proof.Mlp3
public import proofs.«01_k».proof.Proof.Mlp4
public import proofs.«01_k».proof.Proof.Mlp5
public import proofs.«01_k».proof.Proof.Proj6
public import proofs.«01_k».proof.Proof.Proj7
public import proofs.«01_k».proof.Proof.Conv8
public import proofs.«01_k».proof.Proof.Opt9
public import Idealize.ShloMosaic.Adequacy
public import Idealize.ShloMosaic.Init

@[expose] public section

noncomputable section

namespace Cert.Proof

open Idealize.ShloMosaic Idealize.SL.Sem Cert.Kernel

/-- All kernel programs run and leave their arguments and the counters as they were, the references too, and the kernels'
    results are the references'. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Pre_finite.Gen.facts,
  fun m g _ => Cert.Kernel.Gen.frame m g,
  fun m g _ => Cert.KernelIdeal.Gen.frame m g,
  fun m g _ => Cert.KernelIdeal.Gen.frame m g,
  Cert.Attn.Claims.reference,
  fun m g _ => Cert.Attn.Claims.reference m g trivial,
  fun m g _ => Cert.Kernel2.Gen.frame m g,
  fun m g _ => Cert.Kernel2Ideal.Gen.frame m g,
  Cert.Mlp2.reference,
  fun m g _ => Cert.Kernel3.Gen.frame m g,
  fun m g _ => Cert.Kernel3Ideal.Gen.frame m g,
  Cert.Mlp3.reference,
  fun m g _ => Cert.Kernel4.Gen.frame m g,
  fun m g _ => Cert.Kernel4Ideal.Gen.frame m g,
  Cert.Mlp4.reference,
  fun m g _ => Cert.Kernel5.Gen.frame m g,
  fun m g _ => Cert.Kernel5Ideal.Gen.frame m g,
  Cert.Mlp5.reference,
  fun m g _ => Cert.Kernel6.Gen.frame m g,
  fun m g _ => Cert.Kernel6Ideal.Gen.frame m g,
  Cert.Proj6.reference,
  fun m g _ => Cert.Kernel7.Gen.frame m g,
  fun m g _ => Cert.Kernel7Ideal.Gen.frame m g,
  Cert.Proj7.reference,
  fun m g _ => Cert.Kernel8.Gen.frame m g,
  fun m g _ => Cert.Kernel8Ideal.Gen.frame m g,
  Cert.Conv8.reference,
  fun m g _ => Cert.Kernel9.Gen.frame m g,
  fun m g _ => Cert.Kernel9Ideal.Gen.frame m g,
  Cert.Opt9.reference,
  Cert.Attn.Claims.preserves,
  Cert.Attn.Claims.algebraic,
  trivial,
  Cert.Mlp2.algebraic,
  trivial,
  Cert.Mlp3.algebraic,
  trivial,
  Cert.Mlp4.algebraic,
  trivial,
  Cert.Mlp5.algebraic,
  trivial,
  Cert.Proj6.algebraic,
  trivial,
  Cert.Proj7.algebraic,
  trivial,
  Cert.Conv8.algebraic,
  trivial,
  Cert.Opt9.algebraic⟩

end Cert.Proof

end
